-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tree [hPre_tree : Cert.Pre_tree.Facts] (m : (ℓ : Loc Cert.KernelIdeal.nD Cert.KernelIdeal.τ Cert.KernelIdeal.sig) → Buf (Elt Ideal) ℓ) : Prop :=
  ∀ c : Dev Cert.KernelIdeal.nD,
    (Cert.Pre_tree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tree [hPre_tree : Cert.Pre_tree.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tree [hKernelIdeal : Cert.KernelIdeal.Facts] [hPre_tree : Cert.Pre_tree.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tree m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tree [hReferenceIdeal : Cert.ReferenceIdeal.Facts] [hPre_tree : Cert.Pre_tree.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tree m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_tree [hKernelIdeal : Cert.KernelIdeal.Facts] [hReferenceIdeal : Cert.ReferenceIdeal.Facts] [hPre_tree : Cert.Pre_tree.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tree m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tree : Cert.Pre_tree.Facts),
    quiescent_Kernel (hKernel := hKernel)
    ∧ quiescent_KernelIdeal (hKernelIdeal := hKernelIdeal)
    ∧ quiescent_KernelIdeal_pre_tree (hKernelIdeal := hKernelIdeal) (hPre_tree := hPre_tree)
    ∧ quiescent_ReferenceIdeal (hReferenceIdeal := hReferenceIdeal)
    ∧ quiescent_ReferenceIdeal_pre_tree (hReferenceIdeal := hReferenceIdeal) (hPre_tree := hPre_tree)
    ∧ preserves_Kernel_KernelIdeal
    ∧ algebraic_KernelIdeal_ReferenceIdeal_pre_tree (hKernelIdeal := hKernelIdeal) (hReferenceIdeal := hReferenceIdeal) (hPre_tree := hPre_tree)
-- ==== Pre_tree.lean ====
abbrev S2048x10958 : Shape := ⟨2, ![2048, 10958]⟩
abbrev S10958 : Shape := ⟨1, ![10958]⟩
abbrev S_ : Shape := ⟨0, ![]⟩

class Facts : Prop where
  reducesTo_S10958_S_d0 : S10958.ReducesTo [0] S_
  h_S_ : 0 < S_.numel
  bcast_S_S10958 : S_.BroadcastsInDim S10958 (![] : Fin 0 → Fin S10958.rank)

variable [Facts]

noncomputable abbrev lit0t0_0 (i : Nat) : BitVec 32 := match i % 128 with
  | 0 => 0#32
  | 1 => 1#32
  | 2 => 20#32
  | 3 => 21#32
  | 4 => 22#32
  | 5 => 40#32
  | 6 => 41#32
  | 7 => 42#32
  | 8 => 43#32
  | 9 => 60#32
  | 10 => 61#32
  | 11 => 62#32
  | 12 => 63#32
  | 13 => 64#32
  | 14 => 80#32
  | 15 => 81#32
  | 16 => 82#32
  | 17 => 83#32
  | 18 => 84#32
  | 19 => 85#32
  | 20 => 100#32
  | 21 => 101#32
  | 22 => 102#32
  | 23 => 103#32
  | 24 => 104#32
  | 25 => 105#32
  | 26 => 106#32
  | 27 => 120#32
  | 28 => 121#32
  | 29 => 122#32
  | 30 => 123#32
  | 31 => 124#32
  | 32 => 125#32
  | 33 => 126#32
  | 34 => 127#32
  | 35 => 140#32
  | 36 => 141#32
  | 37 => 142#32
  | 38 => 143#32
  | 39 => 144#32
  | 40 => 145#32
  | 41 => 146#32
  | 42 => 147#32
  | 43 => 148#32
  | 44 => 160#32
  | 45 => 161#32
  | 46 => 162#32
  | 47 => 163#32
  | 48 => 164#32
  | 49 => 165#32
  | 50 => 166#32
  | 51 => 167#32
  | 52 => 168#32
  | 53 => 169#32
  | 54 => 180#32
  | 55 => 181#32
  | 56 => 182#32
  | 57 => 183#32
  | 58 => 184#32
  | 59 => 185#32
  | 60 => 186#32
  | 61 => 187#32
  | 62 => 188#32
  | 63 => 189#32
  | 64 => 190#32
  | 65 => 200#32
  | 66 => 201#32
  | 67 => 202#32
  | 68 => 203#32
  | 69 => 204#32
  | 70 => 205#32
  | 71 => 206#32
  | 72 => 207#32
  | 73 => 208#32
  | 74 => 209#32
  | 75 => 210#32
  | 76 => 211#32
  | 77 => 220#32
  | 78 => 221#32
  | 79 => 222#32
  | 80 => 223#32
  | 81 => 224#32
  | 82 => 225#32
  | 83 => 226#32
  | 84 => 227#32
  | 85 => 228#32
  | 86 => 229#32
  | 87 => 230#32
  | 88 => 231#32
  | 89 => 232#32
  | 90 => 240#32
  | 91 => 241#32
  | 92 => 242#32
  | 93 => 243#32
  | 94 => 244#32
  | 95 => 245#32
  | 96 => 246#32
  | 97 => 247#32
  | 98 => 248#32
  | 99 => 249#32
  | 100 => 250#32
  | 101 => 251#32
  | 102 => 252#32
  | 103 => 253#32
  | 104 => 260#32
  | 105 => 261#32
  | 106 => 262#32
  | 107 => 263#32
  | 108 => 264#32
  | 109 => 265#32
  | 110 => 266#32
  | 111 => 267#32
  | 112 => 268#32
  | 113 => 269#32
  | 114 => 270#32
  | 115 => 271#32
  | 116 => 272#32
  | 117 => 273#32
  | 118 => 274#32
  | 119 => 280#32
  | 120 => 281#32
  | 121 => 282#32
  | 122 => 283#32
  | 123 => 284#32
  | 124 => 285#32
  | 125 => 286#32
  | 126 => 287#32
  | 127 => 288#32
  | _ => 0#32

noncomputable abbrev lit0t0_1 (i : Nat) : BitVec 32 := match i % 128 with
  | 0 => 289#32
  | 1 => 290#32
  | 2 => 291#32
  | 3 => 292#32
  | 4 => 293#32
  | 5 => 294#32
  | 6 => 295#32
  | 7 => 300#32
  | 8 => 301#32
  | 9 => 302#32
  | 10 => 303#32
  | 11 => 304#32
  | 12 => 305#32
  | 13 => 306#32
  | 14 => 307#32
  | 15 => 308#32
  | 16 => 309#32
  | 17 => 310#32
  | 18 => 311#32
  | 19 => 312#32
  | 20 => 313#32
  | 21 => 314#32
  | 22 => 315#32
  | 23 => 316#32
  | 24 => 320#32
  | 25 => 321#32
  | 26 => 322#32
  | 27 => 323#32
  | 28 => 324#32
  | 29 => 325#32
  | 30 => 326#32
  | 31 => 327#32
  | 32 => 328#32
  | 33 => 329#32
  | 34 => 330#32
  | 35 => 331#32
  | 36 => 332#32
  | 37 => 333#32
  | 38 => 334#32
  | 39 => 335#32
  | 40 => 336#32
  | 41 => 337#32
  | 42 => 340#32
  | 43 => 341#32
  | 44 => 342#32
  | 45 => 343#32
  | 46 => 344#32
  | 47 => 345#32
  | 48 => 346#32
  | 49 => 347#32
  | 50 => 348#32
  | 51 => 349#32
  | 52 => 350#32
  | 53 => 351#32
  | 54 => 352#32
  | 55 => 353#32
  | 56 => 354#32
  | 57 => 355#32
  | 58 => 356#32
  | 59 => 357#32
  | 60 => 358#32
  | 61 => 360#32
  | 62 => 361#32
  | 63 => 362#32
  | 64 => 363#32
  | 65 => 364#32
  | 66 => 365#32
  | 67 => 366#32
  | 68 => 367#32
  | 69 => 368#32
  | 70 => 369#32
  | 71 => 370#32
  | 72 => 371#32
  | 73 => 372#32
  | 74 => 373#32
  | 75 => 374#32
  | 76 => 375#32
  | 77 => 376#32
  | 78 => 377#32
  | 79 => 378#32
  | 80 => 379#32
  | 81 => 380#32
  | 82 => 381#32
  | 83 => 400#32
  | 84 => 401#32
  | 85 => 402#32
  | 86 => 420#32
  | 87 => 421#32
  | 88 => 422#32
  | 89 => 423#32
  | 90 => 440#32
  | 91 => 441#32
  | 92 => 442#32
  | 93 => 443#32
  | 94 => 444#32
  | 95 => 460#32
  | 96 => 461#32
  | 97 => 462#32
  | 98 => 463#32
  | 99 => 464#32
  | 100 => 465#32
  | 101 => 480#32
  | 102 => 481#32
  | 103 => 482#32
  | 104 => 483#32
  | 105 => 484#32
  | 106 => 485#32
  | 107 => 486#32
  | 108 => 500#32
  | 109 => 501#32
  | 110 => 502#32
  | 111 => 503#32
  | 112 => 504#32
  | 113 => 505#32
  | 114 => 506#32
  | 115 => 507#32
  | 116 => 520#32
  | 117 => 521#32
  | 118 => 522#32
  | 119 => 523#32
  | 120 => 524#32
  | 121 => 525#32
  | 122 => 526#32
  | 123 => 527#32
  | 124 => 528#32
  | 125 => 540#32
  | 126 => 541#32
  | 127 => 542#32
  | _ => 0#32

noncomputable abbrev lit0t0_2 (i : Nat) : BitVec 32 := match i % 128 with
  | 0 => 543#32
  | 1 => 544#32
  | 2 => 545#32
  | 3 => 546#32
  | 4 => 547#32
  | 5 => 548#32
  | 6 => 549#32
  | 7 => 560#32
  | 8 => 561#32
  | 9 => 562#32
  | 10 => 563#32
  | 11 => 564#32
  | 12 => 565#32
  | 13 => 566#32
  | 14 => 567#32
  | 15 => 568#32
  | 16 => 569#32
  | 17 => 570#32
  | 18 => 580#32
  | 19 => 581#32
  | 20 => 582#32
  | 21 => 583#32
  | 22 => 584#32
  | 23 => 585#32
  | 24 => 586#32
  | 25 => 587#32
  | 26 => 588#32
  | 27 => 589#32
  | 28 => 590#32
  | 29 => 591#32
  | 30 => 600#32
  | 31 => 601#32
  | 32 => 602#32
  | 33 => 603#32
  | 34 => 604#32
  | 35 => 605#32
  | 36 => 606#32
  | 37 => 607#32
  | 38 => 608#32
  | 39 => 609#32
  | 40 => 610#32
  | 41 => 611#32
  | 42 => 612#32
  | 43 => 620#32
  | 44 => 621#32
  | 45 => 622#32
  | 46 => 623#32
  | 47 => 624#32
  | 48 => 625#32
  | 49 => 626#32
  | 50 => 627#32
  | 51 => 628#32
  | 52 => 629#32
  | 53 => 630#32
  | 54 => 631#32
  | 55 => 632#32
  | 56 => 633#32
  | 57 => 640#32
  | 58 => 641#32
  | 59 => 642#32
  | 60 => 643#32
  | 61 => 644#32
  | 62 => 645#32
  | 63 => 646#32
  | 64 => 647#32
  | 65 => 648#32
  | 66 => 649#32
  | 67 => 650#32
  | 68 => 651#32
  | 69 => 652#32
  | 70 => 653#32
  | 71 => 654#32
  | 72 => 660#32
  | 73 => 661#32
  | 74 => 662#32
  | 75 => 663#32
  | 76 => 664#32
  | 77 => 665#32
  | 78 => 666#32
  | 79 => 667#32
  | 80 => 668#32
  | 81 => 669#32
  | 82 => 670#32
  | 83 => 671#32
  | 84 => 672#32
  | 85 => 673#32
  | 86 => 674#32
  | 87 => 675#32
  | 88 => 680#32
  | 89 => 681#32
  | 90 => 682#32
  | 91 => 683#32
  | 92 => 684#32
  | 93 => 685#32
  | 94 => 686#32
  | 95 => 687#32
  | 96 => 688#32
  | 97 => 689#32
  | 98 => 690#32
  | 99 => 691#32
  | 100 => 692#32
  | 101 => 693#32
  | 102 => 694#32
  | 103 => 695#32
  | 104 => 696#32
  | 105 => 700#32
  | 106 => 701#32
  | 107 => 702#32
  | 108 => 703#32
  | 109 => 704#32
  | 110 => 705#32
  | 111 => 706#32
  | 112 => 707#32
  | 113 => 708#32
  | 114 => 709#32
  | 115 => 710#32
  | 116 => 711#32
  | 117 => 712#32
  | 118 => 713#32
  | 119 => 714#32
  | 120 => 715#32
  | 121 => 716#32
  | 122 => 717#32
  | 123 => 720#32
  | 124 => 721#32
  | 125 => 722#32
  | 126 => 723#32
  | 127 => 724#32
  | _ => 0#32

noncomputable abbrev lit0t0_3 (i : Nat) : BitVec 32 := match i % 128 with
  | 0 => 725#32
  | 1 => 726#32
  | 2 => 727#32
  | 3 => 728#32
  | 4 => 729#32
  | 5 => 730#32
  | 6 => 731#32
  | 7 => 732#32
  | 8 => 733#32
  | 9 => 734#32
  | 10 => 735#32
  | 11 => 736#32
  | 12 => 737#32
  | 13 => 738#32
  | 14 => 740#32
  | 15 => 741#32
  | 16 => 742#32
  | 17 => 743#32
  | 18 => 744#32
  | 19 => 745#32
  | 20 => 746#32
  | 21 => 747#32
  | 22 => 748#32
  | 23 => 749#32
  | 24 => 750#32
  | 25 => 751#32
  | 26 => 752#32
  | 27 => 753#32
  | 28 => 754#32
  | 29 => 755#32
  | 30 => 756#32
  | 31 => 757#32
  | 32 => 758#32
  | 33 => 759#32
  | 34 => 760#32
  | 35 => 761#32
  | 36 => 780#32
  | 37 => 781#32
  | 38 => 782#32
  | 39 => 800#32
  | 40 => 801#32
  | 41 => 802#32
  | 42 => 803#32
  | 43 => 820#32
  | 44 => 821#32
  | 45 => 822#32
  | 46 => 823#32
  | 47 => 824#32
  | 48 => 840#32
  | 49 => 841#32
  | 50 => 842#32
  | 51 => 843#32
  | 52 => 844#32
  | 53 => 845#32
  | 54 => 860#32
  | 55 => 861#32
  | 56 => 862#32
  | 57 => 863#32
  | 58 => 864#32
  | 59 => 865#32
  | 60 => 866#32
  | 61 => 880#32
  | 62 => 881#32
  | 63 => 882#32
  | 64 => 883#32
  | 65 => 884#32
  | 66 => 885#32
  | 67 => 886#32
  | 68 => 887#32
  | 69 => 900#32
  | 70 => 901#32
  | 71 => 902#32
  | 72 => 903#32
  | 73 => 904#32
  | 74 => 905#32
  | 75 => 906#32
  | 76 => 907#32
  | 77 => 908#32
  | 78 => 920#32
  | 79 => 921#32
  | 80 => 922#32
  | 81 => 923#32
  | 82 => 924#32
  | 83 => 925#32
  | 84 => 926#32
  | 85 => 927#32
  | 86 => 928#32
  | 87 => 929#32
  | 88 => 940#32
  | 89 => 941#32
  | 90 => 942#32
  | 91 => 943#32
  | 92 => 944#32
  | 93 => 945#32
  | 94 => 946#32
  | 95 => 947#32
  | 96 => 948#32
  | 97 => 949#32
  | 98 => 950#32
  | 99 => 960#32
  | 100 => 961#32
  | 101 => 962#32
  | 102 => 963#32
  | 103 => 964#32
  | 104 => 965#32
  | 105 => 966#32
  | 106 => 967#32
  | 107 => 968#32
  | 108 => 969#32
  | 109 => 970#32
  | 110 => 971#32
  | 111 => 980#32
  | 112 => 981#32
  | 113 => 982#32
  | 114 => 983#32
  | 115 => 984#32
  | 116 => 985#32
  | 117 => 986#32
  | 118 => 987#32
  | 119 => 988#32
  | 120 => 989#32
  | 121 => 990#32
  | 122 => 991#32
  | 123 => 992#32
  | 124 => 1000#32
  | 125 => 1001#32
  | 126 => 1002#32
  | 127 => 1003#32
  | _ => 0#32

noncomputable abbrev lit0t0_4 (i : Nat) : BitVec 32 := match i % 128 with
  | 0 => 1004#32
  | 1 => 1005#32
  | 2 => 1006#32
  | 3 => 1007#32
  | 4 => 1008#32
  | 5 => 1009#32
  | 6 => 1010#32
  | 7 => 1011#32
  | 8 => 1012#32
  | 9 => 1013#32
  | 10 => 1020#32
  | 11 => 1021#32
  | 12 => 1022#32
  | 13 => 1023#32
  | 14 => 1024#32
  | 15 => 1025#32
  | 16 => 1026#32
  | 17 => 1027#32
  | 18 => 1028#32
  | 19 => 1029#32
  | 20 => 1030#32
  | 21 => 1031#32
  | 22 => 1032#32
  | 23 => 1033#32
  | 24 => 1034#32
  | 25 => 1040#32
  | 26 => 1041#32
  | 27 => 1042#32
  | 28 => 1043#32
  | 29 => 1044#32
  | 30 => 1045#32
  | 31 => 1046#32
  | 32 => 1047#32
  | 33 => 1048#32
  | 34 => 1049#32
  | 35 => 1050#32
  | 36 => 1051#32
  | 37 => 1052#32
  | 38 => 1053#32
  | 39 => 1054#32
  | 40 => 1055#32
  | 41 => 1060#32
  | 42 => 1061#32
  | 43 => 1062#32
  | 44 => 1063#32
  | 45 => 1064#32
  | 46 => 1065#32
  | 47 => 1066#32
  | 48 => 1067#32
  | 49 => 1068#32
  | 50 => 1069#32
  | 51 => 1070#32
  | 52 => 1071#32
  | 53 => 1072#32
  | 54 => 1073#32
  | 55 => 1074#32
  | 56 => 1075#32
  | 57 => 1076#32
  | 58 => 1080#32
  | 59 => 1081#32
  | 60 => 1082#32
  | 61 => 1083#32
  | 62 => 1084#32
  | 63 => 1085#32
  | 64 => 1086#32
  | 65 => 1087#32
  | 66 => 1088#32
  | 67 => 1089#32
  | 68 => 1090#32
  | 69 => 1091#32
  | 70 => 1092#32
  | 71 => 1093#32
  | 72 => 1094#32
  | 73 => 1095#32
  | 74 => 1096#32
  | 75 => 1097#32
  | 76 => 1100#32
  | 77 => 1101#32
  | 78 => 1102#32
  | 79 => 1103#32
  | 80 => 1104#32
  | 81 => 1105#32
  | 82 => 1106#32
  | 83 => 1107#32
  | 84 => 1108#32
  | 85 => 1109#32
  | 86 => 1110#32
  | 87 => 1111#32
  | 88 => 1112#32
  | 89 => 1113#32
  | 90 => 1114#32
  | 91 => 1115#32
  | 92 => 1116#32
  | 93 => 1117#32
  | 94 => 1118#32
  | 95 => 1120#32
  | 96 => 1121#32
  | 97 => 1122#32
  | 98 => 1123#32
  | 99 => 1124#32
  | 100 => 1125#32
  | 101 => 1126#32
  | 102 => 1127#32
  | 103 => 1128#32
  | 104 => 1129#32
  | 105 => 1130#32
  | 106 => 1131#32
  | 107 => 1132#32
  | 108 => 1133#32
  | 109 => 1134#32
  | 110 => 1135#32
  | 111 => 1136#32
  | 112 => 1137#32
  | 113 => 1138#32
  | 114 => 1139#32
  | 115 => 1140#32
  | 116 => 1141#32
  | 117 => 1160#32
  | 118 => 1161#32
  | 119 => 1162#32
  | 120 => 1180#32
  | 121 => 1181#32
  | 122 => 1182#32
  | 123 => 1183#32
  | 124 => 1200#32
  | 125 => 1201#32
  | 126 => 1202#32
  | 127 => 1203#32
  | _ => 0#32

noncomputable abbrev lit0t0_5 (i : Nat) : BitVec 32 := match i % 128 with
  | 0 => 1204#32
  | 1 => 1220#32
  | 2 => 1221#32
  | 3 => 1222#32
  | 4 => 1223#32
  | 5 => 1224#32
  | 6 => 1225#32
  | 7 => 1240#32
  | 8 => 1241#32
  | 9 => 1242#32
  | 10 => 1243#32
  | 11 => 1244#32
  | 12 => 1245#32
  | 13 => 1246#32
  | 14 => 1260#32
  | 15 => 1261#32
  | 16 => 1262#32
  | 17 => 1263#32
  | 18 => 1264#32
  | 19 => 1265#32
  | 20 => 1266#32
  | 21 => 1267#32
  | 22 => 1280#32
  | 23 => 1281#32
  | 24 => 1282#32
  | 25 => 1283#32
  | 26 => 1284#32
  | 27 => 1285#32
  | 28 => 1286#32
  | 29 => 1287#32
  | 30 => 1288#32
  | 31 => 1300#32
  | 32 => 1301#32
  | 33 => 1302#32
  | 34 => 1303#32
  | 35 => 1304#32
  | 36 => 1305#32
  | 37 => 1306#32
  | 38 => 1307#32
  | 39 => 1308#32
  | 40 => 1309#32
  | 41 => 1320#32
  | 42 => 1321#32
  | 43 => 1322#32
  | 44 => 1323#32
  | 45 => 1324#32
  | 46 => 1325#32
  | 47 => 1326#32
  | 48 => 1327#32
  | 49 => 1328#32
  | 50 => 1329#32
  | 51 => 1330#32
  | 52 => 1340#32
  | 53 => 1341#32
  | 54 => 1342#32
  | 55 => 1343#32
  | 56 => 1344#32
  | 57 => 1345#32
  | 58 => 1346#32
  | 59 => 1347#32
  | 60 => 1348#32
  | 61 => 1349#32
  | 62 => 1350#32
  | 63 => 1351#32
  | 64 => 1360#32
  | 65 => 1361#32
  | 66 => 1362#32
  | 67 => 1363#32
  | 68 => 1364#32
  | 69 => 1365#32
  | 70 => 1366#32
  | 71 => 1367#32
  | 72 => 1368#32
  | 73 => 1369#32
  | 74 => 1370#32
  | 75 => 1371#32
  | 76 => 1372#32
  | 77 => 1380#32
  | 78 => 1381#32
  | 79 => 1382#32
  | 80 => 1383#32
  | 81 => 1384#32
  | 82 => 1385#32
  | 83 => 1386#32
  | 84 => 1387#32
  | 85 => 1388#32
  | 86 => 1389#32
  | 87 => 1390#32
  | 88 => 1391#32
  | 89 => 1392#32
  | 90 => 1393#32
  | 91 => 1400#32
  | 92 => 1401#32
  | 93 => 1402#32
  | 94 => 1403#32
  | 95 => 1404#32
  | 96 => 1405#32
  | 97 => 1406#32
  | 98 => 1407#32
  | 99 => 1408#32
  | 100 => 1409#32
  | 101 => 1410#32
  | 102 => 1411#32
  | 103 => 1412#32
  | 104 => 1413#32
  | 105 => 1414#32
  | 106 => 1420#32
  | 107 => 1421#32
  | 108 => 1422#32
  | 109 => 1423#32
  | 110 => 1424#32
  | 111 => 1425#32
  | 112 => 1426#32
  | 113 => 1427#32
  | 114 => 1428#32
  | 115 => 1429#32
  | 116 => 1430#32
  | 117 => 1431#32
  | 118 => 1432#32
  | 119 => 1433#32
  | 120 => 1434#32
  | 121 => 1435#32
  | 122 => 1440#32
  | 123 => 1441#32
  | 124 => 1442#32
  | 125 => 1443#32
  | 126 => 1444#32
  | 127 => 1445#32
  | _ => 0#32

noncomputable abbrev lit0t0_6 (i : Nat) : BitVec 32 := match i % 128 with
  | 0 => 1446#32
  | 1 => 1447#32
  | 2 => 1448#32
  | 3 => 1449#32
  | 4 => 1450#32
  | 5 => 1451#32
  | 6 => 1452#32
  | 7 => 1453#32
  | 8 => 1454#32
  | 9 => 1455#32
  | 10 => 1456#32
  | 11 => 1460#32
  | 12 => 1461#32
  | 13 => 1462#32
  | 14 => 1463#32
  | 15 => 1464#32
  | 16 => 1465#32
  | 17 => 1466#32
  | 18 => 1467#32
  | 19 => 1468#32
  | 20 => 1469#32
  | 21 => 1470#32
  | 22 => 1471#32
  | 23 => 1472#32
  | 24 => 1473#32
  | 25 => 1474#32
  | 26 => 1475#32
  | 27 => 1476#32
  | 28 => 1477#32
  | 29 => 1480#32
  | 30 => 1481#32
  | 31 => 1482#32
  | 32 => 1483#32
  | 33 => 1484#32
  | 34 => 1485#32
  | 35 => 1486#32
  | 36 => 1487#32
  | 37 => 1488#32
  | 38 => 1489#32
  | 39 => 1490#32
  | 40 => 1491#32
  | 41 => 1492#32
  | 42 => 1493#32
  | 43 => 1494#32
  | 44 => 1495#32
  | 45 => 1496#32
  | 46 => 1497#32
  | 47 => 1498#32
  | 48 => 1500#32
  | 49 => 1501#32
  | 50 => 1502#32
  | 51 => 1503#32
  | 52 => 1504#32
  | 53 => 1505#32
  | 54 => 1506#32
  | 55 => 1507#32
  | 56 => 1508#32
  | 57 => 1509#32
  | 58 => 1510#32
  | 59 => 1511#32
  | 60 => 1512#32
  | 61 => 1513#32
  | 62 => 1514#32
  | 63 => 1515#32
  | 64 => 1516#32
  | 65 => 1517#32
  | 66 => 1518#32
  | 67 => 1519#32
  | 68 => 1520#32
  | 69 => 1521#32
  | 70 => 1540#32
  | 71 => 1541#32
  | 72 => 1542#32
  | 73 => 1560#32
  | 74 => 1561#32
  | 75 => 1562#32
  | 76 => 1563#32
  | 77 => 1580#32
  | 78 => 1581#32
  | 79 => 1582#32
  | 80 => 1583#32
  | 81 => 1584#32
  | 82 => 1600#32
  | 83 => 1601#32
  | 84 => 1602#32
  | 85 => 1603#32
  | 86 => 1604#32
  | 87 => 1605#32
  | 88 => 1620#32
  | 89 => 1621#32
  | 90 => 1622#32
  | 91 => 1623#32
  | 92 => 1624#32
  | 93 => 1625#32
  | 94 => 1626#32
  | 95 => 1640#32
  | 96 => 1641#32
  | 97 => 1642#32
  | 98 => 1643#32
  | 99 => 1644#32
  | 100 => 1645#32
  | 101 => 1646#32
  | 102 => 1647#32
  | 103 => 1660#32
  | 104 => 1661#32
  | 105 => 1662#32
  | 106 => 1663#32
  | 107 => 1664#32
  | 108 => 1665#32
  | 109 => 1666#32
  | 110 => 1667#32
  | 111 => 1668#32
  | 112 => 1680#32
  | 113 => 1681#32
  | 114 => 1682#32
  | 115 => 1683#32
  | 116 => 1684#32
  | 117 => 1685#32
  | 118 => 1686#32
  | 119 => 1687#32
  | 120 => 1688#32
  | 121 => 1689#32
  | 122 => 1700#32
  | 123 => 1701#32
  | 124 => 1702#32
  | 125 => 1703#32
  | 126 => 1704#32
  | 127 => 1705#32
  | _ => 0#32

noncomputable abbrev lit0t0_7 (i : Nat) : BitVec 32 := match i % 128 with
  | 0 => 1706#32
  | 1 => 1707#32
  | 2 => 1708#32
  | 3 => 1709#32
  | 4 => 1710#32
  | 5 => 1720#32
  | 6 => 1721#32
  | 7 => 1722#32
  | 8 => 1723#32
  | 9 => 1724#32
  | 10 => 1725#32
  | 11 => 1726#32
  | 12 => 1727#32
  | 13 => 1728#32
  | 14 => 1729#32
  | 15 => 1730#32
  | 16 => 1731#32
  | 17 => 1740#32
  | 18 => 1741#32
  | 19 => 1742#32
  | 20 => 1743#32
  | 21 => 1744#32
  | 22 => 1745#32
  | 23 => 1746#32
  | 24 => 1747#32
  | 25 => 1748#32
  | 26 => 1749#32
  | 27 => 1750#32
  | 28 => 1751#32
  | 29 => 1752#32
  | 30 => 1760#32
  | 31 => 1761#32
  | 32 => 1762#32
  | 33 => 1763#32
  | 34 => 1764#32
  | 35 => 1765#32
  | 36 => 1766#32
  | 37 => 1767#32
  | 38 => 1768#32
  | 39 => 1769#32
  | 40 => 1770#32
  | 41 => 1771#32
  | 42 => 1772#32
  | 43 => 1773#32
  | 44 => 1780#32
  | 45 => 1781#32
  | 46 => 1782#32
  | 47 => 1783#32
  | 48 => 1784#32
  | 49 => 1785#32
  | 50 => 1786#32
  | 51 => 1787#32
  | 52 => 1788#32
  | 53 => 1789#32
  | 54 => 1790#32
  | 55 => 1791#32
  | 56 => 1792#32
  | 57 => 1793#32
  | 58 => 1794#32
  | 59 => 1800#32
  | 60 => 1801#32
  | 61 => 1802#32
  | 62 => 1803#32
  | 63 => 1804#32
  | 64 => 1805#32
  | 65 => 1806#32
  | 66 => 1807#32
  | 67 => 1808#32
  | 68 => 1809#32
  | 69 => 1810#32
  | 70 => 1811#32
  | 71 => 1812#32
  | 72 => 1813#32
  | 73 => 1814#32
  | 74 => 1815#32
  | 75 => 1820#32
  | 76 => 1821#32
  | 77 => 1822#32
  | 78 => 1823#32
  | 79 => 1824#32
  | 80 => 1825#32
  | 81 => 1826#32
  | 82 => 1827#32
  | 83 => 1828#32
  | 84 => 1829#32
  | 85 => 1830#32
  | 86 => 1831#32
  | 87 => 1832#32
  | 88 => 1833#32
  | 89 => 1834#32
  | 90 => 1835#32
  | 91 => 1836#32
  | 92 => 1840#32
  | 93 => 1841#32
  | 94 => 1842#32
  | 95 => 1843#32
  | 96 => 1844#32
  | 97 => 1845#32
  | 98 => 1846#32
  | 99 => 1847#32
  | 100 => 1848#32
  | 101 => 1849#32
  | 102 => 1850#32
  | 103 => 1851#32
  | 104 => 1852#32
  | 105 => 1853#32
  | 106 => 1854#32
  | 107 => 1855#32
  | 108 => 1856#32
  | 109 => 1857#32
  | 110 => 1860#32
  | 111 => 1861#32
  | 112 => 1862#32
  | 113 => 1863#32
  | 114 => 1864#32
  | 115 => 1865#32
  | 116 => 1866#32
  | 117 => 1867#32
  | 118 => 1868#32
  | 119 => 1869#32
  | 120 => 1870#32
  | 121 => 1871#32
  | 122 => 1872#32
  | 123 => 1873#32
  | 124 => 1874#32
  | 125 => 1875#32
  | 126 => 1876#32
  | 127 => 1877#32
  | _ => 0#32

noncomputable abbrev lit0t0_8 (i : Nat) : BitVec 32 := match i % 128 with
  | 0 => 1878#32
  | 1 => 1880#32
  | 2 => 1881#32
  | 3 => 1882#32
  | 4 => 1883#32
  | 5 => 1884#32
  | 6 => 1885#32
  | 7 => 1886#32
  | 8 => 1887#32
  | 9 => 1888#32
  | 10 => 1889#32
  | 11 => 1890#32
  | 12 => 1891#32
  | 13 => 1892#32
  | 14 => 1893#32
  | 15 => 1894#32
  | 16 => 1895#32
  | 17 => 1896#32
  | 18 => 1897#32
  | 19 => 1898#32
  | 20 => 1899#32
  | 21 => 1900#32
  | 22 => 1901#32
  | 23 => 1920#32
  | 24 => 1921#32
  | 25 => 1922#32
  | 26 => 1940#32
  | 27 => 1941#32
  | 28 => 1942#32
  | 29 => 1943#32
  | 30 => 1960#32
  | 31 => 1961#32
  | 32 => 1962#32
  | 33 => 1963#32
  | 34 => 1964#32
  | 35 => 1980#32
  | 36 => 1981#32
  | 37 => 1982#32
  | 38 => 1983#32
  | 39 => 1984#32
  | 40 => 1985#32
  | 41 => 2000#32
  | 42 => 2001#32
  | 43 => 2002#32
  | 44 => 2003#32
  | 45 => 2004#32
  | 46 => 2005#32
  | 47 => 2006#32
  | 48 => 2020#32
  | 49 => 2021#32
  | 50 => 2022#32
  | 51 => 2023#32
  | 52 => 2024#32
  | 53 => 2025#32
  | 54 => 2026#32
  | 55 => 2027#32
  | 56 => 2040#32
  | 57 => 2041#32
  | 58 => 2042#32
  | 59 => 2043#32
  | 60 => 2044#32
  | 61 => 2045#32
  | 62 => 2046#32
  | 63 => 2047#32
  | 64 => 2048#32
  | 65 => 2060#32
  | 66 => 2061#32
  | 67 => 2062#32
  | 68 => 2063#32
  | 69 => 2064#32
  | 70 => 2065#32
  | 71 => 2066#32
  | 72 => 2067#32
  | 73 => 2068#32
  | 74 => 2069#32
  | 75 => 2080#32
  | 76 => 2081#32
  | 77 => 2082#32
  | 78 => 2083#32
  | 79 => 2084#32
  | 80 => 2085#32
  | 81 => 2086#32
  | 82 => 2087#32
  | 83 => 2088#32
  | 84 => 2089#32
  | 85 => 2090#32
  | 86 => 2100#32
  | 87 => 2101#32
  | 88 => 2102#32
  | 89 => 2103#32
  | 90 => 2104#32
  | 91 => 2105#32
  | 92 => 2106#32
  | 93 => 2107#32
  | 94 => 2108#32
  | 95 => 2109#32
  | 96 => 2110#32
  | 97 => 2111#32
  | 98 => 2120#32
  | 99 => 2121#32
  | 100 => 2122#32
  | 101 => 2123#32
  | 102 => 2124#32
  | 103 => 2125#32
  | 104 => 2126#32
  | 105 => 2127#32
  | 106 => 2128#32
  | 107 => 2129#32
  | 108 => 2130#32
  | 109 => 2131#32
  | 110 => 2132#32
  | 111 => 2140#32
  | 112 => 2141#32
  | 113 => 2142#32
  | 114 => 2143#32
  | 115 => 2144#32
  | 116 => 2145#32
  | 117 => 2146#32
  | 118 => 2147#32
  | 119 => 2148#32
  | 120 => 2149#32
  | 121 => 2150#32
  | 122 => 2151#32
  | 123 => 2152#32
  | 124 => 2153#32
  | 125 => 2160#32
  | 126 => 2161#32
  | 127 => 2162#32
  | _ => 0#32

noncomputable abbrev lit0t0_9 (i : Nat) : BitVec 32 := match i % 128 with
  | 0 => 2163#32
  | 1 => 2164#32
  | 2 => 2165#32
  | 3 => 2166#32
  | 4 => 2167#32
  | 5 => 2168#32
  | 6 => 2169#32
  | 7 => 2170#32
  | 8 => 2171#32
  | 9 => 2172#32
  | 10 => 2173#32
  | 11 => 2174#32
  | 12 => 2180#32
  | 13 => 2181#32
  | 14 => 2182#32
  | 15 => 2183#32
  | 16 => 2184#32
  | 17 => 2185#32
  | 18 => 2186#32
  | 19 => 2187#32
  | 20 => 2188#32
  | 21 => 2189#32
  | 22 => 2190#32
  | 23 => 2191#32
  | 24 => 2192#32
  | 25 => 2193#32
  | 26 => 2194#32
  | 27 => 2195#32
  | 28 => 2200#32
  | 29 => 2201#32
  | 30 => 2202#32
  | 31 => 2203#32
  | 32 => 2204#32
  | 33 => 2205#32
  | 34 => 2206#32
  | 35 => 2207#32
  | 36 => 2208#32
  | 37 => 2209#32
  | 38 => 2210#32
  | 39 => 2211#32
  | 40 => 2212#32
  | 41 => 2213#32
  | 42 => 2214#32
  | 43 => 2215#32
  | 44 => 2216#32
  | 45 => 2220#32
  | 46 => 2221#32
  | 47 => 2222#32
  | 48 => 2223#32
  | 49 => 2224#32
  | 50 => 2225#32
  | 51 => 2226#32
  | 52 => 2227#32
  | 53 => 2228#32
  | 54 => 2229#32
  | 55 => 2230#32
  | 56 => 2231#32
  | 57 => 2232#32
  | 58 => 2233#32
  | 59 => 2234#32
  | 60 => 2235#32
  | 61 => 2236#32
  | 62 => 2237#32
  | 63 => 2240#32
  | 64 => 2241#32
  | 65 => 2242#32
  | 66 => 2243#32
  | 67 => 2244#32
  | 68 => 2245#32
  | 69 => 2246#32
  | 70 => 2247#32
  | 71 => 2248#32
  | 72 => 2249#32
  | 73 => 2250#32
  | 74 => 2251#32
  | 75 => 2252#32
  | 76 => 2253#32
  | 77 => 2254#32
  | 78 => 2255#32
  | 79 => 2256#32
  | 80 => 2257#32
  | 81 => 2258#32
  | 82 => 2260#32
  | 83 => 2261#32
  | 84 => 2262#32
  | 85 => 2263#32
  | 86 => 2264#32
  | 87 => 2265#32
  | 88 => 2266#32
  | 89 => 2267#32
  | 90 => 2268#32
  | 91 => 2269#32
  | 92 => 2270#32
  | 93 => 2271#32
  | 94 => 2272#32
  | 95 => 2273#32
  | 96 => 2274#32
  | 97 => 2275#32
  | 98 => 2276#32
  | 99 => 2277#32
  | 100 => 2278#32
  | 101 => 2279#32
  | 102 => 2280#32
  | 103 => 2281#32
  | 104 => 2300#32
  | 105 => 2301#32
  | 106 => 2302#32
  | 107 => 2320#32
  | 108 => 2321#32
  | 109 => 2322#32
  | 110 => 2323#32
  | 111 => 2340#32
  | 112 => 2341#32
  | 113 => 2342#32
  | 114 => 2343#32
  | 115 => 2344#32
  | 116 => 2360#32
  | 117 => 2361#32
  | 118 => 2362#32
  | 119 => 2363#32
  | 120 => 2364#32
  | 121 => 2365#32
  | 122 => 2380#32
  | 123 => 2381#32
  | 124 => 2382#32
  | 125 => 2383#32
  | 126 => 2384#32
  | 127 => 2385#32
  | _ => 0#32

noncomputable abbrev lit0t0_10 (i : Nat) : BitVec 32 := match i % 128 with
  | 0 => 2386#32
  | 1 => 2400#32
  | 2 => 2401#32
  | 3 => 2402#32
  | 4 => 2403#32
  | 5 => 2404#32
  | 6 => 2405#32
  | 7 => 2406#32
  | 8 => 2407#32
  | 9 => 2420#32
  | 10 => 2421#32
  | 11 => 2422#32
  | 12 => 2423#32
  | 13 => 2424#32
  | 14 => 2425#32
  | 15 => 2426#32
  | 16 => 2427#32
  | 17 => 2428#32
  | 18 => 2440#32
  | 19 => 2441#32
  | 20 => 2442#32
  | 21 => 2443#32
  | 22 => 2444#32
  | 23 => 2445#32
  | 24 => 2446#32
  | 25 => 2447#32
  | 26 => 2448#32
  | 27 => 2449#32
  | 28 => 2460#32
  | 29 => 2461#32
  | 30 => 2462#32
  | 31 => 2463#32
  | 32 => 2464#32
  | 33 => 2465#32
  | 34 => 2466#32
  | 35 => 2467#32
  | 36 => 2468#32
  | 37 => 2469#32
  | 38 => 2470#32
  | 39 => 2480#32
  | 40 => 2481#32
  | 41 => 2482#32
  | 42 => 2483#32
  | 43 => 2484#32
  | 44 => 2485#32
  | 45 => 2486#32
  | 46 => 2487#32
  | 47 => 2488#32
  | 48 => 2489#32
  | 49 => 2490#32
  | 50 => 2491#32
  | 51 => 2500#32
  | 52 => 2501#32
  | 53 => 2502#32
  | 54 => 2503#32
  | 55 => 2504#32
  | 56 => 2505#32
  | 57 => 2506#32
  | 58 => 2507#32
  | 59 => 2508#32
  | 60 => 2509#32
  | 61 => 2510#32
  | 62 => 2511#32
  | 63 => 2512#32
  | 64 => 2520#32
  | 65 => 2521#32
  | 66 => 2522#32
  | 67 => 2523#32
  | 68 => 2524#32
  | 69 => 2525#32
  | 70 => 2526#32
  | 71 => 2527#32
  | 72 => 2528#32
  | 73 => 2529#32
  | 74 => 2530#32
  | 75 => 2531#32
  | 76 => 2532#32
  | 77 => 2533#32
  | 78 => 2540#32
  | 79 => 2541#32
  | 80 => 2542#32
  | 81 => 2543#32
  | 82 => 2544#32
  | 83 => 2545#32
  | 84 => 2546#32
  | 85 => 2547#32
  | 86 => 2548#32
  | 87 => 2549#32
  | 88 => 2550#32
  | 89 => 2551#32
  | 90 => 2552#32
  | 91 => 2553#32
  | 92 => 2554#32
  | 93 => 2560#32
  | 94 => 2561#32
  | 95 => 2562#32
  | 96 => 2563#32
  | 97 => 2564#32
  | 98 => 2565#32
  | 99 => 2566#32
  | 100 => 2567#32
  | 101 => 2568#32
  | 102 => 2569#32
  | 103 => 2570#32
  | 104 => 2571#32
  | 105 => 2572#32
  | 106 => 2573#32
  | 107 => 2574#32
  | 108 => 2575#32
  | 109 => 2580#32
  | 110 => 2581#32
  | 111 => 2582#32
  | 112 => 2583#32
  | 113 => 2584#32
  | 114 => 2585#32
  | 115 => 2586#32
  | 116 => 2587#32
  | 117 => 2588#32
  | 118 => 2589#32
  | 119 => 2590#32
  | 120 => 2591#32
  | 121 => 2592#32
  | 122 => 2593#32
  | 123 => 2594#32
  | 124 => 2595#32
  | 125 => 2596#32
  | 126 => 2600#32
  | 127 => 2601#32
  | _ => 0#32

noncomputable abbrev lit0t0_11 (i : Nat) : BitVec 32 := match i % 128 with
  | 0 => 2602#32
  | 1 => 2603#32
  | 2 => 2604#32
  | 3 => 2605#32
  | 4 => 2606#32
  | 5 => 2607#32
  | 6 => 2608#32
  | 7 => 2609#32
  | 8 => 2610#32
  | 9 => 2611#32
  | 10 => 2612#32
  | 11 => 2613#32
  | 12 => 2614#32
  | 13 => 2615#32
  | 14 => 2616#32
  | 15 => 2617#32
  | 16 => 2620#32
  | 17 => 2621#32
  | 18 => 2622#32
  | 19 => 2623#32
  | 20 => 2624#32
  | 21 => 2625#32
  | 22 => 2626#32
  | 23 => 2627#32
  | 24 => 2628#32
  | 25 => 2629#32
  | 26 => 2630#32
  | 27 => 2631#32
  | 28 => 2632#32
  | 29 => 2633#32
  | 30 => 2634#32
  | 31 => 2635#32
  | 32 => 2636#32
  | 33 => 2637#32
  | 34 => 2638#32
  | 35 => 2640#32
  | 36 => 2641#32
  | 37 => 2642#32
  | 38 => 2643#32
  | 39 => 2644#32
  | 40 => 2645#32
  | 41 => 2646#32
  | 42 => 2647#32
  | 43 => 2648#32
  | 44 => 2649#32
  | 45 => 2650#32
  | 46 => 2651#32
  | 47 => 2652#32
  | 48 => 2653#32
  | 49 => 2654#32
  | 50 => 2655#32
  | 51 => 2656#32
  | 52 => 2657#32
  | 53 => 2658#32
  | 54 => 2659#32
  | 55 => 2660#32
  | 56 => 2661#32
  | 57 => 2680#32
  | 58 => 2681#32
  | 59 => 2682#32
  | 60 => 2700#32
  | 61 => 2701#32
  | 62 => 2702#32
  | 63 => 2703#32
  | 64 => 2720#32
  | 65 => 2721#32
  | 66 => 2722#32
  | 67 => 2723#32
  | 68 => 2724#32
  | 69 => 2740#32
  | 70 => 2741#32
  | 71 => 2742#32
  | 72 => 2743#32
  | 73 => 2744#32
  | 74 => 2745#32
  | 75 => 2760#32
  | 76 => 2761#32
  | 77 => 2762#32
  | 78 => 2763#32
  | 79 => 2764#32
  | 80 => 2765#32
  | 81 => 2766#32
  | 82 => 2780#32
  | 83 => 2781#32
  | 84 => 2782#32
  | 85 => 2783#32
  | 86 => 2784#32
  | 87 => 2785#32
  | 88 => 2786#32
  | 89 => 2787#32
  | 90 => 2800#32
  | 91 => 2801#32
  | 92 => 2802#32
  | 93 => 2803#32
  | 94 => 2804#32
  | 95 => 2805#32
  | 96 => 2806#32
  | 97 => 2807#32
  | 98 => 2808#32
  | 99 => 2820#32
  | 100 => 2821#32
  | 101 => 2822#32
  | 102 => 2823#32
  | 103 => 2824#32
  | 104 => 2825#32
  | 105 => 2826#32
  | 106 => 2827#32
  | 107 => 2828#32
  | 108 => 2829#32
  | 109 => 2840#32
  | 110 => 2841#32
  | 111 => 2842#32
  | 112 => 2843#32
  | 113 => 2844#32
  | 114 => 2845#32
  | 115 => 2846#32
  | 116 => 2847#32
  | 117 => 2848#32
  | 118 => 2849#32
  | 119 => 2850#32
  | 120 => 2860#32
  | 121 => 2861#32
  | 122 => 2862#32
  | 123 => 2863#32
  | 124 => 2864#32
  | 125 => 2865#32
  | 126 => 2866#32
  | 127 => 2867#32
  | _ => 0#32

noncomputable abbrev lit0t0_12 (i : Nat) : BitVec 32 := match i % 128 with
  | 0 => 2868#32
  | 1 => 2869#32
  | 2 => 2870#32
  | 3 => 2871#32
  | 4 => 2880#32
  | 5 => 2881#32
  | 6 => 2882#32
  | 7 => 2883#32
  | 8 => 2884#32
  | 9 => 2885#32
  | 10 => 2886#32
  | 11 => 2887#32
  | 12 => 2888#32
  | 13 => 2889#32
  | 14 => 2890#32
  | 15 => 2891#32
  | 16 => 2892#32
  | 17 => 2900#32
  | 18 => 2901#32
  | 19 => 2902#32
  | 20 => 2903#32
  | 21 => 2904#32
  | 22 => 2905#32
  | 23 => 2906#32
  | 24 => 2907#32
  | 25 => 2908#32
  | 26 => 2909#32
  | 27 => 2910#32
  | 28 => 2911#32
  | 29 => 2912#32
  | 30 => 2913#32
  | 31 => 2920#32
  | 32 => 2921#32
  | 33 => 2922#32
  | 34 => 2923#32
  | 35 => 2924#32
  | 36 => 2925#32
  | 37 => 2926#32
  | 38 => 2927#32
  | 39 => 2928#32
  | 40 => 2929#32
  | 41 => 2930#32
  | 42 => 2931#32
  | 43 => 2932#32
  | 44 => 2933#32
  | 45 => 2934#32
  | 46 => 2940#32
  | 47 => 2941#32
  | 48 => 2942#32
  | 49 => 2943#32
  | 50 => 2944#32
  | 51 => 2945#32
  | 52 => 2946#32
  | 53 => 2947#32
  | 54 => 2948#32
  | 55 => 2949#32
  | 56 => 2950#32
  | 57 => 2951#32
  | 58 => 2952#32
  | 59 => 2953#32
  | 60 => 2954#32
  | 61 => 2955#32
  | 62 => 2960#32
  | 63 => 2961#32
  | 64 => 2962#32
  | 65 => 2963#32
  | 66 => 2964#32
  | 67 => 2965#32
  | 68 => 2966#32
  | 69 => 2967#32
  | 70 => 2968#32
  | 71 => 2969#32
  | 72 => 2970#32
  | 73 => 2971#32
  | 74 => 2972#32
  | 75 => 2973#32
  | 76 => 2974#32
  | 77 => 2975#32
  | 78 => 2976#32
  | 79 => 2980#32
  | 80 => 2981#32
  | 81 => 2982#32
  | 82 => 2983#32
  | 83 => 2984#32
  | 84 => 2985#32
  | 85 => 2986#32
  | 86 => 2987#32
  | 87 => 2988#32
  | 88 => 2989#32
  | 89 => 2990#32
  | 90 => 2991#32
  | 91 => 2992#32
  | 92 => 2993#32
  | 93 => 2994#32
  | 94 => 2995#32
  | 95 => 2996#32
  | 96 => 2997#32
  | 97 => 3000#32
  | 98 => 3001#32
  | 99 => 3002#32
  | 100 => 3003#32
  | 101 => 3004#32
  | 102 => 3005#32
  | 103 => 3006#32
  | 104 => 3007#32
  | 105 => 3008#32
  | 106 => 3009#32
  | 107 => 3010#32
  | 108 => 3011#32
  | 109 => 3012#32
  | 110 => 3013#32
  | 111 => 3014#32
  | 112 => 3015#32
  | 113 => 3016#32
  | 114 => 3017#32
  | 115 => 3018#32
  | 116 => 3020#32
  | 117 => 3021#32
  | 118 => 3022#32
  | 119 => 3023#32
  | 120 => 3024#32
  | 121 => 3025#32
  | 122 => 3026#32
  | 123 => 3027#32
  | 124 => 3028#32
  | 125 => 3029#32
  | 126 => 3030#32
  | 127 => 3031#32
  | _ => 0#32

noncomputable abbrev lit0t0_13 (i : Nat) : BitVec 32 := match i % 128 with
  | 0 => 3032#32
  | 1 => 3033#32
  | 2 => 3034#32
  | 3 => 3035#32
  | 4 => 3036#32
  | 5 => 3037#32
  | 6 => 3038#32
  | 7 => 3039#32
  | 8 => 3040#32
  | 9 => 3041#32
  | 10 => 3060#32
  | 11 => 3061#32
  | 12 => 3062#32
  | 13 => 3080#32
  | 14 => 3081#32
  | 15 => 3082#32
  | 16 => 3083#32
  | 17 => 3100#32
  | 18 => 3101#32
  | 19 => 3102#32
  | 20 => 3103#32
  | 21 => 3104#32
  | 22 => 3120#32
  | 23 => 3121#32
  | 24 => 3122#32
  | 25 => 3123#32
  | 26 => 3124#32
  | 27 => 3125#32
  | 28 => 3140#32
  | 29 => 3141#32
  | 30 => 3142#32
  | 31 => 3143#32
  | 32 => 3144#32
  | 33 => 3145#32
  | 34 => 3146#32
  | 35 => 3160#32
  | 36 => 3161#32
  | 37 => 3162#32
  | 38 => 3163#32
  | 39 => 3164#32
  | 40 => 3165#32
  | 41 => 3166#32
  | 42 => 3167#32
  | 43 => 3180#32
  | 44 => 3181#32
  | 45 => 3182#32
  | 46 => 3183#32
  | 47 => 3184#32
  | 48 => 3185#32
  | 49 => 3186#32
  | 50 => 3187#32
  | 51 => 3188#32
  | 52 => 3200#32
  | 53 => 3201#32
  | 54 => 3202#32
  | 55 => 3203#32
  | 56 => 3204#32
  | 57 => 3205#32
  | 58 => 3206#32
  | 59 => 3207#32
  | 60 => 3208#32
  | 61 => 3209#32
  | 62 => 3220#32
  | 63 => 3221#32
  | 64 => 3222#32
  | 65 => 3223#32
  | 66 => 3224#32
  | 67 => 3225#32
  | 68 => 3226#32
  | 69 => 3227#32
  | 70 => 3228#32
  | 71 => 3229#32
  | 72 => 3230#32
  | 73 => 3240#32
  | 74 => 3241#32
  | 75 => 3242#32
  | 76 => 3243#32
  | 77 => 3244#32
  | 78 => 3245#32
  | 79 => 3246#32
  | 80 => 3247#32
  | 81 => 3248#32
  | 82 => 3249#32
  | 83 => 3250#32
  | 84 => 3251#32
  | 85 => 3260#32
  | 86 => 3261#32
  | 87 => 3262#32
  | 88 => 3263#32
  | 89 => 3264#32
  | 90 => 3265#32
  | 91 => 3266#32
  | 92 => 3267#32
  | 93 => 3268#32
  | 94 => 3269#32
  | 95 => 3270#32
  | 96 => 3271#32
  | 97 => 3272#32
  | 98 => 3280#32
  | 99 => 3281#32
  | 100 => 3282#32
  | 101 => 3283#32
  | 102 => 3284#32
  | 103 => 3285#32
  | 104 => 3286#32
  | 105 => 3287#32
  | 106 => 3288#32
  | 107 => 3289#32
  | 108 => 3290#32
  | 109 => 3291#32
  | 110 => 3292#32
  | 111 => 3293#32
  | 112 => 3300#32
  | 113 => 3301#32
  | 114 => 3302#32
  | 115 => 3303#32
  | 116 => 3304#32
  | 117 => 3305#32
  | 118 => 3306#32
  | 119 => 3307#32
  | 120 => 3308#32
  | 121 => 3309#32
  | 122 => 3310#32
  | 123 => 3311#32
  | 124 => 3312#32
  | 125 => 3313#32
  | 126 => 3314#32
  | 127 => 3320#32
  | _ => 0#32

noncomputable abbrev lit0t0_14 (i : Nat) : BitVec 32 := match i % 128 with
  | 0 => 3321#32
  | 1 => 3322#32
  | 2 => 3323#32
  | 3 => 3324#32
  | 4 => 3325#32
  | 5 => 3326#32
  | 6 => 3327#32
  | 7 => 3328#32
  | 8 => 3329#32
  | 9 => 3330#32
  | 10 => 3331#32
  | 11 => 3332#32
  | 12 => 3333#32
  | 13 => 3334#32
  | 14 => 3335#32
  | 15 => 3340#32
  | 16 => 3341#32
  | 17 => 3342#32
  | 18 => 3343#32
  | 19 => 3344#32
  | 20 => 3345#32
  | 21 => 3346#32
  | 22 => 3347#32
  | 23 => 3348#32
  | 24 => 3349#32
  | 25 => 3350#32
  | 26 => 3351#32
  | 27 => 3352#32
  | 28 => 3353#32
  | 29 => 3354#32
  | 30 => 3355#32
  | 31 => 3356#32
  | 32 => 3360#32
  | 33 => 3361#32
  | 34 => 3362#32
  | 35 => 3363#32
  | 36 => 3364#32
  | 37 => 3365#32
  | 38 => 3366#32
  | 39 => 3367#32
  | 40 => 3368#32
  | 41 => 3369#32
  | 42 => 3370#32
  | 43 => 3371#32
  | 44 => 3372#32
  | 45 => 3373#32
  | 46 => 3374#32
  | 47 => 3375#32
  | 48 => 3376#32
  | 49 => 3377#32
  | 50 => 3380#32
  | 51 => 3381#32
  | 52 => 3382#32
  | 53 => 3383#32
  | 54 => 3384#32
  | 55 => 3385#32
  | 56 => 3386#32
  | 57 => 3387#32
  | 58 => 3388#32
  | 59 => 3389#32
  | 60 => 3390#32
  | 61 => 3391#32
  | 62 => 3392#32
  | 63 => 3393#32
  | 64 => 3394#32
  | 65 => 3395#32
  | 66 => 3396#32
  | 67 => 3397#32
  | 68 => 3398#32
  | 69 => 3400#32
  | 70 => 3401#32
  | 71 => 3402#32
  | 72 => 3403#32
  | 73 => 3404#32
  | 74 => 3405#32
  | 75 => 3406#32
  | 76 => 3407#32
  | 77 => 3408#32
  | 78 => 3409#32
  | 79 => 3410#32
  | 80 => 3411#32
  | 81 => 3412#32
  | 82 => 3413#32
  | 83 => 3414#32
  | 84 => 3415#32
  | 85 => 3416#32
  | 86 => 3417#32
  | 87 => 3418#32
  | 88 => 3419#32
  | 89 => 3420#32
  | 90 => 3421#32
  | 91 => 3440#32
  | 92 => 3441#32
  | 93 => 3442#32
  | 94 => 3460#32
  | 95 => 3461#32
  | 96 => 3462#32
  | 97 => 3463#32
  | 98 => 3480#32
  | 99 => 3481#32
  | 100 => 3482#32
  | 101 => 3483#32
  | 102 => 3484#32
  | 103 => 3500#32
  | 104 => 3501#32
  | 105 => 3502#32
  | 106 => 3503#32
  | 107 => 3504#32
  | 108 => 3505#32
  | 109 => 3520#32
  | 110 => 3521#32
  | 111 => 3522#32
  | 112 => 3523#32
  | 113 => 3524#32
  | 114 => 3525#32
  | 115 => 3526#32
  | 116 => 3540#32
  | 117 => 3541#32
  | 118 => 3542#32
  | 119 => 3543#32
  | 120 => 3544#32
  | 121 => 3545#32
  | 122 => 3546#32
  | 123 => 3547#32
  | 124 => 3560#32
  | 125 => 3561#32
  | 126 => 3562#32
  | 127 => 3563#32
  | _ => 0#32

noncomputable abbrev lit0t0_15 (i : Nat) : BitVec 32 := match i % 128 with
  | 0 => 3564#32
  | 1 => 3565#32
  | 2 => 3566#32
  | 3 => 3567#32
  | 4 => 3568#32
  | 5 => 3580#32
  | 6 => 3581#32
  | 7 => 3582#32
  | 8 => 3583#32
  | 9 => 3584#32
  | 10 => 3585#32
  | 11 => 3586#32
  | 12 => 3587#32
  | 13 => 3588#32
  | 14 => 3589#32
  | 15 => 3600#32
  | 16 => 3601#32
  | 17 => 3602#32
  | 18 => 3603#32
  | 19 => 3604#32
  | 20 => 3605#32
  | 21 => 3606#32
  | 22 => 3607#32
  | 23 => 3608#32
  | 24 => 3609#32
  | 25 => 3610#32
  | 26 => 3620#32
  | 27 => 3621#32
  | 28 => 3622#32
  | 29 => 3623#32
  | 30 => 3624#32
  | 31 => 3625#32
  | 32 => 3626#32
  | 33 => 3627#32
  | 34 => 3628#32
  | 35 => 3629#32
  | 36 => 3630#32
  | 37 => 3631#32
  | 38 => 3640#32
  | 39 => 3641#32
  | 40 => 3642#32
  | 41 => 3643#32
  | 42 => 3644#32
  | 43 => 3645#32
  | 44 => 3646#32
  | 45 => 3647#32
  | 46 => 3648#32
  | 47 => 3649#32
  | 48 => 3650#32
  | 49 => 3651#32
  | 50 => 3652#32
  | 51 => 3660#32
  | 52 => 3661#32
  | 53 => 3662#32
  | 54 => 3663#32
  | 55 => 3664#32
  | 56 => 3665#32
  | 57 => 3666#32
  | 58 => 3667#32
  | 59 => 3668#32
  | 60 => 3669#32
  | 61 => 3670#32
  | 62 => 3671#32
  | 63 => 3672#32
  | 64 => 3673#32
  | 65 => 3680#32
  | 66 => 3681#32
  | 67 => 3682#32
  | 68 => 3683#32
  | 69 => 3684#32
  | 70 => 3685#32
  | 71 => 3686#32
  | 72 => 3687#32
  | 73 => 3688#32
  | 74 => 3689#32
  | 75 => 3690#32
  | 76 => 3691#32
  | 77 => 3692#32
  | 78 => 3693#32
  | 79 => 3694#32
  | 80 => 3700#32
  | 81 => 3701#32
  | 82 => 3702#32
  | 83 => 3703#32
  | 84 => 3704#32
  | 85 => 3705#32
  | 86 => 3706#32
  | 87 => 3707#32
  | 88 => 3708#32
  | 89 => 3709#32
  | 90 => 3710#32
  | 91 => 3711#32
  | 92 => 3712#32
  | 93 => 3713#32
  | 94 => 3714#32
  | 95 => 3715#32
  | 96 => 3720#32
  | 97 => 3721#32
  | 98 => 3722#32
  | 99 => 3723#32
  | 100 => 3724#32
  | 101 => 3725#32
  | 102 => 3726#32
  | 103 => 3727#32
  | 104 => 3728#32
  | 105 => 3729#32
  | 106 => 3730#32
  | 107 => 3731#32
  | 108 => 3732#32
  | 109 => 3733#32
  | 110 => 3734#32
  | 111 => 3735#32
  | 112 => 3736#32
  | 113 => 3740#32
  | 114 => 3741#32
  | 115 => 3742#32
  | 116 => 3743#32
  | 117 => 3744#32
  | 118 => 3745#32
  | 119 => 3746#32
  | 120 => 3747#32
  | 121 => 3748#32
  | 122 => 3749#32
  | 123 => 3750#32
  | 124 => 3751#32
  | 125 => 3752#32
  | 126 => 3753#32
  | 127 => 3754#32
  | _ => 0#32

noncomputable abbrev lit0t0_16 (i : Nat) : BitVec 32 := match i % 128 with
  | 0 => 3755#32
  | 1 => 3756#32
  | 2 => 3757#32
  | 3 => 3760#32
  | 4 => 3761#32
  | 5 => 3762#32
  | 6 => 3763#32
  | 7 => 3764#32
  | 8 => 3765#32
  | 9 => 3766#32
  | 10 => 3767#32
  | 11 => 3768#32
  | 12 => 3769#32
  | 13 => 3770#32
  | 14 => 3771#32
  | 15 => 3772#32
  | 16 => 3773#32
  | 17 => 3774#32
  | 18 => 3775#32
  | 19 => 3776#32
  | 20 => 3777#32
  | 21 => 3778#32
  | 22 => 3780#32
  | 23 => 3781#32
  | 24 => 3782#32
  | 25 => 3783#32
  | 26 => 3784#32
  | 27 => 3785#32
  | 28 => 3786#32
  | 29 => 3787#32
  | 30 => 3788#32
  | 31 => 3789#32
  | 32 => 3790#32
  | 33 => 3791#32
  | 34 => 3792#32
  | 35 => 3793#32
  | 36 => 3794#32
  | 37 => 3795#32
  | 38 => 3796#32
  | 39 => 3797#32
  | 40 => 3798#32
  | 41 => 3799#32
  | 42 => 3800#32
  | 43 => 3801#32
  | 44 => 3820#32
  | 45 => 3821#32
  | 46 => 3822#32
  | 47 => 3840#32
  | 48 => 3841#32
  | 49 => 3842#32
  | 50 => 3843#32
  | 51 => 3860#32
  | 52 => 3861#32
  | 53 => 3862#32
  | 54 => 3863#32
  | 55 => 3864#32
  | 56 => 3880#32
  | 57 => 3881#32
  | 58 => 3882#32
  | 59 => 3883#32
  | 60 => 3884#32
  | 61 => 3885#32
  | 62 => 3900#32
  | 63 => 3901#32
  | 64 => 3902#32
  | 65 => 3903#32
  | 66 => 3904#32
  | 67 => 3905#32
  | 68 => 3906#32
  | 69 => 3920#32
  | 70 => 3921#32
  | 71 => 3922#32
  | 72 => 3923#32
  | 73 => 3924#32
  | 74 => 3925#32
  | 75 => 3926#32
  | 76 => 3927#32
  | 77 => 3940#32
  | 78 => 3941#32
  | 79 => 3942#32
  | 80 => 3943#32
  | 81 => 3944#32
  | 82 => 3945#32
  | 83 => 3946#32
  | 84 => 3947#32
  | 85 => 3948#32
  | 86 => 3960#32
  | 87 => 3961#32
  | 88 => 3962#32
  | 89 => 3963#32
  | 90 => 3964#32
  | 91 => 3965#32
  | 92 => 3966#32
  | 93 => 3967#32
  | 94 => 3968#32
  | 95 => 3969#32
  | 96 => 3980#32
  | 97 => 3981#32
  | 98 => 3982#32
  | 99 => 3983#32
  | 100 => 3984#32
  | 101 => 3985#32
  | 102 => 3986#32
  | 103 => 3987#32
  | 104 => 3988#32
  | 105 => 3989#32
  | 106 => 3990#32
  | 107 => 4000#32
  | 108 => 4001#32
  | 109 => 4002#32
  | 110 => 4003#32
  | 111 => 4004#32
  | 112 => 4005#32
  | 113 => 4006#32
  | 114 => 4007#32
  | 115 => 4008#32
  | 116 => 4009#32
  | 117 => 4010#32
  | 118 => 4011#32
  | 119 => 4020#32
  | 120 => 4021#32
  | 121 => 4022#32
  | 122 => 4023#32
  | 123 => 4024#32
  | 124 => 4025#32
  | 125 => 4026#32
  | 126 => 4027#32
  | 127 => 4028#32
  | _ => 0#32

noncomputable abbrev lit0t0_17 (i : Nat) : BitVec 32 := match i % 128 with
  | 0 => 4029#32
  | 1 => 4030#32
  | 2 => 4031#32
  | 3 => 4032#32
  | 4 => 4040#32
  | 5 => 4041#32
  | 6 => 4042#32
  | 7 => 4043#32
  | 8 => 4044#32
  | 9 => 4045#32
  | 10 => 4046#32
  | 11 => 4047#32
  | 12 => 4048#32
  | 13 => 4049#32
  | 14 => 4050#32
  | 15 => 4051#32
  | 16 => 4052#32
  | 17 => 4053#32
  | 18 => 4060#32
  | 19 => 4061#32
  | 20 => 4062#32
  | 21 => 4063#32
  | 22 => 4064#32
  | 23 => 4065#32
  | 24 => 4066#32
  | 25 => 4067#32
  | 26 => 4068#32
  | 27 => 4069#32
  | 28 => 4070#32
  | 29 => 4071#32
  | 30 => 4072#32
  | 31 => 4073#32
  | 32 => 4074#32
  | 33 => 4080#32
  | 34 => 4081#32
  | 35 => 4082#32
  | 36 => 4083#32
  | 37 => 4084#32
  | 38 => 4085#32
  | 39 => 4086#32
  | 40 => 4087#32
  | 41 => 4088#32
  | 42 => 4089#32
  | 43 => 4090#32
  | 44 => 4091#32
  | 45 => 4092#32
  | 46 => 4093#32
  | 47 => 4094#32
  | 48 => 4095#32
  | 49 => 4100#32
  | 50 => 4101#32
  | 51 => 4102#32
  | 52 => 4103#32
  | 53 => 4104#32
  | 54 => 4105#32
  | 55 => 4106#32
  | 56 => 4107#32
  | 57 => 4108#32
  | 58 => 4109#32
  | 59 => 4110#32
  | 60 => 4111#32
  | 61 => 4112#32
  | 62 => 4113#32
  | 63 => 4114#32
  | 64 => 4115#32
  | 65 => 4116#32
  | 66 => 4120#32
  | 67 => 4121#32
  | 68 => 4122#32
  | 69 => 4123#32
  | 70 => 4124#32
  | 71 => 4125#32
  | 72 => 4126#32
  | 73 => 4127#32
  | 74 => 4128#32
  | 75 => 4129#32
  | 76 => 4130#32
  | 77 => 4131#32
  | 78 => 4132#32
  | 79 => 4133#32
  | 80 => 4134#32
  | 81 => 4135#32
  | 82 => 4136#32
  | 83 => 4137#32
  | 84 => 4140#32
  | 85 => 4141#32
  | 86 => 4142#32
  | 87 => 4143#32
  | 88 => 4144#32
  | 89 => 4145#32
  | 90 => 4146#32
  | 91 => 4147#32
  | 92 => 4148#32
  | 93 => 4149#32
  | 94 => 4150#32
  | 95 => 4151#32
  | 96 => 4152#32
  | 97 => 4153#32
  | 98 => 4154#32
  | 99 => 4155#32
  | 100 => 4156#32
  | 101 => 4157#32
  | 102 => 4158#32
  | 103 => 4160#32
  | 104 => 4161#32
  | 105 => 4162#32
  | 106 => 4163#32
  | 107 => 4164#32
  | 108 => 4165#32
  | 109 => 4166#32
  | 110 => 4167#32
  | 111 => 4168#32
  | 112 => 4169#32
  | 113 => 4170#32
  | 114 => 4171#32
  | 115 => 4172#32
  | 116 => 4173#32
  | 117 => 4174#32
  | 118 => 4175#32
  | 119 => 4176#32
  | 120 => 4177#32
  | 121 => 4178#32
  | 122 => 4179#32
  | 123 => 4180#32
  | 124 => 4181#32
  | 125 => 4200#32
  | 126 => 4201#32
  | 127 => 4202#32
  | _ => 0#32

noncomputable abbrev lit0t0_18 (i : Nat) : BitVec 32 := match i % 128 with
  | 0 => 4220#32
  | 1 => 4221#32
  | 2 => 4222#32
  | 3 => 4223#32
  | 4 => 4240#32
  | 5 => 4241#32
  | 6 => 4242#32
  | 7 => 4243#32
  | 8 => 4244#32
  | 9 => 4260#32
  | 10 => 4261#32
  | 11 => 4262#32
  | 12 => 4263#32
  | 13 => 4264#32
  | 14 => 4265#32
  | 15 => 4280#32
  | 16 => 4281#32
  | 17 => 4282#32
  | 18 => 4283#32
  | 19 => 4284#32
  | 20 => 4285#32
  | 21 => 4286#32
  | 22 => 4300#32
  | 23 => 4301#32
  | 24 => 4302#32
  | 25 => 4303#32
  | 26 => 4304#32
  | 27 => 4305#32
  | 28 => 4306#32
  | 29 => 4307#32
  | 30 => 4320#32
  | 31 => 4321#32
  | 32 => 4322#32
  | 33 => 4323#32
  | 34 => 4324#32
  | 35 => 4325#32
  | 36 => 4326#32
  | 37 => 4327#32
  | 38 => 4328#32
  | 39 => 4340#32
  | 40 => 4341#32
  | 41 => 4342#32
  | 42 => 4343#32
  | 43 => 4344#32
  | 44 => 4345#32
  | 45 => 4346#32
  | 46 => 4347#32
  | 47 => 4348#32
  | 48 => 4349#32
  | 49 => 4360#32
  | 50 => 4361#32
  | 51 => 4362#32
  | 52 => 4363#32
  | 53 => 4364#32
  | 54 => 4365#32
  | 55 => 4366#32
  | 56 => 4367#32
  | 57 => 4368#32
  | 58 => 4369#32
  | 59 => 4370#32
  | 60 => 4380#32
  | 61 => 4381#32
  | 62 => 4382#32
  | 63 => 4383#32
  | 64 => 4384#32
  | 65 => 4385#32
  | 66 => 4386#32
  | 67 => 4387#32
  | 68 => 4388#32
  | 69 => 4389#32
  | 70 => 4390#32
  | 71 => 4391#32
  | 72 => 4400#32
  | 73 => 4401#32
  | 74 => 4402#32
  | 75 => 4403#32
  | 76 => 4404#32
  | 77 => 4405#32
  | 78 => 4406#32
  | 79 => 4407#32
  | 80 => 4408#32
  | 81 => 4409#32
  | 82 => 4410#32
  | 83 => 4411#32
  | 84 => 4412#32
  | 85 => 4420#32
  | 86 => 4421#32
  | 87 => 4422#32
  | 88 => 4423#32
  | 89 => 4424#32
  | 90 => 4425#32
  | 91 => 4426#32
  | 92 => 4427#32
  | 93 => 4428#32
  | 94 => 4429#32
  | 95 => 4430#32
  | 96 => 4431#32
  | 97 => 4432#32
  | 98 => 4433#32
  | 99 => 4440#32
  | 100 => 4441#32
  | 101 => 4442#32
  | 102 => 4443#32
  | 103 => 4444#32
  | 104 => 4445#32
  | 105 => 4446#32
  | 106 => 4447#32
  | 107 => 4448#32
  | 108 => 4449#32
  | 109 => 4450#32
  | 110 => 4451#32
  | 111 => 4452#32
  | 112 => 4453#32
  | 113 => 4454#32
  | 114 => 4460#32
  | 115 => 4461#32
  | 116 => 4462#32
  | 117 => 4463#32
  | 118 => 4464#32
  | 119 => 4465#32
  | 120 => 4466#32
  | 121 => 4467#32
  | 122 => 4468#32
  | 123 => 4469#32
  | 124 => 4470#32
  | 125 => 4471#32
  | 126 => 4472#32
  | 127 => 4473#32
  | _ => 0#32

noncomputable abbrev lit0t0_19 (i : Nat) : BitVec 32 := match i % 128 with
  | 0 => 4474#32
  | 1 => 4475#32
  | 2 => 4480#32
  | 3 => 4481#32
  | 4 => 4482#32
  | 5 => 4483#32
  | 6 => 4484#32
  | 7 => 4485#32
  | 8 => 4486#32
  | 9 => 4487#32
  | 10 => 4488#32
  | 11 => 4489#32
  | 12 => 4490#32
  | 13 => 4491#32
  | 14 => 4492#32
  | 15 => 4493#32
  | 16 => 4494#32
  | 17 => 4495#32
  | 18 => 4496#32
  | 19 => 4500#32
  | 20 => 4501#32
  | 21 => 4502#32
  | 22 => 4503#32
  | 23 => 4504#32
  | 24 => 4505#32
  | 25 => 4506#32
  | 26 => 4507#32
  | 27 => 4508#32
  | 28 => 4509#32
  | 29 => 4510#32
  | 30 => 4511#32
  | 31 => 4512#32
  | 32 => 4513#32
  | 33 => 4514#32
  | 34 => 4515#32
  | 35 => 4516#32
  | 36 => 4517#32
  | 37 => 4520#32
  | 38 => 4521#32
  | 39 => 4522#32
  | 40 => 4523#32
  | 41 => 4524#32
  | 42 => 4525#32
  | 43 => 4526#32
  | 44 => 4527#32
  | 45 => 4528#32
  | 46 => 4529#32
  | 47 => 4530#32
  | 48 => 4531#32
  | 49 => 4532#32
  | 50 => 4533#32
  | 51 => 4534#32
  | 52 => 4535#32
  | 53 => 4536#32
  | 54 => 4537#32
  | 55 => 4538#32
  | 56 => 4540#32
  | 57 => 4541#32
  | 58 => 4542#32
  | 59 => 4543#32
  | 60 => 4544#32
  | 61 => 4545#32
  | 62 => 4546#32
  | 63 => 4547#32
  | 64 => 4548#32
  | 65 => 4549#32
  | 66 => 4550#32
  | 67 => 4551#32
  | 68 => 4552#32
  | 69 => 4553#32
  | 70 => 4554#32
  | 71 => 4555#32
  | 72 => 4556#32
  | 73 => 4557#32
  | 74 => 4558#32
  | 75 => 4559#32
  | 76 => 4560#32
  | 77 => 4561#32
  | 78 => 4580#32
  | 79 => 4581#32
  | 80 => 4582#32
  | 81 => 4600#32
  | 82 => 4601#32
  | 83 => 4602#32
  | 84 => 4603#32
  | 85 => 4620#32
  | 86 => 4621#32
  | 87 => 4622#32
  | 88 => 4623#32
  | 89 => 4624#32
  | 90 => 4640#32
  | 91 => 4641#32
  | 92 => 4642#32
  | 93 => 4643#32
  | 94 => 4644#32
  | 95 => 4645#32
  | 96 => 4660#32
  | 97 => 4661#32
  | 98 => 4662#32
  | 99 => 4663#32
  | 100 => 4664#32
  | 101 => 4665#32
  | 102 => 4666#32
  | 103 => 4680#32
  | 104 => 4681#32
  | 105 => 4682#32
  | 106 => 4683#32
  | 107 => 4684#32
  | 108 => 4685#32
  | 109 => 4686#32
  | 110 => 4687#32
  | 111 => 4700#32
  | 112 => 4701#32
  | 113 => 4702#32
  | 114 => 4703#32
  | 115 => 4704#32
  | 116 => 4705#32
  | 117 => 4706#32
  | 118 => 4707#32
  | 119 => 4708#32
  | 120 => 4720#32
  | 121 => 4721#32
  | 122 => 4722#32
  | 123 => 4723#32
  | 124 => 4724#32
  | 125 => 4725#32
  | 126 => 4726#32
  | 127 => 4727#32
  | _ => 0#32

noncomputable abbrev lit0t0_20 (i : Nat) : BitVec 32 := match i % 128 with
  | 0 => 4728#32
  | 1 => 4729#32
  | 2 => 4740#32
  | 3 => 4741#32
  | 4 => 4742#32
  | 5 => 4743#32
  | 6 => 4744#32
  | 7 => 4745#32
  | 8 => 4746#32
  | 9 => 4747#32
  | 10 => 4748#32
  | 11 => 4749#32
  | 12 => 4750#32
  | 13 => 4760#32
  | 14 => 4761#32
  | 15 => 4762#32
  | 16 => 4763#32
  | 17 => 4764#32
  | 18 => 4765#32
  | 19 => 4766#32
  | 20 => 4767#32
  | 21 => 4768#32
  | 22 => 4769#32
  | 23 => 4770#32
  | 24 => 4771#32
  | 25 => 4780#32
  | 26 => 4781#32
  | 27 => 4782#32
  | 28 => 4783#32
  | 29 => 4784#32
  | 30 => 4785#32
  | 31 => 4786#32
  | 32 => 4787#32
  | 33 => 4788#32
  | 34 => 4789#32
  | 35 => 4790#32
  | 36 => 4791#32
  | 37 => 4792#32
  | 38 => 4800#32
  | 39 => 4801#32
  | 40 => 4802#32
  | 41 => 4803#32
  | 42 => 4804#32
  | 43 => 4805#32
  | 44 => 4806#32
  | 45 => 4807#32
  | 46 => 4808#32
  | 47 => 4809#32
  | 48 => 4810#32
  | 49 => 4811#32
  | 50 => 4812#32
  | 51 => 4813#32
  | 52 => 4820#32
  | 53 => 4821#32
  | 54 => 4822#32
  | 55 => 4823#32
  | 56 => 4824#32
  | 57 => 4825#32
  | 58 => 4826#32
  | 59 => 4827#32
  | 60 => 4828#32
  | 61 => 4829#32
  | 62 => 4830#32
  | 63 => 4831#32
  | 64 => 4832#32
  | 65 => 4833#32
  | 66 => 4834#32
  | 67 => 4840#32
  | 68 => 4841#32
  | 69 => 4842#32
  | 70 => 4843#32
  | 71 => 4844#32
  | 72 => 4845#32
  | 73 => 4846#32
  | 74 => 4847#32
  | 75 => 4848#32
  | 76 => 4849#32
  | 77 => 4850#32
  | 78 => 4851#32
  | 79 => 4852#32
  | 80 => 4853#32
  | 81 => 4854#32
  | 82 => 4855#32
  | 83 => 4860#32
  | 84 => 4861#32
  | 85 => 4862#32
  | 86 => 4863#32
  | 87 => 4864#32
  | 88 => 4865#32
  | 89 => 4866#32
  | 90 => 4867#32
  | 91 => 4868#32
  | 92 => 4869#32
  | 93 => 4870#32
  | 94 => 4871#32
  | 95 => 4872#32
  | 96 => 4873#32
  | 97 => 4874#32
  | 98 => 4875#32
  | 99 => 4876#32
  | 100 => 4880#32
  | 101 => 4881#32
  | 102 => 4882#32
  | 103 => 4883#32
  | 104 => 4884#32
  | 105 => 4885#32
  | 106 => 4886#32
  | 107 => 4887#32
  | 108 => 4888#32
  | 109 => 4889#32
  | 110 => 4890#32
  | 111 => 4891#32
  | 112 => 4892#32
  | 113 => 4893#32
  | 114 => 4894#32
  | 115 => 4895#32
  | 116 => 4896#32
  | 117 => 4897#32
  | 118 => 4900#32
  | 119 => 4901#32
  | 120 => 4902#32
  | 121 => 4903#32
  | 122 => 4904#32
  | 123 => 4905#32
  | 124 => 4906#32
  | 125 => 4907#32
  | 126 => 4908#32
  | 127 => 4909#32
  | _ => 0#32

noncomputable abbrev lit0t0_21 (i : Nat) : BitVec 32 := match i % 128 with
  | 0 => 4910#32
  | 1 => 4911#32
  | 2 => 4912#32
  | 3 => 4913#32
  | 4 => 4914#32
  | 5 => 4915#32
  | 6 => 4916#32
  | 7 => 4917#32
  | 8 => 4918#32
  | 9 => 4920#32
  | 10 => 4921#32
  | 11 => 4922#32
  | 12 => 4923#32
  | 13 => 4924#32
  | 14 => 4925#32
  | 15 => 4926#32
  | 16 => 4927#32
  | 17 => 4928#32
  | 18 => 4929#32
  | 19 => 4930#32
  | 20 => 4931#32
  | 21 => 4932#32
  | 22 => 4933#32
  | 23 => 4934#32
  | 24 => 4935#32
  | 25 => 4936#32
  | 26 => 4937#32
  | 27 => 4938#32
  | 28 => 4939#32
  | 29 => 4940#32
  | 30 => 4941#32
  | 31 => 4960#32
  | 32 => 4961#32
  | 33 => 4962#32
  | 34 => 4980#32
  | 35 => 4981#32
  | 36 => 4982#32
  | 37 => 4983#32
  | 38 => 5000#32
  | 39 => 5001#32
  | 40 => 5002#32
  | 41 => 5003#32
  | 42 => 5004#32
  | 43 => 5020#32
  | 44 => 5021#32
  | 45 => 5022#32
  | 46 => 5023#32
  | 47 => 5024#32
  | 48 => 5025#32
  | 49 => 5040#32
  | 50 => 5041#32
  | 51 => 5042#32
  | 52 => 5043#32
  | 53 => 5044#32
  | 54 => 5045#32
  | 55 => 5046#32
  | 56 => 5060#32
  | 57 => 5061#32
  | 58 => 5062#32
  | 59 => 5063#32
  | 60 => 5064#32
  | 61 => 5065#32
  | 62 => 5066#32
  | 63 => 5067#32
  | 64 => 5080#32
  | 65 => 5081#32
  | 66 => 5082#32
  | 67 => 5083#32
  | 68 => 5084#32
  | 69 => 5085#32
  | 70 => 5086#32
  | 71 => 5087#32
  | 72 => 5088#32
  | 73 => 5100#32
  | 74 => 5101#32
  | 75 => 5102#32
  | 76 => 5103#32
  | 77 => 5104#32
  | 78 => 5105#32
  | 79 => 5106#32
  | 80 => 5107#32
  | 81 => 5108#32
  | 82 => 5109#32
  | 83 => 5120#32
  | 84 => 5121#32
  | 85 => 5122#32
  | 86 => 5123#32
  | 87 => 5124#32
  | 88 => 5125#32
  | 89 => 5126#32
  | 90 => 5127#32
  | 91 => 5128#32
  | 92 => 5129#32
  | 93 => 5130#32
  | 94 => 5140#32
  | 95 => 5141#32
  | 96 => 5142#32
  | 97 => 5143#32
  | 98 => 5144#32
  | 99 => 5145#32
  | 100 => 5146#32
  | 101 => 5147#32
  | 102 => 5148#32
  | 103 => 5149#32
  | 104 => 5150#32
  | 105 => 5151#32
  | 106 => 5160#32
  | 107 => 5161#32
  | 108 => 5162#32
  | 109 => 5163#32
  | 110 => 5164#32
  | 111 => 5165#32
  | 112 => 5166#32
  | 113 => 5167#32
  | 114 => 5168#32
  | 115 => 5169#32
  | 116 => 5170#32
  | 117 => 5171#32
  | 118 => 5172#32
  | 119 => 5180#32
  | 120 => 5181#32
  | 121 => 5182#32
  | 122 => 5183#32
  | 123 => 5184#32
  | 124 => 5185#32
  | 125 => 5186#32
  | 126 => 5187#32
  | 127 => 5188#32
  | _ => 0#32

noncomputable abbrev lit0t0_22 (i : Nat) : BitVec 32 := match i % 128 with
  | 0 => 5189#32
  | 1 => 5190#32
  | 2 => 5191#32
  | 3 => 5192#32
  | 4 => 5193#32
  | 5 => 5200#32
  | 6 => 5201#32
  | 7 => 5202#32
  | 8 => 5203#32
  | 9 => 5204#32
  | 10 => 5205#32
  | 11 => 5206#32
  | 12 => 5207#32
  | 13 => 5208#32
  | 14 => 5209#32
  | 15 => 5210#32
  | 16 => 5211#32
  | 17 => 5212#32
  | 18 => 5213#32
  | 19 => 5214#32
  | 20 => 5220#32
  | 21 => 5221#32
  | 22 => 5222#32
  | 23 => 5223#32
  | 24 => 5224#32
  | 25 => 5225#32
  | 26 => 5226#32
  | 27 => 5227#32
  | 28 => 5228#32
  | 29 => 5229#32
  | 30 => 5230#32
  | 31 => 5231#32
  | 32 => 5232#32
  | 33 => 5233#32
  | 34 => 5234#32
  | 35 => 5235#32
  | 36 => 5240#32
  | 37 => 5241#32
  | 38 => 5242#32
  | 39 => 5243#32
  | 40 => 5244#32
  | 41 => 5245#32
  | 42 => 5246#32
  | 43 => 5247#32
  | 44 => 5248#32
  | 45 => 5249#32
  | 46 => 5250#32
  | 47 => 5251#32
  | 48 => 5252#32
  | 49 => 5253#32
  | 50 => 5254#32
  | 51 => 5255#32
  | 52 => 5256#32
  | 53 => 5260#32
  | 54 => 5261#32
  | 55 => 5262#32
  | 56 => 5263#32
  | 57 => 5264#32
  | 58 => 5265#32
  | 59 => 5266#32
  | 60 => 5267#32
  | 61 => 5268#32
  | 62 => 5269#32
  | 63 => 5270#32
  | 64 => 5271#32
  | 65 => 5272#32
  | 66 => 5273#32
  | 67 => 5274#32
  | 68 => 5275#32
  | 69 => 5276#32
  | 70 => 5277#32
  | 71 => 5280#32
  | 72 => 5281#32
  | 73 => 5282#32
  | 74 => 5283#32
  | 75 => 5284#32
  | 76 => 5285#32
  | 77 => 5286#32
  | 78 => 5287#32
  | 79 => 5288#32
  | 80 => 5289#32
  | 81 => 5290#32
  | 82 => 5291#32
  | 83 => 5292#32
  | 84 => 5293#32
  | 85 => 5294#32
  | 86 => 5295#32
  | 87 => 5296#32
  | 88 => 5297#32
  | 89 => 5298#32
  | 90 => 5300#32
  | 91 => 5301#32
  | 92 => 5302#32
  | 93 => 5303#32
  | 94 => 5304#32
  | 95 => 5305#32
  | 96 => 5306#32
  | 97 => 5307#32
  | 98 => 5308#32
  | 99 => 5309#32
  | 100 => 5310#32
  | 101 => 5311#32
  | 102 => 5312#32
  | 103 => 5313#32
  | 104 => 5314#32
  | 105 => 5315#32
  | 106 => 5316#32
  | 107 => 5317#32
  | 108 => 5318#32
  | 109 => 5319#32
  | 110 => 5320#32
  | 111 => 5321#32
  | 112 => 5340#32
  | 113 => 5341#32
  | 114 => 5342#32
  | 115 => 5360#32
  | 116 => 5361#32
  | 117 => 5362#32
  | 118 => 5363#32
  | 119 => 5380#32
  | 120 => 5381#32
  | 121 => 5382#32
  | 122 => 5383#32
  | 123 => 5384#32
  | 124 => 5400#32
  | 125 => 5401#32
  | 126 => 5402#32
  | 127 => 5403#32
  | _ => 0#32

noncomputable abbrev lit0t0_23 (i : Nat) : BitVec 32 := match i % 128 with
  | 0 => 5404#32
  | 1 => 5405#32
  | 2 => 5420#32
  | 3 => 5421#32
  | 4 => 5422#32
  | 5 => 5423#32
  | 6 => 5424#32
  | 7 => 5425#32
  | 8 => 5426#32
  | 9 => 5440#32
  | 10 => 5441#32
  | 11 => 5442#32
  | 12 => 5443#32
  | 13 => 5444#32
  | 14 => 5445#32
  | 15 => 5446#32
  | 16 => 5447#32
  | 17 => 5460#32
  | 18 => 5461#32
  | 19 => 5462#32
  | 20 => 5463#32
  | 21 => 5464#32
  | 22 => 5465#32
  | 23 => 5466#32
  | 24 => 5467#32
  | 25 => 5468#32
  | 26 => 5480#32
  | 27 => 5481#32
  | 28 => 5482#32
  | 29 => 5483#32
  | 30 => 5484#32
  | 31 => 5485#32
  | 32 => 5486#32
  | 33 => 5487#32
  | 34 => 5488#32
  | 35 => 5489#32
  | 36 => 5500#32
  | 37 => 5501#32
  | 38 => 5502#32
  | 39 => 5503#32
  | 40 => 5504#32
  | 41 => 5505#32
  | 42 => 5506#32
  | 43 => 5507#32
  | 44 => 5508#32
  | 45 => 5509#32
  | 46 => 5510#32
  | 47 => 5520#32
  | 48 => 5521#32
  | 49 => 5522#32
  | 50 => 5523#32
  | 51 => 5524#32
  | 52 => 5525#32
  | 53 => 5526#32
  | 54 => 5527#32
  | 55 => 5528#32
  | 56 => 5529#32
  | 57 => 5530#32
  | 58 => 5531#32
  | 59 => 5540#32
  | 60 => 5541#32
  | 61 => 5542#32
  | 62 => 5543#32
  | 63 => 5544#32
  | 64 => 5545#32
  | 65 => 5546#32
  | 66 => 5547#32
  | 67 => 5548#32
  | 68 => 5549#32
  | 69 => 5550#32
  | 70 => 5551#32
  | 71 => 5552#32
  | 72 => 5560#32
  | 73 => 5561#32
  | 74 => 5562#32
  | 75 => 5563#32
  | 76 => 5564#32
  | 77 => 5565#32
  | 78 => 5566#32
  | 79 => 5567#32
  | 80 => 5568#32
  | 81 => 5569#32
  | 82 => 5570#32
  | 83 => 5571#32
  | 84 => 5572#32
  | 85 => 5573#32
  | 86 => 5580#32
  | 87 => 5581#32
  | 88 => 5582#32
  | 89 => 5583#32
  | 90 => 5584#32
  | 91 => 5585#32
  | 92 => 5586#32
  | 93 => 5587#32
  | 94 => 5588#32
  | 95 => 5589#32
  | 96 => 5590#32
  | 97 => 5591#32
  | 98 => 5592#32
  | 99 => 5593#32
  | 100 => 5594#32
  | 101 => 5600#32
  | 102 => 5601#32
  | 103 => 5602#32
  | 104 => 5603#32
  | 105 => 5604#32
  | 106 => 5605#32
  | 107 => 5606#32
  | 108 => 5607#32
  | 109 => 5608#32
  | 110 => 5609#32
  | 111 => 5610#32
  | 112 => 5611#32
  | 113 => 5612#32
  | 114 => 5613#32
  | 115 => 5614#32
  | 116 => 5615#32
  | 117 => 5620#32
  | 118 => 5621#32
  | 119 => 5622#32
  | 120 => 5623#32
  | 121 => 5624#32
  | 122 => 5625#32
  | 123 => 5626#32
  | 124 => 5627#32
  | 125 => 5628#32
  | 126 => 5629#32
  | 127 => 5630#32
  | _ => 0#32

noncomputable abbrev lit0t0_24 (i : Nat) : BitVec 32 := match i % 128 with
  | 0 => 5631#32
  | 1 => 5632#32
  | 2 => 5633#32
  | 3 => 5634#32
  | 4 => 5635#32
  | 5 => 5636#32
  | 6 => 5640#32
  | 7 => 5641#32
  | 8 => 5642#32
  | 9 => 5643#32
  | 10 => 5644#32
  | 11 => 5645#32
  | 12 => 5646#32
  | 13 => 5647#32
  | 14 => 5648#32
  | 15 => 5649#32
  | 16 => 5650#32
  | 17 => 5651#32
  | 18 => 5652#32
  | 19 => 5653#32
  | 20 => 5654#32
  | 21 => 5655#32
  | 22 => 5656#32
  | 23 => 5657#32
  | 24 => 5660#32
  | 25 => 5661#32
  | 26 => 5662#32
  | 27 => 5663#32
  | 28 => 5664#32
  | 29 => 5665#32
  | 30 => 5666#32
  | 31 => 5667#32
  | 32 => 5668#32
  | 33 => 5669#32
  | 34 => 5670#32
  | 35 => 5671#32
  | 36 => 5672#32
  | 37 => 5673#32
  | 38 => 5674#32
  | 39 => 5675#32
  | 40 => 5676#32
  | 41 => 5677#32
  | 42 => 5678#32
  | 43 => 5680#32
  | 44 => 5681#32
  | 45 => 5682#32
  | 46 => 5683#32
  | 47 => 5684#32
  | 48 => 5685#32
  | 49 => 5686#32
  | 50 => 5687#32
  | 51 => 5688#32
  | 52 => 5689#32
  | 53 => 5690#32
  | 54 => 5691#32
  | 55 => 5692#32
  | 56 => 5693#32
  | 57 => 5694#32
  | 58 => 5695#32
  | 59 => 5696#32
  | 60 => 5697#32
  | 61 => 5698#32
  | 62 => 5699#32
  | 63 => 5700#32
  | 64 => 5701#32
  | 65 => 5720#32
  | 66 => 5721#32
  | 67 => 5722#32
  | 68 => 5740#32
  | 69 => 5741#32
  | 70 => 5742#32
  | 71 => 5743#32
  | 72 => 5760#32
  | 73 => 5761#32
  | 74 => 5762#32
  | 75 => 5763#32
  | 76 => 5764#32
  | 77 => 5780#32
  | 78 => 5781#32
  | 79 => 5782#32
  | 80 => 5783#32
  | 81 => 5784#32
  | 82 => 5785#32
  | 83 => 5800#32
  | 84 => 5801#32
  | 85 => 5802#32
  | 86 => 5803#32
  | 87 => 5804#32
  | 88 => 5805#32
  | 89 => 5806#32
  | 90 => 5820#32
  | 91 => 5821#32
  | 92 => 5822#32
  | 93 => 5823#32
  | 94 => 5824#32
  | 95 => 5825#32
  | 96 => 5826#32
  | 97 => 5827#32
  | 98 => 5840#32
  | 99 => 5841#32
  | 100 => 5842#32
  | 101 => 5843#32
  | 102 => 5844#32
  | 103 => 5845#32
  | 104 => 5846#32
  | 105 => 5847#32
  | 106 => 5848#32
  | 107 => 5860#32
  | 108 => 5861#32
  | 109 => 5862#32
  | 110 => 5863#32
  | 111 => 5864#32
  | 112 => 5865#32
  | 113 => 5866#32
  | 114 => 5867#32
  | 115 => 5868#32
  | 116 => 5869#32
  | 117 => 5880#32
  | 118 => 5881#32
  | 119 => 5882#32
  | 120 => 5883#32
  | 121 => 5884#32
  | 122 => 5885#32
  | 123 => 5886#32
  | 124 => 5887#32
  | 125 => 5888#32
  | 126 => 5889#32
  | 127 => 5890#32
  | _ => 0#32

noncomputable abbrev lit0t0_25 (i : Nat) : BitVec 32 := match i % 128 with
  | 0 => 5900#32
  | 1 => 5901#32
  | 2 => 5902#32
  | 3 => 5903#32
  | 4 => 5904#32
  | 5 => 5905#32
  | 6 => 5906#32
  | 7 => 5907#32
  | 8 => 5908#32
  | 9 => 5909#32
  | 10 => 5910#32
  | 11 => 5911#32
  | 12 => 5920#32
  | 13 => 5921#32
  | 14 => 5922#32
  | 15 => 5923#32
  | 16 => 5924#32
  | 17 => 5925#32
  | 18 => 5926#32
  | 19 => 5927#32
  | 20 => 5928#32
  | 21 => 5929#32
  | 22 => 5930#32
  | 23 => 5931#32
  | 24 => 5932#32
  | 25 => 5940#32
  | 26 => 5941#32
  | 27 => 5942#32
  | 28 => 5943#32
  | 29 => 5944#32
  | 30 => 5945#32
  | 31 => 5946#32
  | 32 => 5947#32
  | 33 => 5948#32
  | 34 => 5949#32
  | 35 => 5950#32
  | 36 => 5951#32
  | 37 => 5952#32
  | 38 => 5953#32
  | 39 => 5960#32
  | 40 => 5961#32
  | 41 => 5962#32
  | 42 => 5963#32
  | 43 => 5964#32
  | 44 => 5965#32
  | 45 => 5966#32
  | 46 => 5967#32
  | 47 => 5968#32
  | 48 => 5969#32
  | 49 => 5970#32
  | 50 => 5971#32
  | 51 => 5972#32
  | 52 => 5973#32
  | 53 => 5974#32
  | 54 => 5980#32
  | 55 => 5981#32
  | 56 => 5982#32
  | 57 => 5983#32
  | 58 => 5984#32
  | 59 => 5985#32
  | 60 => 5986#32
  | 61 => 5987#32
  | 62 => 5988#32
  | 63 => 5989#32
  | 64 => 5990#32
  | 65 => 5991#32
  | 66 => 5992#32
  | 67 => 5993#32
  | 68 => 5994#32
  | 69 => 5995#32
  | 70 => 6000#32
  | 71 => 6001#32
  | 72 => 6002#32
  | 73 => 6003#32
  | 74 => 6004#32
  | 75 => 6005#32
  | 76 => 6006#32
  | 77 => 6007#32
  | 78 => 6008#32
  | 79 => 6009#32
  | 80 => 6010#32
  | 81 => 6011#32
  | 82 => 6012#32
  | 83 => 6013#32
  | 84 => 6014#32
  | 85 => 6015#32
  | 86 => 6016#32
  | 87 => 6020#32
  | 88 => 6021#32
  | 89 => 6022#32
  | 90 => 6023#32
  | 91 => 6024#32
  | 92 => 6025#32
  | 93 => 6026#32
  | 94 => 6027#32
  | 95 => 6028#32
  | 96 => 6029#32
  | 97 => 6030#32
  | 98 => 6031#32
  | 99 => 6032#32
  | 100 => 6033#32
  | 101 => 6034#32
  | 102 => 6035#32
  | 103 => 6036#32
  | 104 => 6037#32
  | 105 => 6040#32
  | 106 => 6041#32
  | 107 => 6042#32
  | 108 => 6043#32
  | 109 => 6044#32
  | 110 => 6045#32
  | 111 => 6046#32
  | 112 => 6047#32
  | 113 => 6048#32
  | 114 => 6049#32
  | 115 => 6050#32
  | 116 => 6051#32
  | 117 => 6052#32
  | 118 => 6053#32
  | 119 => 6054#32
  | 120 => 6055#32
  | 121 => 6056#32
  | 122 => 6057#32
  | 123 => 6058#32
  | 124 => 6060#32
  | 125 => 6061#32
  | 126 => 6062#32
  | 127 => 6063#32
  | _ => 0#32

noncomputable abbrev lit0t0_26 (i : Nat) : BitVec 32 := match i % 128 with
  | 0 => 6064#32
  | 1 => 6065#32
  | 2 => 6066#32
  | 3 => 6067#32
  | 4 => 6068#32
  | 5 => 6069#32
  | 6 => 6070#32
  | 7 => 6071#32
  | 8 => 6072#32
  | 9 => 6073#32
  | 10 => 6074#32
  | 11 => 6075#32
  | 12 => 6076#32
  | 13 => 6077#32
  | 14 => 6078#32
  | 15 => 6079#32
  | 16 => 6080#32
  | 17 => 6081#32
  | 18 => 6100#32
  | 19 => 6101#32
  | 20 => 6102#32
  | 21 => 6120#32
  | 22 => 6121#32
  | 23 => 6122#32
  | 24 => 6123#32
  | 25 => 6140#32
  | 26 => 6141#32
  | 27 => 6142#32
  | 28 => 6143#32
  | 29 => 6144#32
  | 30 => 6160#32
  | 31 => 6161#32
  | 32 => 6162#32
  | 33 => 6163#32
  | 34 => 6164#32
  | 35 => 6165#32
  | 36 => 6180#32
  | 37 => 6181#32
  | 38 => 6182#32
  | 39 => 6183#32
  | 40 => 6184#32
  | 41 => 6185#32
  | 42 => 6186#32
  | 43 => 6200#32
  | 44 => 6201#32
  | 45 => 6202#32
  | 46 => 6203#32
  | 47 => 6204#32
  | 48 => 6205#32
  | 49 => 6206#32
  | 50 => 6207#32
  | 51 => 6220#32
  | 52 => 6221#32
  | 53 => 6222#32
  | 54 => 6223#32
  | 55 => 6224#32
  | 56 => 6225#32
  | 57 => 6226#32
  | 58 => 6227#32
  | 59 => 6228#32
  | 60 => 6240#32
  | 61 => 6241#32
  | 62 => 6242#32
  | 63 => 6243#32
  | 64 => 6244#32
  | 65 => 6245#32
  | 66 => 6246#32
  | 67 => 6247#32
  | 68 => 6248#32
  | 69 => 6249#32
  | 70 => 6260#32
  | 71 => 6261#32
  | 72 => 6262#32
  | 73 => 6263#32
  | 74 => 6264#32
  | 75 => 6265#32
  | 76 => 6266#32
  | 77 => 6267#32
  | 78 => 6268#32
  | 79 => 6269#32
  | 80 => 6270#32
  | 81 => 6280#32
  | 82 => 6281#32
  | 83 => 6282#32
  | 84 => 6283#32
  | 85 => 6284#32
  | 86 => 6285#32
  | 87 => 6286#32
  | 88 => 6287#32
  | 89 => 6288#32
  | 90 => 6289#32
  | 91 => 6290#32
  | 92 => 6291#32
  | 93 => 6300#32
  | 94 => 6301#32
  | 95 => 6302#32
  | 96 => 6303#32
  | 97 => 6304#32
  | 98 => 6305#32
  | 99 => 6306#32
  | 100 => 6307#32
  | 101 => 6308#32
  | 102 => 6309#32
  | 103 => 6310#32
  | 104 => 6311#32
  | 105 => 6312#32
  | 106 => 6320#32
  | 107 => 6321#32
  | 108 => 6322#32
  | 109 => 6323#32
  | 110 => 6324#32
  | 111 => 6325#32
  | 112 => 6326#32
  | 113 => 6327#32
  | 114 => 6328#32
  | 115 => 6329#32
  | 116 => 6330#32
  | 117 => 6331#32
  | 118 => 6332#32
  | 119 => 6333#32
  | 120 => 6340#32
  | 121 => 6341#32
  | 122 => 6342#32
  | 123 => 6343#32
  | 124 => 6344#32
  | 125 => 6345#32
  | 126 => 6346#32
  | 127 => 6347#32
  | _ => 0#32

noncomputable abbrev lit0t0_27 (i : Nat) : BitVec 32 := match i % 128 with
  | 0 => 6348#32
  | 1 => 6349#32
  | 2 => 6350#32
  | 3 => 6351#32
  | 4 => 6352#32
  | 5 => 6353#32
  | 6 => 6354#32
  | 7 => 6360#32
  | 8 => 6361#32
  | 9 => 6362#32
  | 10 => 6363#32
  | 11 => 6364#32
  | 12 => 6365#32
  | 13 => 6366#32
  | 14 => 6367#32
  | 15 => 6368#32
  | 16 => 6369#32
  | 17 => 6370#32
  | 18 => 6371#32
  | 19 => 6372#32
  | 20 => 6373#32
  | 21 => 6374#32
  | 22 => 6375#32
  | 23 => 6380#32
  | 24 => 6381#32
  | 25 => 6382#32
  | 26 => 6383#32
  | 27 => 6384#32
  | 28 => 6385#32
  | 29 => 6386#32
  | 30 => 6387#32
  | 31 => 6388#32
  | 32 => 6389#32
  | 33 => 6390#32
  | 34 => 6391#32
  | 35 => 6392#32
  | 36 => 6393#32
  | 37 => 6394#32
  | 38 => 6395#32
  | 39 => 6396#32
  | 40 => 6400#32
  | 41 => 6401#32
  | 42 => 6402#32
  | 43 => 6403#32
  | 44 => 6404#32
  | 45 => 6405#32
  | 46 => 6406#32
  | 47 => 6407#32
  | 48 => 6408#32
  | 49 => 6409#32
  | 50 => 6410#32
  | 51 => 6411#32
  | 52 => 6412#32
  | 53 => 6413#32
  | 54 => 6414#32
  | 55 => 6415#32
  | 56 => 6416#32
  | 57 => 6417#32
  | 58 => 6420#32
  | 59 => 6421#32
  | 60 => 6422#32
  | 61 => 6423#32
  | 62 => 6424#32
  | 63 => 6425#32
  | 64 => 6426#32
  | 65 => 6427#32
  | 66 => 6428#32
  | 67 => 6429#32
  | 68 => 6430#32
  | 69 => 6431#32
  | 70 => 6432#32
  | 71 => 6433#32
  | 72 => 6434#32
  | 73 => 6435#32
  | 74 => 6436#32
  | 75 => 6437#32
  | 76 => 6438#32
  | 77 => 6440#32
  | 78 => 6441#32
  | 79 => 6442#32
  | 80 => 6443#32
  | 81 => 6444#32
  | 82 => 6445#32
  | 83 => 6446#32
  | 84 => 6447#32
  | 85 => 6448#32
  | 86 => 6449#32
  | 87 => 6450#32
  | 88 => 6451#32
  | 89 => 6452#32
  | 90 => 6453#32
  | 91 => 6454#32
  | 92 => 6455#32
  | 93 => 6456#32
  | 94 => 6457#32
  | 95 => 6458#32
  | 96 => 6459#32
  | 97 => 6460#32
  | 98 => 6461#32
  | 99 => 6480#32
  | 100 => 6481#32
  | 101 => 6482#32
  | 102 => 6500#32
  | 103 => 6501#32
  | 104 => 6502#32
  | 105 => 6503#32
  | 106 => 6520#32
  | 107 => 6521#32
  | 108 => 6522#32
  | 109 => 6523#32
  | 110 => 6524#32
  | 111 => 6540#32
  | 112 => 6541#32
  | 113 => 6542#32
  | 114 => 6543#32
  | 115 => 6544#32
  | 116 => 6545#32
  | 117 => 6560#32
  | 118 => 6561#32
  | 119 => 6562#32
  | 120 => 6563#32
  | 121 => 6564#32
  | 122 => 6565#32
  | 123 => 6566#32
  | 124 => 6580#32
  | 125 => 6581#32
  | 126 => 6582#32
  | 127 => 6583#32
  | _ => 0#32

noncomputable abbrev lit0t0_28 (i : Nat) : BitVec 32 := match i % 128 with
  | 0 => 6584#32
  | 1 => 6585#32
  | 2 => 6586#32
  | 3 => 6587#32
  | 4 => 6600#32
  | 5 => 6601#32
  | 6 => 6602#32
  | 7 => 6603#32
  | 8 => 6604#32
  | 9 => 6605#32
  | 10 => 6606#32
  | 11 => 6607#32
  | 12 => 6608#32
  | 13 => 6620#32
  | 14 => 6621#32
  | 15 => 6622#32
  | 16 => 6623#32
  | 17 => 6624#32
  | 18 => 6625#32
  | 19 => 6626#32
  | 20 => 6627#32
  | 21 => 6628#32
  | 22 => 6629#32
  | 23 => 6640#32
  | 24 => 6641#32
  | 25 => 6642#32
  | 26 => 6643#32
  | 27 => 6644#32
  | 28 => 6645#32
  | 29 => 6646#32
  | 30 => 6647#32
  | 31 => 6648#32
  | 32 => 6649#32
  | 33 => 6650#32
  | 34 => 6660#32
  | 35 => 6661#32
  | 36 => 6662#32
  | 37 => 6663#32
  | 38 => 6664#32
  | 39 => 6665#32
  | 40 => 6666#32
  | 41 => 6667#32
  | 42 => 6668#32
  | 43 => 6669#32
  | 44 => 6670#32
  | 45 => 6671#32
  | 46 => 6680#32
  | 47 => 6681#32
  | 48 => 6682#32
  | 49 => 6683#32
  | 50 => 6684#32
  | 51 => 6685#32
  | 52 => 6686#32
  | 53 => 6687#32
  | 54 => 6688#32
  | 55 => 6689#32
  | 56 => 6690#32
  | 57 => 6691#32
  | 58 => 6692#32
  | 59 => 6700#32
  | 60 => 6701#32
  | 61 => 6702#32
  | 62 => 6703#32
  | 63 => 6704#32
  | 64 => 6705#32
  | 65 => 6706#32
  | 66 => 6707#32
  | 67 => 6708#32
  | 68 => 6709#32
  | 69 => 6710#32
  | 70 => 6711#32
  | 71 => 6712#32
  | 72 => 6713#32
  | 73 => 6720#32
  | 74 => 6721#32
  | 75 => 6722#32
  | 76 => 6723#32
  | 77 => 6724#32
  | 78 => 6725#32
  | 79 => 6726#32
  | 80 => 6727#32
  | 81 => 6728#32
  | 82 => 6729#32
  | 83 => 6730#32
  | 84 => 6731#32
  | 85 => 6732#32
  | 86 => 6733#32
  | 87 => 6734#32
  | 88 => 6740#32
  | 89 => 6741#32
  | 90 => 6742#32
  | 91 => 6743#32
  | 92 => 6744#32
  | 93 => 6745#32
  | 94 => 6746#32
  | 95 => 6747#32
  | 96 => 6748#32
  | 97 => 6749#32
  | 98 => 6750#32
  | 99 => 6751#32
  | 100 => 6752#32
  | 101 => 6753#32
  | 102 => 6754#32
  | 103 => 6755#32
  | 104 => 6760#32
  | 105 => 6761#32
  | 106 => 6762#32
  | 107 => 6763#32
  | 108 => 6764#32
  | 109 => 6765#32
  | 110 => 6766#32
  | 111 => 6767#32
  | 112 => 6768#32
  | 113 => 6769#32
  | 114 => 6770#32
  | 115 => 6771#32
  | 116 => 6772#32
  | 117 => 6773#32
  | 118 => 6774#32
  | 119 => 6775#32
  | 120 => 6776#32
  | 121 => 6780#32
  | 122 => 6781#32
  | 123 => 6782#32
  | 124 => 6783#32
  | 125 => 6784#32
  | 126 => 6785#32
  | 127 => 6786#32
  | _ => 0#32

noncomputable abbrev lit0t0_29 (i : Nat) : BitVec 32 := match i % 128 with
  | 0 => 6787#32
  | 1 => 6788#32
  | 2 => 6789#32
  | 3 => 6790#32
  | 4 => 6791#32
  | 5 => 6792#32
  | 6 => 6793#32
  | 7 => 6794#32
  | 8 => 6795#32
  | 9 => 6796#32
  | 10 => 6797#32
  | 11 => 6800#32
  | 12 => 6801#32
  | 13 => 6802#32
  | 14 => 6803#32
  | 15 => 6804#32
  | 16 => 6805#32
  | 17 => 6806#32
  | 18 => 6807#32
  | 19 => 6808#32
  | 20 => 6809#32
  | 21 => 6810#32
  | 22 => 6811#32
  | 23 => 6812#32
  | 24 => 6813#32
  | 25 => 6814#32
  | 26 => 6815#32
  | 27 => 6816#32
  | 28 => 6817#32
  | 29 => 6818#32
  | 30 => 6820#32
  | 31 => 6821#32
  | 32 => 6822#32
  | 33 => 6823#32
  | 34 => 6824#32
  | 35 => 6825#32
  | 36 => 6826#32
  | 37 => 6827#32
  | 38 => 6828#32
  | 39 => 6829#32
  | 40 => 6830#32
  | 41 => 6831#32
  | 42 => 6832#32
  | 43 => 6833#32
  | 44 => 6834#32
  | 45 => 6835#32
  | 46 => 6836#32
  | 47 => 6837#32
  | 48 => 6838#32
  | 49 => 6839#32
  | 50 => 6840#32
  | 51 => 6841#32
  | 52 => 6860#32
  | 53 => 6861#32
  | 54 => 6862#32
  | 55 => 6880#32
  | 56 => 6881#32
  | 57 => 6882#32
  | 58 => 6883#32
  | 59 => 6900#32
  | 60 => 6901#32
  | 61 => 6902#32
  | 62 => 6903#32
  | 63 => 6904#32
  | 64 => 6920#32
  | 65 => 6921#32
  | 66 => 6922#32
  | 67 => 6923#32
  | 68 => 6924#32
  | 69 => 6925#32
  | 70 => 6940#32
  | 71 => 6941#32
  | 72 => 6942#32
  | 73 => 6943#32
  | 74 => 6944#32
  | 75 => 6945#32
  | 76 => 6946#32
  | 77 => 6960#32
  | 78 => 6961#32
  | 79 => 6962#32
  | 80 => 6963#32
  | 81 => 6964#32
  | 82 => 6965#32
  | 83 => 6966#32
  | 84 => 6967#32
  | 85 => 6980#32
  | 86 => 6981#32
  | 87 => 6982#32
  | 88 => 6983#32
  | 89 => 6984#32
  | 90 => 6985#32
  | 91 => 6986#32
  | 92 => 6987#32
  | 93 => 6988#32
  | 94 => 7000#32
  | 95 => 7001#32
  | 96 => 7002#32
  | 97 => 7003#32
  | 98 => 7004#32
  | 99 => 7005#32
  | 100 => 7006#32
  | 101 => 7007#32
  | 102 => 7008#32
  | 103 => 7009#32
  | 104 => 7020#32
  | 105 => 7021#32
  | 106 => 7022#32
  | 107 => 7023#32
  | 108 => 7024#32
  | 109 => 7025#32
  | 110 => 7026#32
  | 111 => 7027#32
  | 112 => 7028#32
  | 113 => 7029#32
  | 114 => 7030#32
  | 115 => 7040#32
  | 116 => 7041#32
  | 117 => 7042#32
  | 118 => 7043#32
  | 119 => 7044#32
  | 120 => 7045#32
  | 121 => 7046#32
  | 122 => 7047#32
  | 123 => 7048#32
  | 124 => 7049#32
  | 125 => 7050#32
  | 126 => 7051#32
  | 127 => 7060#32
  | _ => 0#32

noncomputable abbrev lit0t0_30 (i : Nat) : BitVec 32 := match i % 128 with
  | 0 => 7061#32
  | 1 => 7062#32
  | 2 => 7063#32
  | 3 => 7064#32
  | 4 => 7065#32
  | 5 => 7066#32
  | 6 => 7067#32
  | 7 => 7068#32
  | 8 => 7069#32
  | 9 => 7070#32
  | 10 => 7071#32
  | 11 => 7072#32
  | 12 => 7080#32
  | 13 => 7081#32
  | 14 => 7082#32
  | 15 => 7083#32
  | 16 => 7084#32
  | 17 => 7085#32
  | 18 => 7086#32
  | 19 => 7087#32
  | 20 => 7088#32
  | 21 => 7089#32
  | 22 => 7090#32
  | 23 => 7091#32
  | 24 => 7092#32
  | 25 => 7093#32
  | 26 => 7100#32
  | 27 => 7101#32
  | 28 => 7102#32
  | 29 => 7103#32
  | 30 => 7104#32
  | 31 => 7105#32
  | 32 => 7106#32
  | 33 => 7107#32
  | 34 => 7108#32
  | 35 => 7109#32
  | 36 => 7110#32
  | 37 => 7111#32
  | 38 => 7112#32
  | 39 => 7113#32
  | 40 => 7114#32
  | 41 => 7120#32
  | 42 => 7121#32
  | 43 => 7122#32
  | 44 => 7123#32
  | 45 => 7124#32
  | 46 => 7125#32
  | 47 => 7126#32
  | 48 => 7127#32
  | 49 => 7128#32
  | 50 => 7129#32
  | 51 => 7130#32
  | 52 => 7131#32
  | 53 => 7132#32
  | 54 => 7133#32
  | 55 => 7134#32
  | 56 => 7135#32
  | 57 => 7140#32
  | 58 => 7141#32
  | 59 => 7142#32
  | 60 => 7143#32
  | 61 => 7144#32
  | 62 => 7145#32
  | 63 => 7146#32
  | 64 => 7147#32
  | 65 => 7148#32
  | 66 => 7149#32
  | 67 => 7150#32
  | 68 => 7151#32
  | 69 => 7152#32
  | 70 => 7153#32
  | 71 => 7154#32
  | 72 => 7155#32
  | 73 => 7156#32
  | 74 => 7160#32
  | 75 => 7161#32
  | 76 => 7162#32
  | 77 => 7163#32
  | 78 => 7164#32
  | 79 => 7165#32
  | 80 => 7166#32
  | 81 => 7167#32
  | 82 => 7168#32
  | 83 => 7169#32
  | 84 => 7170#32
  | 85 => 7171#32
  | 86 => 7172#32
  | 87 => 7173#32
  | 88 => 7174#32
  | 89 => 7175#32
  | 90 => 7176#32
  | 91 => 7177#32
  | 92 => 7180#32
  | 93 => 7181#32
  | 94 => 7182#32
  | 95 => 7183#32
  | 96 => 7184#32
  | 97 => 7185#32
  | 98 => 7186#32
  | 99 => 7187#32
  | 100 => 7188#32
  | 101 => 7189#32
  | 102 => 7190#32
  | 103 => 7191#32
  | 104 => 7192#32
  | 105 => 7193#32
  | 106 => 7194#32
  | 107 => 7195#32
  | 108 => 7196#32
  | 109 => 7197#32
  | 110 => 7198#32
  | 111 => 7200#32
  | 112 => 7201#32
  | 113 => 7202#32
  | 114 => 7203#32
  | 115 => 7204#32
  | 116 => 7205#32
  | 117 => 7206#32
  | 118 => 7207#32
  | 119 => 7208#32
  | 120 => 7209#32
  | 121 => 7210#32
  | 122 => 7211#32
  | 123 => 7212#32
  | 124 => 7213#32
  | 125 => 7214#32
  | 126 => 7215#32
  | 127 => 7216#32
  | _ => 0#32

noncomputable abbrev lit0t0_31 (i : Nat) : BitVec 32 := match i % 128 with
  | 0 => 7217#32
  | 1 => 7218#32
  | 2 => 7219#32
  | 3 => 7220#32
  | 4 => 7221#32
  | 5 => 7240#32
  | 6 => 7241#32
  | 7 => 7242#32
  | 8 => 7260#32
  | 9 => 7261#32
  | 10 => 7262#32
  | 11 => 7263#32
  | 12 => 7280#32
  | 13 => 7281#32
  | 14 => 7282#32
  | 15 => 7283#32
  | 16 => 7284#32
  | 17 => 7300#32
  | 18 => 7301#32
  | 19 => 7302#32
  | 20 => 7303#32
  | 21 => 7304#32
  | 22 => 7305#32
  | 23 => 7320#32
  | 24 => 7321#32
  | 25 => 7322#32
  | 26 => 7323#32
  | 27 => 7324#32
  | 28 => 7325#32
  | 29 => 7326#32
  | 30 => 7340#32
  | 31 => 7341#32
  | 32 => 7342#32
  | 33 => 7343#32
  | 34 => 7344#32
  | 35 => 7345#32
  | 36 => 7346#32
  | 37 => 7347#32
  | 38 => 7360#32
  | 39 => 7361#32
  | 40 => 7362#32
  | 41 => 7363#32
  | 42 => 7364#32
  | 43 => 7365#32
  | 44 => 7366#32
  | 45 => 7367#32
  | 46 => 7368#32
  | 47 => 7380#32
  | 48 => 7381#32
  | 49 => 7382#32
  | 50 => 7383#32
  | 51 => 7384#32
  | 52 => 7385#32
  | 53 => 7386#32
  | 54 => 7387#32
  | 55 => 7388#32
  | 56 => 7389#32
  | 57 => 7400#32
  | 58 => 7401#32
  | 59 => 7402#32
  | 60 => 7403#32
  | 61 => 7404#32
  | 62 => 7405#32
  | 63 => 7406#32
  | 64 => 7407#32
  | 65 => 7408#32
  | 66 => 7409#32
  | 67 => 7410#32
  | 68 => 7420#32
  | 69 => 7421#32
  | 70 => 7422#32
  | 71 => 7423#32
  | 72 => 7424#32
  | 73 => 7425#32
  | 74 => 7426#32
  | 75 => 7427#32
  | 76 => 7428#32
  | 77 => 7429#32
  | 78 => 7430#32
  | 79 => 7431#32
  | 80 => 7440#32
  | 81 => 7441#32
  | 82 => 7442#32
  | 83 => 7443#32
  | 84 => 7444#32
  | 85 => 7445#32
  | 86 => 7446#32
  | 87 => 7447#32
  | 88 => 7448#32
  | 89 => 7449#32
  | 90 => 7450#32
  | 91 => 7451#32
  | 92 => 7452#32
  | 93 => 7460#32
  | 94 => 7461#32
  | 95 => 7462#32
  | 96 => 7463#32
  | 97 => 7464#32
  | 98 => 7465#32
  | 99 => 7466#32
  | 100 => 7467#32
  | 101 => 7468#32
  | 102 => 7469#32
  | 103 => 7470#32
  | 104 => 7471#32
  | 105 => 7472#32
  | 106 => 7473#32
  | 107 => 7480#32
  | 108 => 7481#32
  | 109 => 7482#32
  | 110 => 7483#32
  | 111 => 7484#32
  | 112 => 7485#32
  | 113 => 7486#32
  | 114 => 7487#32
  | 115 => 7488#32
  | 116 => 7489#32
  | 117 => 7490#32
  | 118 => 7491#32
  | 119 => 7492#32
  | 120 => 7493#32
  | 121 => 7494#32
  | 122 => 7500#32
  | 123 => 7501#32
  | 124 => 7502#32
  | 125 => 7503#32
  | 126 => 7504#32
  | 127 => 7505#32
  | _ => 0#32

noncomputable abbrev lit0t0_32 (i : Nat) : BitVec 32 := match i % 128 with
  | 0 => 7506#32
  | 1 => 7507#32
  | 2 => 7508#32
  | 3 => 7509#32
  | 4 => 7510#32
  | 5 => 7511#32
  | 6 => 7512#32
  | 7 => 7513#32
  | 8 => 7514#32
  | 9 => 7515#32
  | 10 => 7520#32
  | 11 => 7521#32
  | 12 => 7522#32
  | 13 => 7523#32
  | 14 => 7524#32
  | 15 => 7525#32
  | 16 => 7526#32
  | 17 => 7527#32
  | 18 => 7528#32
  | 19 => 7529#32
  | 20 => 7530#32
  | 21 => 7531#32
  | 22 => 7532#32
  | 23 => 7533#32
  | 24 => 7534#32
  | 25 => 7535#32
  | 26 => 7536#32
  | 27 => 7540#32
  | 28 => 7541#32
  | 29 => 7542#32
  | 30 => 7543#32
  | 31 => 7544#32
  | 32 => 7545#32
  | 33 => 7546#32
  | 34 => 7547#32
  | 35 => 7548#32
  | 36 => 7549#32
  | 37 => 7550#32
  | 38 => 7551#32
  | 39 => 7552#32
  | 40 => 7553#32
  | 41 => 7554#32
  | 42 => 7555#32
  | 43 => 7556#32
  | 44 => 7557#32
  | 45 => 7560#32
  | 46 => 7561#32
  | 47 => 7562#32
  | 48 => 7563#32
  | 49 => 7564#32
  | 50 => 7565#32
  | 51 => 7566#32
  | 52 => 7567#32
  | 53 => 7568#32
  | 54 => 7569#32
  | 55 => 7570#32
  | 56 => 7571#32
  | 57 => 7572#32
  | 58 => 7573#32
  | 59 => 7574#32
  | 60 => 7575#32
  | 61 => 7576#32
  | 62 => 7577#32
  | 63 => 7578#32
  | 64 => 7580#32
  | 65 => 7581#32
  | 66 => 7582#32
  | 67 => 7583#32
  | 68 => 7584#32
  | 69 => 7585#32
  | 70 => 7586#32
  | 71 => 7587#32
  | 72 => 7588#32
  | 73 => 7589#32
  | 74 => 7590#32
  | 75 => 7591#32
  | 76 => 7592#32
  | 77 => 7593#32
  | 78 => 7594#32
  | 79 => 7595#32
  | 80 => 7596#32
  | 81 => 7597#32
  | 82 => 7598#32
  | 83 => 7599#32
  | 84 => 7600#32
  | 85 => 7601#32
  | 86 => 7620#32
  | 87 => 7621#32
  | 88 => 7622#32
  | 89 => 7640#32
  | 90 => 7641#32
  | 91 => 7642#32
  | 92 => 7643#32
  | 93 => 7660#32
  | 94 => 7661#32
  | 95 => 7662#32
  | 96 => 7663#32
  | 97 => 7664#32
  | 98 => 7680#32
  | 99 => 7681#32
  | 100 => 7682#32
  | 101 => 7683#32
  | 102 => 7684#32
  | 103 => 7685#32
  | 104 => 7700#32
  | 105 => 7701#32
  | 106 => 7702#32
  | 107 => 7703#32
  | 108 => 7704#32
  | 109 => 7705#32
  | 110 => 7706#32
  | 111 => 7720#32
  | 112 => 7721#32
  | 113 => 7722#32
  | 114 => 7723#32
  | 115 => 7724#32
  | 116 => 7725#32
  | 117 => 7726#32
  | 118 => 7727#32
  | 119 => 7740#32
  | 120 => 7741#32
  | 121 => 7742#32
  | 122 => 7743#32
  | 123 => 7744#32
  | 124 => 7745#32
  | 125 => 7746#32
  | 126 => 7747#32
  | 127 => 7748#32
  | _ => 0#32

noncomputable abbrev lit0t0_33 (i : Nat) : BitVec 32 := match i % 128 with
  | 0 => 7760#32
  | 1 => 7761#32
  | 2 => 7762#32
  | 3 => 7763#32
  | 4 => 7764#32
  | 5 => 7765#32
  | 6 => 7766#32
  | 7 => 7767#32
  | 8 => 7768#32
  | 9 => 7769#32
  | 10 => 7780#32
  | 11 => 7781#32
  | 12 => 7782#32
  | 13 => 7783#32
  | 14 => 7784#32
  | 15 => 7785#32
  | 16 => 7786#32
  | 17 => 7787#32
  | 18 => 7788#32
  | 19 => 7789#32
  | 20 => 7790#32
  | 21 => 7800#32
  | 22 => 7801#32
  | 23 => 7802#32
  | 24 => 7803#32
  | 25 => 7804#32
  | 26 => 7805#32
  | 27 => 7806#32
  | 28 => 7807#32
  | 29 => 7808#32
  | 30 => 7809#32
  | 31 => 7810#32
  | 32 => 7811#32
  | 33 => 7820#32
  | 34 => 7821#32
  | 35 => 7822#32
  | 36 => 7823#32
  | 37 => 7824#32
  | 38 => 7825#32
  | 39 => 7826#32
  | 40 => 7827#32
  | 41 => 7828#32
  | 42 => 7829#32
  | 43 => 7830#32
  | 44 => 7831#32
  | 45 => 7832#32
  | 46 => 7840#32
  | 47 => 7841#32
  | 48 => 7842#32
  | 49 => 7843#32
  | 50 => 7844#32
  | 51 => 7845#32
  | 52 => 7846#32
  | 53 => 7847#32
  | 54 => 7848#32
  | 55 => 7849#32
  | 56 => 7850#32
  | 57 => 7851#32
  | 58 => 7852#32
  | 59 => 7853#32
  | 60 => 7860#32
  | 61 => 7861#32
  | 62 => 7862#32
  | 63 => 7863#32
  | 64 => 7864#32
  | 65 => 7865#32
  | 66 => 7866#32
  | 67 => 7867#32
  | 68 => 7868#32
  | 69 => 7869#32
  | 70 => 7870#32
  | 71 => 7871#32
  | 72 => 7872#32
  | 73 => 7873#32
  | 74 => 7874#32
  | 75 => 7880#32
  | 76 => 7881#32
  | 77 => 7882#32
  | 78 => 7883#32
  | 79 => 7884#32
  | 80 => 7885#32
  | 81 => 7886#32
  | 82 => 7887#32
  | 83 => 7888#32
  | 84 => 7889#32
  | 85 => 7890#32
  | 86 => 7891#32
  | 87 => 7892#32
  | 88 => 7893#32
  | 89 => 7894#32
  | 90 => 7895#32
  | 91 => 7900#32
  | 92 => 7901#32
  | 93 => 7902#32
  | 94 => 7903#32
  | 95 => 7904#32
  | 96 => 7905#32
  | 97 => 7906#32
  | 98 => 7907#32
  | 99 => 7908#32
  | 100 => 7909#32
  | 101 => 7910#32
  | 102 => 7911#32
  | 103 => 7912#32
  | 104 => 7913#32
  | 105 => 7914#32
  | 106 => 7915#32
  | 107 => 7916#32
  | 108 => 7920#32
  | 109 => 7921#32
  | 110 => 7922#32
  | 111 => 7923#32
  | 112 => 7924#32
  | 113 => 7925#32
  | 114 => 7926#32
  | 115 => 7927#32
  | 116 => 7928#32
  | 117 => 7929#32
  | 118 => 7930#32
  | 119 => 7931#32
  | 120 => 7932#32
  | 121 => 7933#32
  | 122 => 7934#32
  | 123 => 7935#32
  | 124 => 7936#32
  | 125 => 7937#32
  | 126 => 7940#32
  | 127 => 7941#32
  | _ => 0#32

noncomputable abbrev lit0t0_34 (i : Nat) : BitVec 32 := match i % 128 with
  | 0 => 7942#32
  | 1 => 7943#32
  | 2 => 7944#32
  | 3 => 7945#32
  | 4 => 7946#32
  | 5 => 7947#32
  | 6 => 7948#32
  | 7 => 7949#32
  | 8 => 7950#32
  | 9 => 7951#32
  | 10 => 7952#32
  | 11 => 7953#32
  | 12 => 7954#32
  | 13 => 7955#32
  | 14 => 7956#32
  | 15 => 7957#32
  | 16 => 7958#32
  | 17 => 7960#32
  | 18 => 7961#32
  | 19 => 7962#32
  | 20 => 7963#32
  | 21 => 7964#32
  | 22 => 7965#32
  | 23 => 7966#32
  | 24 => 7967#32
  | 25 => 7968#32
  | 26 => 7969#32
  | 27 => 7970#32
  | 28 => 7971#32
  | 29 => 7972#32
  | 30 => 7973#32
  | 31 => 7974#32
  | 32 => 7975#32
  | 33 => 7976#32
  | 34 => 7977#32
  | 35 => 7978#32
  | 36 => 7979#32
  | 37 => 7980#32
  | 38 => 7981#32
  | 39 => 8000#32
  | 40 => 8001#32
  | 41 => 8002#32
  | 42 => 8020#32
  | 43 => 8021#32
  | 44 => 8022#32
  | 45 => 8023#32
  | 46 => 8040#32
  | 47 => 8041#32
  | 48 => 8042#32
  | 49 => 8043#32
  | 50 => 8044#32
  | 51 => 8060#32
  | 52 => 8061#32
  | 53 => 8062#32
  | 54 => 8063#32
  | 55 => 8064#32
  | 56 => 8065#32
  | 57 => 8080#32
  | 58 => 8081#32
  | 59 => 8082#32
  | 60 => 8083#32
  | 61 => 8084#32
  | 62 => 8085#32
  | 63 => 8086#32
  | 64 => 8100#32
  | 65 => 8101#32
  | 66 => 8102#32
  | 67 => 8103#32
  | 68 => 8104#32
  | 69 => 8105#32
  | 70 => 8106#32
  | 71 => 8107#32
  | 72 => 8120#32
  | 73 => 8121#32
  | 74 => 8122#32
  | 75 => 8123#32
  | 76 => 8124#32
  | 77 => 8125#32
  | 78 => 8126#32
  | 79 => 8127#32
  | 80 => 8128#32
  | 81 => 8140#32
  | 82 => 8141#32
  | 83 => 8142#32
  | 84 => 8143#32
  | 85 => 8144#32
  | 86 => 8145#32
  | 87 => 8146#32
  | 88 => 8147#32
  | 89 => 8148#32
  | 90 => 8149#32
  | 91 => 8160#32
  | 92 => 8161#32
  | 93 => 8162#32
  | 94 => 8163#32
  | 95 => 8164#32
  | 96 => 8165#32
  | 97 => 8166#32
  | 98 => 8167#32
  | 99 => 8168#32
  | 100 => 8169#32
  | 101 => 8170#32
  | 102 => 8180#32
  | 103 => 8181#32
  | 104 => 8182#32
  | 105 => 8183#32
  | 106 => 8184#32
  | 107 => 8185#32
  | 108 => 8186#32
  | 109 => 8187#32
  | 110 => 8188#32
  | 111 => 8189#32
  | 112 => 8190#32
  | 113 => 8191#32
  | 114 => 8200#32
  | 115 => 8201#32
  | 116 => 8202#32
  | 117 => 8203#32
  | 118 => 8204#32
  | 119 => 8205#32
  | 120 => 8206#32
  | 121 => 8207#32
  | 122 => 8208#32
  | 123 => 8209#32
  | 124 => 8210#32
  | 125 => 8211#32
  | 126 => 8212#32
  | 127 => 8220#32
  | _ => 0#32

noncomputable abbrev lit0t0_35 (i : Nat) : BitVec 32 := match i % 128 with
  | 0 => 8221#32
  | 1 => 8222#32
  | 2 => 8223#32
  | 3 => 8224#32
  | 4 => 8225#32
  | 5 => 8226#32
  | 6 => 8227#32
  | 7 => 8228#32
  | 8 => 8229#32
  | 9 => 8230#32
  | 10 => 8231#32
  | 11 => 8232#32
  | 12 => 8233#32
  | 13 => 8240#32
  | 14 => 8241#32
  | 15 => 8242#32
  | 16 => 8243#32
  | 17 => 8244#32
  | 18 => 8245#32
  | 19 => 8246#32
  | 20 => 8247#32
  | 21 => 8248#32
  | 22 => 8249#32
  | 23 => 8250#32
  | 24 => 8251#32
  | 25 => 8252#32
  | 26 => 8253#32
  | 27 => 8254#32
  | 28 => 8260#32
  | 29 => 8261#32
  | 30 => 8262#32
  | 31 => 8263#32
  | 32 => 8264#32
  | 33 => 8265#32
  | 34 => 8266#32
  | 35 => 8267#32
  | 36 => 8268#32
  | 37 => 8269#32
  | 38 => 8270#32
  | 39 => 8271#32
  | 40 => 8272#32
  | 41 => 8273#32
  | 42 => 8274#32
  | 43 => 8275#32
  | 44 => 8280#32
  | 45 => 8281#32
  | 46 => 8282#32
  | 47 => 8283#32
  | 48 => 8284#32
  | 49 => 8285#32
  | 50 => 8286#32
  | 51 => 8287#32
  | 52 => 8288#32
  | 53 => 8289#32
  | 54 => 8290#32
  | 55 => 8291#32
  | 56 => 8292#32
  | 57 => 8293#32
  | 58 => 8294#32
  | 59 => 8295#32
  | 60 => 8296#32
  | 61 => 8300#32
  | 62 => 8301#32
  | 63 => 8302#32
  | 64 => 8303#32
  | 65 => 8304#32
  | 66 => 8305#32
  | 67 => 8306#32
  | 68 => 8307#32
  | 69 => 8308#32
  | 70 => 8309#32
  | 71 => 8310#32
  | 72 => 8311#32
  | 73 => 8312#32
  | 74 => 8313#32
  | 75 => 8314#32
  | 76 => 8315#32
  | 77 => 8316#32
  | 78 => 8317#32
  | 79 => 8320#32
  | 80 => 8321#32
  | 81 => 8322#32
  | 82 => 8323#32
  | 83 => 8324#32
  | 84 => 8325#32
  | 85 => 8326#32
  | 86 => 8327#32
  | 87 => 8328#32
  | 88 => 8329#32
  | 89 => 8330#32
  | 90 => 8331#32
  | 91 => 8332#32
  | 92 => 8333#32
  | 93 => 8334#32
  | 94 => 8335#32
  | 95 => 8336#32
  | 96 => 8337#32
  | 97 => 8338#32
  | 98 => 8340#32
  | 99 => 8341#32
  | 100 => 8342#32
  | 101 => 8343#32
  | 102 => 8344#32
  | 103 => 8345#32
  | 104 => 8346#32
  | 105 => 8347#32
  | 106 => 8348#32
  | 107 => 8349#32
  | 108 => 8350#32
  | 109 => 8351#32
  | 110 => 8352#32
  | 111 => 8353#32
  | 112 => 8354#32
  | 113 => 8355#32
  | 114 => 8356#32
  | 115 => 8357#32
  | 116 => 8358#32
  | 117 => 8359#32
  | 118 => 8360#32
  | 119 => 8361#32
  | 120 => 8380#32
  | 121 => 8381#32
  | 122 => 8382#32
  | 123 => 8400#32
  | 124 => 8401#32
  | 125 => 8402#32
  | 126 => 8403#32
  | 127 => 8420#32
  | _ => 0#32

noncomputable abbrev lit0t0_36 (i : Nat) : BitVec 32 := match i % 128 with
  | 0 => 8421#32
  | 1 => 8422#32
  | 2 => 8423#32
  | 3 => 8424#32
  | 4 => 8440#32
  | 5 => 8441#32
  | 6 => 8442#32
  | 7 => 8443#32
  | 8 => 8444#32
  | 9 => 8445#32
  | 10 => 8460#32
  | 11 => 8461#32
  | 12 => 8462#32
  | 13 => 8463#32
  | 14 => 8464#32
  | 15 => 8465#32
  | 16 => 8466#32
  | 17 => 8480#32
  | 18 => 8481#32
  | 19 => 8482#32
  | 20 => 8483#32
  | 21 => 8484#32
  | 22 => 8485#32
  | 23 => 8486#32
  | 24 => 8487#32
  | 25 => 8500#32
  | 26 => 8501#32
  | 27 => 8502#32
  | 28 => 8503#32
  | 29 => 8504#32
  | 30 => 8505#32
  | 31 => 8506#32
  | 32 => 8507#32
  | 33 => 8508#32
  | 34 => 8520#32
  | 35 => 8521#32
  | 36 => 8522#32
  | 37 => 8523#32
  | 38 => 8524#32
  | 39 => 8525#32
  | 40 => 8526#32
  | 41 => 8527#32
  | 42 => 8528#32
  | 43 => 8529#32
  | 44 => 8540#32
  | 45 => 8541#32
  | 46 => 8542#32
  | 47 => 8543#32
  | 48 => 8544#32
  | 49 => 8545#32
  | 50 => 8546#32
  | 51 => 8547#32
  | 52 => 8548#32
  | 53 => 8549#32
  | 54 => 8550#32
  | 55 => 8560#32
  | 56 => 8561#32
  | 57 => 8562#32
  | 58 => 8563#32
  | 59 => 8564#32
  | 60 => 8565#32
  | 61 => 8566#32
  | 62 => 8567#32
  | 63 => 8568#32
  | 64 => 8569#32
  | 65 => 8570#32
  | 66 => 8571#32
  | 67 => 8580#32
  | 68 => 8581#32
  | 69 => 8582#32
  | 70 => 8583#32
  | 71 => 8584#32
  | 72 => 8585#32
  | 73 => 8586#32
  | 74 => 8587#32
  | 75 => 8588#32
  | 76 => 8589#32
  | 77 => 8590#32
  | 78 => 8591#32
  | 79 => 8592#32
  | 80 => 8600#32
  | 81 => 8601#32
  | 82 => 8602#32
  | 83 => 8603#32
  | 84 => 8604#32
  | 85 => 8605#32
  | 86 => 8606#32
  | 87 => 8607#32
  | 88 => 8608#32
  | 89 => 8609#32
  | 90 => 8610#32
  | 91 => 8611#32
  | 92 => 8612#32
  | 93 => 8613#32
  | 94 => 8620#32
  | 95 => 8621#32
  | 96 => 8622#32
  | 97 => 8623#32
  | 98 => 8624#32
  | 99 => 8625#32
  | 100 => 8626#32
  | 101 => 8627#32
  | 102 => 8628#32
  | 103 => 8629#32
  | 104 => 8630#32
  | 105 => 8631#32
  | 106 => 8632#32
  | 107 => 8633#32
  | 108 => 8634#32
  | 109 => 8640#32
  | 110 => 8641#32
  | 111 => 8642#32
  | 112 => 8643#32
  | 113 => 8644#32
  | 114 => 8645#32
  | 115 => 8646#32
  | 116 => 8647#32
  | 117 => 8648#32
  | 118 => 8649#32
  | 119 => 8650#32
  | 120 => 8651#32
  | 121 => 8652#32
  | 122 => 8653#32
  | 123 => 8654#32
  | 124 => 8655#32
  | 125 => 8660#32
  | 126 => 8661#32
  | 127 => 8662#32
  | _ => 0#32

noncomputable abbrev lit0t0_37 (i : Nat) : BitVec 32 := match i % 128 with
  | 0 => 8663#32
  | 1 => 8664#32
  | 2 => 8665#32
  | 3 => 8666#32
  | 4 => 8667#32
  | 5 => 8668#32
  | 6 => 8669#32
  | 7 => 8670#32
  | 8 => 8671#32
  | 9 => 8672#32
  | 10 => 8673#32
  | 11 => 8674#32
  | 12 => 8675#32
  | 13 => 8676#32
  | 14 => 8680#32
  | 15 => 8681#32
  | 16 => 8682#32
  | 17 => 8683#32
  | 18 => 8684#32
  | 19 => 8685#32
  | 20 => 8686#32
  | 21 => 8687#32
  | 22 => 8688#32
  | 23 => 8689#32
  | 24 => 8690#32
  | 25 => 8691#32
  | 26 => 8692#32
  | 27 => 8693#32
  | 28 => 8694#32
  | 29 => 8695#32
  | 30 => 8696#32
  | 31 => 8697#32
  | 32 => 8700#32
  | 33 => 8701#32
  | 34 => 8702#32
  | 35 => 8703#32
  | 36 => 8704#32
  | 37 => 8705#32
  | 38 => 8706#32
  | 39 => 8707#32
  | 40 => 8708#32
  | 41 => 8709#32
  | 42 => 8710#32
  | 43 => 8711#32
  | 44 => 8712#32
  | 45 => 8713#32
  | 46 => 8714#32
  | 47 => 8715#32
  | 48 => 8716#32
  | 49 => 8717#32
  | 50 => 8718#32
  | 51 => 8720#32
  | 52 => 8721#32
  | 53 => 8722#32
  | 54 => 8723#32
  | 55 => 8724#32
  | 56 => 8725#32
  | 57 => 8726#32
  | 58 => 8727#32
  | 59 => 8728#32
  | 60 => 8729#32
  | 61 => 8730#32
  | 62 => 8731#32
  | 63 => 8732#32
  | 64 => 8733#32
  | 65 => 8734#32
  | 66 => 8735#32
  | 67 => 8736#32
  | 68 => 8737#32
  | 69 => 8738#32
  | 70 => 8739#32
  | 71 => 8740#32
  | 72 => 8741#32
  | 73 => 8760#32
  | 74 => 8761#32
  | 75 => 8762#32
  | 76 => 8780#32
  | 77 => 8781#32
  | 78 => 8782#32
  | 79 => 8783#32
  | 80 => 8800#32
  | 81 => 8801#32
  | 82 => 8802#32
  | 83 => 8803#32
  | 84 => 8804#32
  | 85 => 8820#32
  | 86 => 8821#32
  | 87 => 8822#32
  | 88 => 8823#32
  | 89 => 8824#32
  | 90 => 8825#32
  | 91 => 8840#32
  | 92 => 8841#32
  | 93 => 8842#32
  | 94 => 8843#32
  | 95 => 8844#32
  | 96 => 8845#32
  | 97 => 8846#32
  | 98 => 8860#32
  | 99 => 8861#32
  | 100 => 8862#32
  | 101 => 8863#32
  | 102 => 8864#32
  | 103 => 8865#32
  | 104 => 8866#32
  | 105 => 8867#32
  | 106 => 8880#32
  | 107 => 8881#32
  | 108 => 8882#32
  | 109 => 8883#32
  | 110 => 8884#32
  | 111 => 8885#32
  | 112 => 8886#32
  | 113 => 8887#32
  | 114 => 8888#32
  | 115 => 8900#32
  | 116 => 8901#32
  | 117 => 8902#32
  | 118 => 8903#32
  | 119 => 8904#32
  | 120 => 8905#32
  | 121 => 8906#32
  | 122 => 8907#32
  | 123 => 8908#32
  | 124 => 8909#32
  | 125 => 8920#32
  | 126 => 8921#32
  | 127 => 8922#32
  | _ => 0#32

noncomputable abbrev lit0t0_38 (i : Nat) : BitVec 32 := match i % 128 with
  | 0 => 8923#32
  | 1 => 8924#32
  | 2 => 8925#32
  | 3 => 8926#32
  | 4 => 8927#32
  | 5 => 8928#32
  | 6 => 8929#32
  | 7 => 8930#32
  | 8 => 8940#32
  | 9 => 8941#32
  | 10 => 8942#32
  | 11 => 8943#32
  | 12 => 8944#32
  | 13 => 8945#32
  | 14 => 8946#32
  | 15 => 8947#32
  | 16 => 8948#32
  | 17 => 8949#32
  | 18 => 8950#32
  | 19 => 8951#32
  | 20 => 8960#32
  | 21 => 8961#32
  | 22 => 8962#32
  | 23 => 8963#32
  | 24 => 8964#32
  | 25 => 8965#32
  | 26 => 8966#32
  | 27 => 8967#32
  | 28 => 8968#32
  | 29 => 8969#32
  | 30 => 8970#32
  | 31 => 8971#32
  | 32 => 8972#32
  | 33 => 8980#32
  | 34 => 8981#32
  | 35 => 8982#32
  | 36 => 8983#32
  | 37 => 8984#32
  | 38 => 8985#32
  | 39 => 8986#32
  | 40 => 8987#32
  | 41 => 8988#32
  | 42 => 8989#32
  | 43 => 8990#32
  | 44 => 8991#32
  | 45 => 8992#32
  | 46 => 8993#32
  | 47 => 9000#32
  | 48 => 9001#32
  | 49 => 9002#32
  | 50 => 9003#32
  | 51 => 9004#32
  | 52 => 9005#32
  | 53 => 9006#32
  | 54 => 9007#32
  | 55 => 9008#32
  | 56 => 9009#32
  | 57 => 9010#32
  | 58 => 9011#32
  | 59 => 9012#32
  | 60 => 9013#32
  | 61 => 9014#32
  | 62 => 9020#32
  | 63 => 9021#32
  | 64 => 9022#32
  | 65 => 9023#32
  | 66 => 9024#32
  | 67 => 9025#32
  | 68 => 9026#32
  | 69 => 9027#32
  | 70 => 9028#32
  | 71 => 9029#32
  | 72 => 9030#32
  | 73 => 9031#32
  | 74 => 9032#32
  | 75 => 9033#32
  | 76 => 9034#32
  | 77 => 9035#32
  | 78 => 9040#32
  | 79 => 9041#32
  | 80 => 9042#32
  | 81 => 9043#32
  | 82 => 9044#32
  | 83 => 9045#32
  | 84 => 9046#32
  | 85 => 9047#32
  | 86 => 9048#32
  | 87 => 9049#32
  | 88 => 9050#32
  | 89 => 9051#32
  | 90 => 9052#32
  | 91 => 9053#32
  | 92 => 9054#32
  | 93 => 9055#32
  | 94 => 9056#32
  | 95 => 9060#32
  | 96 => 9061#32
  | 97 => 9062#32
  | 98 => 9063#32
  | 99 => 9064#32
  | 100 => 9065#32
  | 101 => 9066#32
  | 102 => 9067#32
  | 103 => 9068#32
  | 104 => 9069#32
  | 105 => 9070#32
  | 106 => 9071#32
  | 107 => 9072#32
  | 108 => 9073#32
  | 109 => 9074#32
  | 110 => 9075#32
  | 111 => 9076#32
  | 112 => 9077#32
  | 113 => 9080#32
  | 114 => 9081#32
  | 115 => 9082#32
  | 116 => 9083#32
  | 117 => 9084#32
  | 118 => 9085#32
  | 119 => 9086#32
  | 120 => 9087#32
  | 121 => 9088#32
  | 122 => 9089#32
  | 123 => 9090#32
  | 124 => 9091#32
  | 125 => 9092#32
  | 126 => 9093#32
  | 127 => 9094#32
  | _ => 0#32

noncomputable abbrev lit0t0_39 (i : Nat) : BitVec 32 := match i % 128 with
  | 0 => 9095#32
  | 1 => 9096#32
  | 2 => 9097#32
  | 3 => 9098#32
  | 4 => 9100#32
  | 5 => 9101#32
  | 6 => 9102#32
  | 7 => 9103#32
  | 8 => 9104#32
  | 9 => 9105#32
  | 10 => 9106#32
  | 11 => 9107#32
  | 12 => 9108#32
  | 13 => 9109#32
  | 14 => 9110#32
  | 15 => 9111#32
  | 16 => 9112#32
  | 17 => 9113#32
  | 18 => 9114#32
  | 19 => 9115#32
  | 20 => 9116#32
  | 21 => 9117#32
  | 22 => 9118#32
  | 23 => 9119#32
  | 24 => 9120#32
  | 25 => 9121#32
  | 26 => 9140#32
  | 27 => 9141#32
  | 28 => 9142#32
  | 29 => 9160#32
  | 30 => 9161#32
  | 31 => 9162#32
  | 32 => 9163#32
  | 33 => 9180#32
  | 34 => 9181#32
  | 35 => 9182#32
  | 36 => 9183#32
  | 37 => 9184#32
  | 38 => 9200#32
  | 39 => 9201#32
  | 40 => 9202#32
  | 41 => 9203#32
  | 42 => 9204#32
  | 43 => 9205#32
  | 44 => 9220#32
  | 45 => 9221#32
  | 46 => 9222#32
  | 47 => 9223#32
  | 48 => 9224#32
  | 49 => 9225#32
  | 50 => 9226#32
  | 51 => 9240#32
  | 52 => 9241#32
  | 53 => 9242#32
  | 54 => 9243#32
  | 55 => 9244#32
  | 56 => 9245#32
  | 57 => 9246#32
  | 58 => 9247#32
  | 59 => 9260#32
  | 60 => 9261#32
  | 61 => 9262#32
  | 62 => 9263#32
  | 63 => 9264#32
  | 64 => 9265#32
  | 65 => 9266#32
  | 66 => 9267#32
  | 67 => 9268#32
  | 68 => 9280#32
  | 69 => 9281#32
  | 70 => 9282#32
  | 71 => 9283#32
  | 72 => 9284#32
  | 73 => 9285#32
  | 74 => 9286#32
  | 75 => 9287#32
  | 76 => 9288#32
  | 77 => 9289#32
  | 78 => 9300#32
  | 79 => 9301#32
  | 80 => 9302#32
  | 81 => 9303#32
  | 82 => 9304#32
  | 83 => 9305#32
  | 84 => 9306#32
  | 85 => 9307#32
  | 86 => 9308#32
  | 87 => 9309#32
  | 88 => 9310#32
  | 89 => 9320#32
  | 90 => 9321#32
  | 91 => 9322#32
  | 92 => 9323#32
  | 93 => 9324#32
  | 94 => 9325#32
  | 95 => 9326#32
  | 96 => 9327#32
  | 97 => 9328#32
  | 98 => 9329#32
  | 99 => 9330#32
  | 100 => 9331#32
  | 101 => 9340#32
  | 102 => 9341#32
  | 103 => 9342#32
  | 104 => 9343#32
  | 105 => 9344#32
  | 106 => 9345#32
  | 107 => 9346#32
  | 108 => 9347#32
  | 109 => 9348#32
  | 110 => 9349#32
  | 111 => 9350#32
  | 112 => 9351#32
  | 113 => 9352#32
  | 114 => 9360#32
  | 115 => 9361#32
  | 116 => 9362#32
  | 117 => 9363#32
  | 118 => 9364#32
  | 119 => 9365#32
  | 120 => 9366#32
  | 121 => 9367#32
  | 122 => 9368#32
  | 123 => 9369#32
  | 124 => 9370#32
  | 125 => 9371#32
  | 126 => 9372#32
  | 127 => 9373#32
  | _ => 0#32

noncomputable abbrev lit0t0_40 (i : Nat) : BitVec 32 := match i % 128 with
  | 0 => 9380#32
  | 1 => 9381#32
  | 2 => 9382#32
  | 3 => 9383#32
  | 4 => 9384#32
  | 5 => 9385#32
  | 6 => 9386#32
  | 7 => 9387#32
  | 8 => 9388#32
  | 9 => 9389#32
  | 10 => 9390#32
  | 11 => 9391#32
  | 12 => 9392#32
  | 13 => 9393#32
  | 14 => 9394#32
  | 15 => 9400#32
  | 16 => 9401#32
  | 17 => 9402#32
  | 18 => 9403#32
  | 19 => 9404#32
  | 20 => 9405#32
  | 21 => 9406#32
  | 22 => 9407#32
  | 23 => 9408#32
  | 24 => 9409#32
  | 25 => 9410#32
  | 26 => 9411#32
  | 27 => 9412#32
  | 28 => 9413#32
  | 29 => 9414#32
  | 30 => 9415#32
  | 31 => 9420#32
  | 32 => 9421#32
  | 33 => 9422#32
  | 34 => 9423#32
  | 35 => 9424#32
  | 36 => 9425#32
  | 37 => 9426#32
  | 38 => 9427#32
  | 39 => 9428#32
  | 40 => 9429#32
  | 41 => 9430#32
  | 42 => 9431#32
  | 43 => 9432#32
  | 44 => 9433#32
  | 45 => 9434#32
  | 46 => 9435#32
  | 47 => 9436#32
  | 48 => 9440#32
  | 49 => 9441#32
  | 50 => 9442#32
  | 51 => 9443#32
  | 52 => 9444#32
  | 53 => 9445#32
  | 54 => 9446#32
  | 55 => 9447#32
  | 56 => 9448#32
  | 57 => 9449#32
  | 58 => 9450#32
  | 59 => 9451#32
  | 60 => 9452#32
  | 61 => 9453#32
  | 62 => 9454#32
  | 63 => 9455#32
  | 64 => 9456#32
  | 65 => 9457#32
  | 66 => 9460#32
  | 67 => 9461#32
  | 68 => 9462#32
  | 69 => 9463#32
  | 70 => 9464#32
  | 71 => 9465#32
  | 72 => 9466#32
  | 73 => 9467#32
  | 74 => 9468#32
  | 75 => 9469#32
  | 76 => 9470#32
  | 77 => 9471#32
  | 78 => 9472#32
  | 79 => 9473#32
  | 80 => 9474#32
  | 81 => 9475#32
  | 82 => 9476#32
  | 83 => 9477#32
  | 84 => 9478#32
  | 85 => 9480#32
  | 86 => 9481#32
  | 87 => 9482#32
  | 88 => 9483#32
  | 89 => 9484#32
  | 90 => 9485#32
  | 91 => 9486#32
  | 92 => 9487#32
  | 93 => 9488#32
  | 94 => 9489#32
  | 95 => 9490#32
  | 96 => 9491#32
  | 97 => 9492#32
  | 98 => 9493#32
  | 99 => 9494#32
  | 100 => 9495#32
  | 101 => 9496#32
  | 102 => 9497#32
  | 103 => 9498#32
  | 104 => 9499#32
  | 105 => 9500#32
  | 106 => 9501#32
  | 107 => 9520#32
  | 108 => 9521#32
  | 109 => 9522#32
  | 110 => 9540#32
  | 111 => 9541#32
  | 112 => 9542#32
  | 113 => 9543#32
  | 114 => 9560#32
  | 115 => 9561#32
  | 116 => 9562#32
  | 117 => 9563#32
  | 118 => 9564#32
  | 119 => 9580#32
  | 120 => 9581#32
  | 121 => 9582#32
  | 122 => 9583#32
  | 123 => 9584#32
  | 124 => 9585#32
  | 125 => 9600#32
  | 126 => 9601#32
  | 127 => 9602#32
  | _ => 0#32

noncomputable abbrev lit0t0_41 (i : Nat) : BitVec 32 := match i % 128 with
  | 0 => 9603#32
  | 1 => 9604#32
  | 2 => 9605#32
  | 3 => 9606#32
  | 4 => 9620#32
  | 5 => 9621#32
  | 6 => 9622#32
  | 7 => 9623#32
  | 8 => 9624#32
  | 9 => 9625#32
  | 10 => 9626#32
  | 11 => 9627#32
  | 12 => 9640#32
  | 13 => 9641#32
  | 14 => 9642#32
  | 15 => 9643#32
  | 16 => 9644#32
  | 17 => 9645#32
  | 18 => 9646#32
  | 19 => 9647#32
  | 20 => 9648#32
  | 21 => 9660#32
  | 22 => 9661#32
  | 23 => 9662#32
  | 24 => 9663#32
  | 25 => 9664#32
  | 26 => 9665#32
  | 27 => 9666#32
  | 28 => 9667#32
  | 29 => 9668#32
  | 30 => 9669#32
  | 31 => 9680#32
  | 32 => 9681#32
  | 33 => 9682#32
  | 34 => 9683#32
  | 35 => 9684#32
  | 36 => 9685#32
  | 37 => 9686#32
  | 38 => 9687#32
  | 39 => 9688#32
  | 40 => 9689#32
  | 41 => 9690#32
  | 42 => 9700#32
  | 43 => 9701#32
  | 44 => 9702#32
  | 45 => 9703#32
  | 46 => 9704#32
  | 47 => 9705#32
  | 48 => 9706#32
  | 49 => 9707#32
  | 50 => 9708#32
  | 51 => 9709#32
  | 52 => 9710#32
  | 53 => 9711#32
  | 54 => 9720#32
  | 55 => 9721#32
  | 56 => 9722#32
  | 57 => 9723#32
  | 58 => 9724#32
  | 59 => 9725#32
  | 60 => 9726#32
  | 61 => 9727#32
  | 62 => 9728#32
  | 63 => 9729#32
  | 64 => 9730#32
  | 65 => 9731#32
  | 66 => 9732#32
  | 67 => 9740#32
  | 68 => 9741#32
  | 69 => 9742#32
  | 70 => 9743#32
  | 71 => 9744#32
  | 72 => 9745#32
  | 73 => 9746#32
  | 74 => 9747#32
  | 75 => 9748#32
  | 76 => 9749#32
  | 77 => 9750#32
  | 78 => 9751#32
  | 79 => 9752#32
  | 80 => 9753#32
  | 81 => 9760#32
  | 82 => 9761#32
  | 83 => 9762#32
  | 84 => 9763#32
  | 85 => 9764#32
  | 86 => 9765#32
  | 87 => 9766#32
  | 88 => 9767#32
  | 89 => 9768#32
  | 90 => 9769#32
  | 91 => 9770#32
  | 92 => 9771#32
  | 93 => 9772#32
  | 94 => 9773#32
  | 95 => 9774#32
  | 96 => 9780#32
  | 97 => 9781#32
  | 98 => 9782#32
  | 99 => 9783#32
  | 100 => 9784#32
  | 101 => 9785#32
  | 102 => 9786#32
  | 103 => 9787#32
  | 104 => 9788#32
  | 105 => 9789#32
  | 106 => 9790#32
  | 107 => 9791#32
  | 108 => 9792#32
  | 109 => 9793#32
  | 110 => 9794#32
  | 111 => 9795#32
  | 112 => 9800#32
  | 113 => 9801#32
  | 114 => 9802#32
  | 115 => 9803#32
  | 116 => 9804#32
  | 117 => 9805#32
  | 118 => 9806#32
  | 119 => 9807#32
  | 120 => 9808#32
  | 121 => 9809#32
  | 122 => 9810#32
  | 123 => 9811#32
  | 124 => 9812#32
  | 125 => 9813#32
  | 126 => 9814#32
  | 127 => 9815#32
  | _ => 0#32

noncomputable abbrev lit0t0_42 (i : Nat) : BitVec 32 := match i % 128 with
  | 0 => 9816#32
  | 1 => 9820#32
  | 2 => 9821#32
  | 3 => 9822#32
  | 4 => 9823#32
  | 5 => 9824#32
  | 6 => 9825#32
  | 7 => 9826#32
  | 8 => 9827#32
  | 9 => 9828#32
  | 10 => 9829#32
  | 11 => 9830#32
  | 12 => 9831#32
  | 13 => 9832#32
  | 14 => 9833#32
  | 15 => 9834#32
  | 16 => 9835#32
  | 17 => 9836#32
  | 18 => 9837#32
  | 19 => 9840#32
  | 20 => 9841#32
  | 21 => 9842#32
  | 22 => 9843#32
  | 23 => 9844#32
  | 24 => 9845#32
  | 25 => 9846#32
  | 26 => 9847#32
  | 27 => 9848#32
  | 28 => 9849#32
  | 29 => 9850#32
  | 30 => 9851#32
  | 31 => 9852#32
  | 32 => 9853#32
  | 33 => 9854#32
  | 34 => 9855#32
  | 35 => 9856#32
  | 36 => 9857#32
  | 37 => 9858#32
  | 38 => 9860#32
  | 39 => 9861#32
  | 40 => 9862#32
  | 41 => 9863#32
  | 42 => 9864#32
  | 43 => 9865#32
  | 44 => 9866#32
  | 45 => 9867#32
  | 46 => 9868#32
  | 47 => 9869#32
  | 48 => 9870#32
  | 49 => 9871#32
  | 50 => 9872#32
  | 51 => 9873#32
  | 52 => 9874#32
  | 53 => 9875#32
  | 54 => 9876#32
  | 55 => 9877#32
  | 56 => 9878#32
  | 57 => 9879#32
  | 58 => 9880#32
  | 59 => 9881#32
  | 60 => 9900#32
  | 61 => 9901#32
  | 62 => 9902#32
  | 63 => 9920#32
  | 64 => 9921#32
  | 65 => 9922#32
  | 66 => 9923#32
  | 67 => 9940#32
  | 68 => 9941#32
  | 69 => 9942#32
  | 70 => 9943#32
  | 71 => 9944#32
  | 72 => 9960#32
  | 73 => 9961#32
  | 74 => 9962#32
  | 75 => 9963#32
  | 76 => 9964#32
  | 77 => 9965#32
  | 78 => 9980#32
  | 79 => 9981#32
  | 80 => 9982#32
  | 81 => 9983#32
  | 82 => 9984#32
  | 83 => 9985#32
  | 84 => 9986#32
  | 85 => 10000#32
  | 86 => 10001#32
  | 87 => 10002#32
  | 88 => 10003#32
  | 89 => 10004#32
  | 90 => 10005#32
  | 91 => 10006#32
  | 92 => 10007#32
  | 93 => 10020#32
  | 94 => 10021#32
  | 95 => 10022#32
  | 96 => 10023#32
  | 97 => 10024#32
  | 98 => 10025#32
  | 99 => 10026#32
  | 100 => 10027#32
  | 101 => 10028#32
  | 102 => 10040#32
  | 103 => 10041#32
  | 104 => 10042#32
  | 105 => 10043#32
  | 106 => 10044#32
  | 107 => 10045#32
  | 108 => 10046#32
  | 109 => 10047#32
  | 110 => 10048#32
  | 111 => 10049#32
  | 112 => 10060#32
  | 113 => 10061#32
  | 114 => 10062#32
  | 115 => 10063#32
  | 116 => 10064#32
  | 117 => 10065#32
  | 118 => 10066#32
  | 119 => 10067#32
  | 120 => 10068#32
  | 121 => 10069#32
  | 122 => 10070#32
  | 123 => 10080#32
  | 124 => 10081#32
  | 125 => 10082#32
  | 126 => 10083#32
  | 127 => 10084#32
  | _ => 0#32

noncomputable abbrev lit0t0_43 (i : Nat) : BitVec 32 := match i % 128 with
  | 0 => 10085#32
  | 1 => 10086#32
  | 2 => 10087#32
  | 3 => 10088#32
  | 4 => 10089#32
  | 5 => 10090#32
  | 6 => 10091#32
  | 7 => 10100#32
  | 8 => 10101#32
  | 9 => 10102#32
  | 10 => 10103#32
  | 11 => 10104#32
  | 12 => 10105#32
  | 13 => 10106#32
  | 14 => 10107#32
  | 15 => 10108#32
  | 16 => 10109#32
  | 17 => 10110#32
  | 18 => 10111#32
  | 19 => 10112#32
  | 20 => 10120#32
  | 21 => 10121#32
  | 22 => 10122#32
  | 23 => 10123#32
  | 24 => 10124#32
  | 25 => 10125#32
  | 26 => 10126#32
  | 27 => 10127#32
  | 28 => 10128#32
  | 29 => 10129#32
  | 30 => 10130#32
  | 31 => 10131#32
  | 32 => 10132#32
  | 33 => 10133#32
  | 34 => 10140#32
  | 35 => 10141#32
  | 36 => 10142#32
  | 37 => 10143#32
  | 38 => 10144#32
  | 39 => 10145#32
  | 40 => 10146#32
  | 41 => 10147#32
  | 42 => 10148#32
  | 43 => 10149#32
  | 44 => 10150#32
  | 45 => 10151#32
  | 46 => 10152#32
  | 47 => 10153#32
  | 48 => 10154#32
  | 49 => 10160#32
  | 50 => 10161#32
  | 51 => 10162#32
  | 52 => 10163#32
  | 53 => 10164#32
  | 54 => 10165#32
  | 55 => 10166#32
  | 56 => 10167#32
  | 57 => 10168#32
  | 58 => 10169#32
  | 59 => 10170#32
  | 60 => 10171#32
  | 61 => 10172#32
  | 62 => 10173#32
  | 63 => 10174#32
  | 64 => 10175#32
  | 65 => 10180#32
  | 66 => 10181#32
  | 67 => 10182#32
  | 68 => 10183#32
  | 69 => 10184#32
  | 70 => 10185#32
  | 71 => 10186#32
  | 72 => 10187#32
  | 73 => 10188#32
  | 74 => 10189#32
  | 75 => 10190#32
  | 76 => 10191#32
  | 77 => 10192#32
  | 78 => 10193#32
  | 79 => 10194#32
  | 80 => 10195#32
  | 81 => 10196#32
  | 82 => 10200#32
  | 83 => 10201#32
  | 84 => 10202#32
  | 85 => 10203#32
  | 86 => 10204#32
  | 87 => 10205#32
  | 88 => 10206#32
  | 89 => 10207#32
  | 90 => 10208#32
  | 91 => 10209#32
  | 92 => 10210#32
  | 93 => 10211#32
  | 94 => 10212#32
  | 95 => 10213#32
  | 96 => 10214#32
  | 97 => 10215#32
  | 98 => 10216#32
  | 99 => 10217#32
  | 100 => 10220#32
  | 101 => 10221#32
  | 102 => 10222#32
  | 103 => 10223#32
  | 104 => 10224#32
  | 105 => 10225#32
  | 106 => 10226#32
  | 107 => 10227#32
  | 108 => 10228#32
  | 109 => 10229#32
  | 110 => 10230#32
  | 111 => 10231#32
  | 112 => 10232#32
  | 113 => 10233#32
  | 114 => 10234#32
  | 115 => 10235#32
  | 116 => 10236#32
  | 117 => 10237#32
  | 118 => 10238#32
  | 119 => 10240#32
  | 120 => 10241#32
  | 121 => 10242#32
  | 122 => 10243#32
  | 123 => 10244#32
  | 124 => 10245#32
  | 125 => 10246#32
  | 126 => 10247#32
  | 127 => 10248#32
  | _ => 0#32

noncomputable abbrev lit0t0_44 (i : Nat) : BitVec 32 := match i % 128 with
  | 0 => 10249#32
  | 1 => 10250#32
  | 2 => 10251#32
  | 3 => 10252#32
  | 4 => 10253#32
  | 5 => 10254#32
  | 6 => 10255#32
  | 7 => 10256#32
  | 8 => 10257#32
  | 9 => 10258#32
  | 10 => 10259#32
  | 11 => 10260#32
  | 12 => 10261#32
  | 13 => 10280#32
  | 14 => 10281#32
  | 15 => 10282#32
  | 16 => 10300#32
  | 17 => 10301#32
  | 18 => 10302#32
  | 19 => 10303#32
  | 20 => 10320#32
  | 21 => 10321#32
  | 22 => 10322#32
  | 23 => 10323#32
  | 24 => 10324#32
  | 25 => 10340#32
  | 26 => 10341#32
  | 27 => 10342#32
  | 28 => 10343#32
  | 29 => 10344#32
  | 30 => 10345#32
  | 31 => 10360#32
  | 32 => 10361#32
  | 33 => 10362#32
  | 34 => 10363#32
  | 35 => 10364#32
  | 36 => 10365#32
  | 37 => 10366#32
  | 38 => 10380#32
  | 39 => 10381#32
  | 40 => 10382#32
  | 41 => 10383#32
  | 42 => 10384#32
  | 43 => 10385#32
  | 44 => 10386#32
  | 45 => 10387#32
  | 46 => 10400#32
  | 47 => 10401#32
  | 48 => 10402#32
  | 49 => 10403#32
  | 50 => 10404#32
  | 51 => 10405#32
  | 52 => 10406#32
  | 53 => 10407#32
  | 54 => 10408#32
  | 55 => 10420#32
  | 56 => 10421#32
  | 57 => 10422#32
  | 58 => 10423#32
  | 59 => 10424#32
  | 60 => 10425#32
  | 61 => 10426#32
  | 62 => 10427#32
  | 63 => 10428#32
  | 64 => 10429#32
  | 65 => 10440#32
  | 66 => 10441#32
  | 67 => 10442#32
  | 68 => 10443#32
  | 69 => 10444#32
  | 70 => 10445#32
  | 71 => 10446#32
  | 72 => 10447#32
  | 73 => 10448#32
  | 74 => 10449#32
  | 75 => 10450#32
  | 76 => 10460#32
  | 77 => 10461#32
  | 78 => 10462#32
  | 79 => 10463#32
  | 80 => 10464#32
  | 81 => 10465#32
  | 82 => 10466#32
  | 83 => 10467#32
  | 84 => 10468#32
  | 85 => 10469#32
  | 86 => 10470#32
  | 87 => 10471#32
  | 88 => 10480#32
  | 89 => 10481#32
  | 90 => 10482#32
  | 91 => 10483#32
  | 92 => 10484#32
  | 93 => 10485#32
  | 94 => 10486#32
  | 95 => 10487#32
  | 96 => 10488#32
  | 97 => 10489#32
  | 98 => 10490#32
  | 99 => 10491#32
  | 100 => 10492#32
  | 101 => 10500#32
  | 102 => 10501#32
  | 103 => 10502#32
  | 104 => 10503#32
  | 105 => 10504#32
  | 106 => 10505#32
  | 107 => 10506#32
  | 108 => 10507#32
  | 109 => 10508#32
  | 110 => 10509#32
  | 111 => 10510#32
  | 112 => 10511#32
  | 113 => 10512#32
  | 114 => 10513#32
  | 115 => 10520#32
  | 116 => 10521#32
  | 117 => 10522#32
  | 118 => 10523#32
  | 119 => 10524#32
  | 120 => 10525#32
  | 121 => 10526#32
  | 122 => 10527#32
  | 123 => 10528#32
  | 124 => 10529#32
  | 125 => 10530#32
  | 126 => 10531#32
  | 127 => 10532#32
  | _ => 0#32

noncomputable abbrev lit0t0_45 (i : Nat) : BitVec 32 := match i % 128 with
  | 0 => 10533#32
  | 1 => 10534#32
  | 2 => 10540#32
  | 3 => 10541#32
  | 4 => 10542#32
  | 5 => 10543#32
  | 6 => 10544#32
  | 7 => 10545#32
  | 8 => 10546#32
  | 9 => 10547#32
  | 10 => 10548#32
  | 11 => 10549#32
  | 12 => 10550#32
  | 13 => 10551#32
  | 14 => 10552#32
  | 15 => 10553#32
  | 16 => 10554#32
  | 17 => 10555#32
  | 18 => 10560#32
  | 19 => 10561#32
  | 20 => 10562#32
  | 21 => 10563#32
  | 22 => 10564#32
  | 23 => 10565#32
  | 24 => 10566#32
  | 25 => 10567#32
  | 26 => 10568#32
  | 27 => 10569#32
  | 28 => 10570#32
  | 29 => 10571#32
  | 30 => 10572#32
  | 31 => 10573#32
  | 32 => 10574#32
  | 33 => 10575#32
  | 34 => 10576#32
  | 35 => 10580#32
  | 36 => 10581#32
  | 37 => 10582#32
  | 38 => 10583#32
  | 39 => 10584#32
  | 40 => 10585#32
  | 41 => 10586#32
  | 42 => 10587#32
  | 43 => 10588#32
  | 44 => 10589#32
  | 45 => 10590#32
  | 46 => 10591#32
  | 47 => 10592#32
  | 48 => 10593#32
  | 49 => 10594#32
  | 50 => 10595#32
  | 51 => 10596#32
  | 52 => 10597#32
  | 53 => 10600#32
  | 54 => 10601#32
  | 55 => 10602#32
  | 56 => 10603#32
  | 57 => 10604#32
  | 58 => 10605#32
  | 59 => 10606#32
  | 60 => 10607#32
  | 61 => 10608#32
  | 62 => 10609#32
  | 63 => 10610#32
  | 64 => 10611#32
  | 65 => 10612#32
  | 66 => 10613#32
  | 67 => 10614#32
  | 68 => 10615#32
  | 69 => 10616#32
  | 70 => 10617#32
  | 71 => 10618#32
  | 72 => 10620#32
  | 73 => 10621#32
  | 74 => 10622#32
  | 75 => 10623#32
  | 76 => 10624#32
  | 77 => 10625#32
  | 78 => 10626#32
  | 79 => 10627#32
  | 80 => 10628#32
  | 81 => 10629#32
  | 82 => 10630#32
  | 83 => 10631#32
  | 84 => 10632#32
  | 85 => 10633#32
  | 86 => 10634#32
  | 87 => 10635#32
  | 88 => 10636#32
  | 89 => 10637#32
  | 90 => 10638#32
  | 91 => 10639#32
  | 92 => 10640#32
  | 93 => 10641#32
  | 94 => 10660#32
  | 95 => 10661#32
  | 96 => 10662#32
  | 97 => 10680#32
  | 98 => 10681#32
  | 99 => 10682#32
  | 100 => 10683#32
  | 101 => 10700#32
  | 102 => 10701#32
  | 103 => 10702#32
  | 104 => 10703#32
  | 105 => 10704#32
  | 106 => 10720#32
  | 107 => 10721#32
  | 108 => 10722#32
  | 109 => 10723#32
  | 110 => 10724#32
  | 111 => 10725#32
  | 112 => 10740#32
  | 113 => 10741#32
  | 114 => 10742#32
  | 115 => 10743#32
  | 116 => 10744#32
  | 117 => 10745#32
  | 118 => 10746#32
  | 119 => 10760#32
  | 120 => 10761#32
  | 121 => 10762#32
  | 122 => 10763#32
  | 123 => 10764#32
  | 124 => 10765#32
  | 125 => 10766#32
  | 126 => 10767#32
  | 127 => 10780#32
  | _ => 0#32

noncomputable abbrev lit0t0_46 (i : Nat) : BitVec 32 := match i % 128 with
  | 0 => 10781#32
  | 1 => 10782#32
  | 2 => 10783#32
  | 3 => 10784#32
  | 4 => 10785#32
  | 5 => 10786#32
  | 6 => 10787#32
  | 7 => 10788#32
  | 8 => 10800#32
  | 9 => 10801#32
  | 10 => 10802#32
  | 11 => 10803#32
  | 12 => 10804#32
  | 13 => 10805#32
  | 14 => 10806#32
  | 15 => 10807#32
  | 16 => 10808#32
  | 17 => 10809#32
  | 18 => 10820#32
  | 19 => 10821#32
  | 20 => 10822#32
  | 21 => 10823#32
  | 22 => 10824#32
  | 23 => 10825#32
  | 24 => 10826#32
  | 25 => 10827#32
  | 26 => 10828#32
  | 27 => 10829#32
  | 28 => 10830#32
  | 29 => 10840#32
  | 30 => 10841#32
  | 31 => 10842#32
  | 32 => 10843#32
  | 33 => 10844#32
  | 34 => 10845#32
  | 35 => 10846#32
  | 36 => 10847#32
  | 37 => 10848#32
  | 38 => 10849#32
  | 39 => 10850#32
  | 40 => 10851#32
  | 41 => 10860#32
  | 42 => 10861#32
  | 43 => 10862#32
  | 44 => 10863#32
  | 45 => 10864#32
  | 46 => 10865#32
  | 47 => 10866#32
  | 48 => 10867#32
  | 49 => 10868#32
  | 50 => 10869#32
  | 51 => 10870#32
  | 52 => 10871#32
  | 53 => 10872#32
  | 54 => 10880#32
  | 55 => 10881#32
  | 56 => 10882#32
  | 57 => 10883#32
  | 58 => 10884#32
  | 59 => 10885#32
  | 60 => 10886#32
  | 61 => 10887#32
  | 62 => 10888#32
  | 63 => 10889#32
  | 64 => 10890#32
  | 65 => 10891#32
  | 66 => 10892#32
  | 67 => 10893#32
  | 68 => 10900#32
  | 69 => 10901#32
  | 70 => 10902#32
  | 71 => 10903#32
  | 72 => 10904#32
  | 73 => 10905#32
  | 74 => 10906#32
  | 75 => 10907#32
  | 76 => 10908#32
  | 77 => 10909#32
  | 78 => 10910#32
  | 79 => 10911#32
  | 80 => 10912#32
  | 81 => 10913#32
  | 82 => 10914#32
  | 83 => 10920#32
  | 84 => 10921#32
  | 85 => 10922#32
  | 86 => 10923#32
  | 87 => 10924#32
  | 88 => 10925#32
  | 89 => 10926#32
  | 90 => 10927#32
  | 91 => 10928#32
  | 92 => 10929#32
  | 93 => 10930#32
  | 94 => 10931#32
  | 95 => 10932#32
  | 96 => 10933#32
  | 97 => 10934#32
  | 98 => 10935#32
  | 99 => 10940#32
  | 100 => 10941#32
  | 101 => 10942#32
  | 102 => 10943#32
  | 103 => 10944#32
  | 104 => 10945#32
  | 105 => 10946#32
  | 106 => 10947#32
  | 107 => 10948#32
  | 108 => 10949#32
  | 109 => 10950#32
  | 110 => 10951#32
  | 111 => 10952#32
  | 112 => 10953#32
  | 113 => 10954#32
  | 114 => 10955#32
  | 115 => 10956#32
  | 116 => 10960#32
  | 117 => 10961#32
  | 118 => 10962#32
  | 119 => 10963#32
  | 120 => 10964#32
  | 121 => 10965#32
  | 122 => 10966#32
  | 123 => 10967#32
  | 124 => 10968#32
  | 125 => 10969#32
  | 126 => 10970#32
  | 127 => 10971#32
  | _ => 0#32

noncomputable abbrev lit0t0_47 (i : Nat) : BitVec 32 := match i % 128 with
  | 0 => 10972#32
  | 1 => 10973#32
  | 2 => 10974#32
  | 3 => 10975#32
  | 4 => 10976#32
  | 5 => 10977#32
  | 6 => 10980#32
  | 7 => 10981#32
  | 8 => 10982#32
  | 9 => 10983#32
  | 10 => 10984#32
  | 11 => 10985#32
  | 12 => 10986#32
  | 13 => 10987#32
  | 14 => 10988#32
  | 15 => 10989#32
  | 16 => 10990#32
  | 17 => 10991#32
  | 18 => 10992#32
  | 19 => 10993#32
  | 20 => 10994#32
  | 21 => 10995#32
  | 22 => 10996#32
  | 23 => 10997#32
  | 24 => 10998#32
  | 25 => 11000#32
  | 26 => 11001#32
  | 27 => 11002#32
  | 28 => 11003#32
  | 29 => 11004#32
  | 30 => 11005#32
  | 31 => 11006#32
  | 32 => 11007#32
  | 33 => 11008#32
  | 34 => 11009#32
  | 35 => 11010#32
  | 36 => 11011#32
  | 37 => 11012#32
  | 38 => 11013#32
  | 39 => 11014#32
  | 40 => 11015#32
  | 41 => 11016#32
  | 42 => 11017#32
  | 43 => 11018#32
  | 44 => 11019#32
  | 45 => 11020#32
  | 46 => 11021#32
  | 47 => 11040#32
  | 48 => 11041#32
  | 49 => 11042#32
  | 50 => 11060#32
  | 51 => 11061#32
  | 52 => 11062#32
  | 53 => 11063#32
  | 54 => 11080#32
  | 55 => 11081#32
  | 56 => 11082#32
  | 57 => 11083#32
  | 58 => 11084#32
  | 59 => 11100#32
  | 60 => 11101#32
  | 61 => 11102#32
  | 62 => 11103#32
  | 63 => 11104#32
  | 64 => 11105#32
  | 65 => 11120#32
  | 66 => 11121#32
  | 67 => 11122#32
  | 68 => 11123#32
  | 69 => 11124#32
  | 70 => 11125#32
  | 71 => 11126#32
  | 72 => 11140#32
  | 73 => 11141#32
  | 74 => 11142#32
  | 75 => 11143#32
  | 76 => 11144#32
  | 77 => 11145#32
  | 78 => 11146#32
  | 79 => 11147#32
  | 80 => 11160#32
  | 81 => 11161#32
  | 82 => 11162#32
  | 83 => 11163#32
  | 84 => 11164#32
  | 85 => 11165#32
  | 86 => 11166#32
  | 87 => 11167#32
  | 88 => 11168#32
  | 89 => 11180#32
  | 90 => 11181#32
  | 91 => 11182#32
  | 92 => 11183#32
  | 93 => 11184#32
  | 94 => 11185#32
  | 95 => 11186#32
  | 96 => 11187#32
  | 97 => 11188#32
  | 98 => 11189#32
  | 99 => 11200#32
  | 100 => 11201#32
  | 101 => 11202#32
  | 102 => 11203#32
  | 103 => 11204#32
  | 104 => 11205#32
  | 105 => 11206#32
  | 106 => 11207#32
  | 107 => 11208#32
  | 108 => 11209#32
  | 109 => 11210#32
  | 110 => 11220#32
  | 111 => 11221#32
  | 112 => 11222#32
  | 113 => 11223#32
  | 114 => 11224#32
  | 115 => 11225#32
  | 116 => 11226#32
  | 117 => 11227#32
  | 118 => 11228#32
  | 119 => 11229#32
  | 120 => 11230#32
  | 121 => 11231#32
  | 122 => 11240#32
  | 123 => 11241#32
  | 124 => 11242#32
  | 125 => 11243#32
  | 126 => 11244#32
  | 127 => 11245#32
  | _ => 0#32

noncomputable abbrev lit0t0_48 (i : Nat) : BitVec 32 := match i % 128 with
  | 0 => 11246#32
  | 1 => 11247#32
  | 2 => 11248#32
  | 3 => 11249#32
  | 4 => 11250#32
  | 5 => 11251#32
  | 6 => 11252#32
  | 7 => 11260#32
  | 8 => 11261#32
  | 9 => 11262#32
  | 10 => 11263#32
  | 11 => 11264#32
  | 12 => 11265#32
  | 13 => 11266#32
  | 14 => 11267#32
  | 15 => 11268#32
  | 16 => 11269#32
  | 17 => 11270#32
  | 18 => 11271#32
  | 19 => 11272#32
  | 20 => 11273#32
  | 21 => 11280#32
  | 22 => 11281#32
  | 23 => 11282#32
  | 24 => 11283#32
  | 25 => 11284#32
  | 26 => 11285#32
  | 27 => 11286#32
  | 28 => 11287#32
  | 29 => 11288#32
  | 30 => 11289#32
  | 31 => 11290#32
  | 32 => 11291#32
  | 33 => 11292#32
  | 34 => 11293#32
  | 35 => 11294#32
  | 36 => 11300#32
  | 37 => 11301#32
  | 38 => 11302#32
  | 39 => 11303#32
  | 40 => 11304#32
  | 41 => 11305#32
  | 42 => 11306#32
  | 43 => 11307#32
  | 44 => 11308#32
  | 45 => 11309#32
  | 46 => 11310#32
  | 47 => 11311#32
  | 48 => 11312#32
  | 49 => 11313#32
  | 50 => 11314#32
  | 51 => 11315#32
  | 52 => 11320#32
  | 53 => 11321#32
  | 54 => 11322#32
  | 55 => 11323#32
  | 56 => 11324#32
  | 57 => 11325#32
  | 58 => 11326#32
  | 59 => 11327#32
  | 60 => 11328#32
  | 61 => 11329#32
  | 62 => 11330#32
  | 63 => 11331#32
  | 64 => 11332#32
  | 65 => 11333#32
  | 66 => 11334#32
  | 67 => 11335#32
  | 68 => 11336#32
  | 69 => 11340#32
  | 70 => 11341#32
  | 71 => 11342#32
  | 72 => 11343#32
  | 73 => 11344#32
  | 74 => 11345#32
  | 75 => 11346#32
  | 76 => 11347#32
  | 77 => 11348#32
  | 78 => 11349#32
  | 79 => 11350#32
  | 80 => 11351#32
  | 81 => 11352#32
  | 82 => 11353#32
  | 83 => 11354#32
  | 84 => 11355#32
  | 85 => 11356#32
  | 86 => 11357#32
  | 87 => 11360#32
  | 88 => 11361#32
  | 89 => 11362#32
  | 90 => 11363#32
  | 91 => 11364#32
  | 92 => 11365#32
  | 93 => 11366#32
  | 94 => 11367#32
  | 95 => 11368#32
  | 96 => 11369#32
  | 97 => 11370#32
  | 98 => 11371#32
  | 99 => 11372#32
  | 100 => 11373#32
  | 101 => 11374#32
  | 102 => 11375#32
  | 103 => 11376#32
  | 104 => 11377#32
  | 105 => 11378#32
  | 106 => 11380#32
  | 107 => 11381#32
  | 108 => 11382#32
  | 109 => 11383#32
  | 110 => 11384#32
  | 111 => 11385#32
  | 112 => 11386#32
  | 113 => 11387#32
  | 114 => 11388#32
  | 115 => 11389#32
  | 116 => 11390#32
  | 117 => 11391#32
  | 118 => 11392#32
  | 119 => 11393#32
  | 120 => 11394#32
  | 121 => 11395#32
  | 122 => 11396#32
  | 123 => 11397#32
  | 124 => 11398#32
  | 125 => 11399#32
  | 126 => 11400#32
  | 127 => 11401#32
  | _ => 0#32

noncomputable abbrev lit0t0_49 (i : Nat) : BitVec 32 := match i % 128 with
  | 0 => 11420#32
  | 1 => 11421#32
  | 2 => 11422#32
  | 3 => 11440#32
  | 4 => 11441#32
  | 5 => 11442#32
  | 6 => 11443#32
  | 7 => 11460#32
  | 8 => 11461#32
  | 9 => 11462#32
  | 10 => 11463#32
  | 11 => 11464#32
  | 12 => 11480#32
  | 13 => 11481#32
  | 14 => 11482#32
  | 15 => 11483#32
  | 16 => 11484#32
  | 17 => 11485#32
  | 18 => 11500#32
  | 19 => 11501#32
  | 20 => 11502#32
  | 21 => 11503#32
  | 22 => 11504#32
  | 23 => 11505#32
  | 24 => 11506#32
  | 25 => 11520#32
  | 26 => 11521#32
  | 27 => 11522#32
  | 28 => 11523#32
  | 29 => 11524#32
  | 30 => 11525#32
  | 31 => 11526#32
  | 32 => 11527#32
  | 33 => 11540#32
  | 34 => 11541#32
  | 35 => 11542#32
  | 36 => 11543#32
  | 37 => 11544#32
  | 38 => 11545#32
  | 39 => 11546#32
  | 40 => 11547#32
  | 41 => 11548#32
  | 42 => 11560#32
  | 43 => 11561#32
  | 44 => 11562#32
  | 45 => 11563#32
  | 46 => 11564#32
  | 47 => 11565#32
  | 48 => 11566#32
  | 49 => 11567#32
  | 50 => 11568#32
  | 51 => 11569#32
  | 52 => 11580#32
  | 53 => 11581#32
  | 54 => 11582#32
  | 55 => 11583#32
  | 56 => 11584#32
  | 57 => 11585#32
  | 58 => 11586#32
  | 59 => 11587#32
  | 60 => 11588#32
  | 61 => 11589#32
  | 62 => 11590#32
  | 63 => 11600#32
  | 64 => 11601#32
  | 65 => 11602#32
  | 66 => 11603#32
  | 67 => 11604#32
  | 68 => 11605#32
  | 69 => 11606#32
  | 70 => 11607#32
  | 71 => 11608#32
  | 72 => 11609#32
  | 73 => 11610#32
  | 74 => 11611#32
  | 75 => 11620#32
  | 76 => 11621#32
  | 77 => 11622#32
  | 78 => 11623#32
  | 79 => 11624#32
  | 80 => 11625#32
  | 81 => 11626#32
  | 82 => 11627#32
  | 83 => 11628#32
  | 84 => 11629#32
  | 85 => 11630#32
  | 86 => 11631#32
  | 87 => 11632#32
  | 88 => 11640#32
  | 89 => 11641#32
  | 90 => 11642#32
  | 91 => 11643#32
  | 92 => 11644#32
  | 93 => 11645#32
  | 94 => 11646#32
  | 95 => 11647#32
  | 96 => 11648#32
  | 97 => 11649#32
  | 98 => 11650#32
  | 99 => 11651#32
  | 100 => 11652#32
  | 101 => 11653#32
  | 102 => 11660#32
  | 103 => 11661#32
  | 104 => 11662#32
  | 105 => 11663#32
  | 106 => 11664#32
  | 107 => 11665#32
  | 108 => 11666#32
  | 109 => 11667#32
  | 110 => 11668#32
  | 111 => 11669#32
  | 112 => 11670#32
  | 113 => 11671#32
  | 114 => 11672#32
  | 115 => 11673#32
  | 116 => 11674#32
  | 117 => 11680#32
  | 118 => 11681#32
  | 119 => 11682#32
  | 120 => 11683#32
  | 121 => 11684#32
  | 122 => 11685#32
  | 123 => 11686#32
  | 124 => 11687#32
  | 125 => 11688#32
  | 126 => 11689#32
  | 127 => 11690#32
  | _ => 0#32

noncomputable abbrev lit0t0_50 (i : Nat) : BitVec 32 := match i % 128 with
  | 0 => 11691#32
  | 1 => 11692#32
  | 2 => 11693#32
  | 3 => 11694#32
  | 4 => 11695#32
  | 5 => 11700#32
  | 6 => 11701#32
  | 7 => 11702#32
  | 8 => 11703#32
  | 9 => 11704#32
  | 10 => 11705#32
  | 11 => 11706#32
  | 12 => 11707#32
  | 13 => 11708#32
  | 14 => 11709#32
  | 15 => 11710#32
  | 16 => 11711#32
  | 17 => 11712#32
  | 18 => 11713#32
  | 19 => 11714#32
  | 20 => 11715#32
  | 21 => 11716#32
  | 22 => 11720#32
  | 23 => 11721#32
  | 24 => 11722#32
  | 25 => 11723#32
  | 26 => 11724#32
  | 27 => 11725#32
  | 28 => 11726#32
  | 29 => 11727#32
  | 30 => 11728#32
  | 31 => 11729#32
  | 32 => 11730#32
  | 33 => 11731#32
  | 34 => 11732#32
  | 35 => 11733#32
  | 36 => 11734#32
  | 37 => 11735#32
  | 38 => 11736#32
  | 39 => 11737#32
  | 40 => 11740#32
  | 41 => 11741#32
  | 42 => 11742#32
  | 43 => 11743#32
  | 44 => 11744#32
  | 45 => 11745#32
  | 46 => 11746#32
  | 47 => 11747#32
  | 48 => 11748#32
  | 49 => 11749#32
  | 50 => 11750#32
  | 51 => 11751#32
  | 52 => 11752#32
  | 53 => 11753#32
  | 54 => 11754#32
  | 55 => 11755#32
  | 56 => 11756#32
  | 57 => 11757#32
  | 58 => 11758#32
  | 59 => 11760#32
  | 60 => 11761#32
  | 61 => 11762#32
  | 62 => 11763#32
  | 63 => 11764#32
  | 64 => 11765#32
  | 65 => 11766#32
  | 66 => 11767#32
  | 67 => 11768#32
  | 68 => 11769#32
  | 69 => 11770#32
  | 70 => 11771#32
  | 71 => 11772#32
  | 72 => 11773#32
  | 73 => 11774#32
  | 74 => 11775#32
  | 75 => 11776#32
  | 76 => 11777#32
  | 77 => 11778#32
  | 78 => 11779#32
  | 79 => 11780#32
  | 80 => 11781#32
  | 81 => 11800#32
  | 82 => 11801#32
  | 83 => 11802#32
  | 84 => 11820#32
  | 85 => 11821#32
  | 86 => 11822#32
  | 87 => 11823#32
  | 88 => 11840#32
  | 89 => 11841#32
  | 90 => 11842#32
  | 91 => 11843#32
  | 92 => 11844#32
  | 93 => 11860#32
  | 94 => 11861#32
  | 95 => 11862#32
  | 96 => 11863#32
  | 97 => 11864#32
  | 98 => 11865#32
  | 99 => 11880#32
  | 100 => 11881#32
  | 101 => 11882#32
  | 102 => 11883#32
  | 103 => 11884#32
  | 104 => 11885#32
  | 105 => 11886#32
  | 106 => 11900#32
  | 107 => 11901#32
  | 108 => 11902#32
  | 109 => 11903#32
  | 110 => 11904#32
  | 111 => 11905#32
  | 112 => 11906#32
  | 113 => 11907#32
  | 114 => 11920#32
  | 115 => 11921#32
  | 116 => 11922#32
  | 117 => 11923#32
  | 118 => 11924#32
  | 119 => 11925#32
  | 120 => 11926#32
  | 121 => 11927#32
  | 122 => 11928#32
  | 123 => 11940#32
  | 124 => 11941#32
  | 125 => 11942#32
  | 126 => 11943#32
  | 127 => 11944#32
  | _ => 0#32

noncomputable abbrev lit0t0_51 (i : Nat) : BitVec 32 := match i % 128 with
  | 0 => 11945#32
  | 1 => 11946#32
  | 2 => 11947#32
  | 3 => 11948#32
  | 4 => 11949#32
  | 5 => 11960#32
  | 6 => 11961#32
  | 7 => 11962#32
  | 8 => 11963#32
  | 9 => 11964#32
  | 10 => 11965#32
  | 11 => 11966#32
  | 12 => 11967#32
  | 13 => 11968#32
  | 14 => 11969#32
  | 15 => 11970#32
  | 16 => 11980#32
  | 17 => 11981#32
  | 18 => 11982#32
  | 19 => 11983#32
  | 20 => 11984#32
  | 21 => 11985#32
  | 22 => 11986#32
  | 23 => 11987#32
  | 24 => 11988#32
  | 25 => 11989#32
  | 26 => 11990#32
  | 27 => 11991#32
  | 28 => 12000#32
  | 29 => 12001#32
  | 30 => 12002#32
  | 31 => 12003#32
  | 32 => 12004#32
  | 33 => 12005#32
  | 34 => 12006#32
  | 35 => 12007#32
  | 36 => 12008#32
  | 37 => 12009#32
  | 38 => 12010#32
  | 39 => 12011#32
  | 40 => 12012#32
  | 41 => 12020#32
  | 42 => 12021#32
  | 43 => 12022#32
  | 44 => 12023#32
  | 45 => 12024#32
  | 46 => 12025#32
  | 47 => 12026#32
  | 48 => 12027#32
  | 49 => 12028#32
  | 50 => 12029#32
  | 51 => 12030#32
  | 52 => 12031#32
  | 53 => 12032#32
  | 54 => 12033#32
  | 55 => 12040#32
  | 56 => 12041#32
  | 57 => 12042#32
  | 58 => 12043#32
  | 59 => 12044#32
  | 60 => 12045#32
  | 61 => 12046#32
  | 62 => 12047#32
  | 63 => 12048#32
  | 64 => 12049#32
  | 65 => 12050#32
  | 66 => 12051#32
  | 67 => 12052#32
  | 68 => 12053#32
  | 69 => 12054#32
  | 70 => 12060#32
  | 71 => 12061#32
  | 72 => 12062#32
  | 73 => 12063#32
  | 74 => 12064#32
  | 75 => 12065#32
  | 76 => 12066#32
  | 77 => 12067#32
  | 78 => 12068#32
  | 79 => 12069#32
  | 80 => 12070#32
  | 81 => 12071#32
  | 82 => 12072#32
  | 83 => 12073#32
  | 84 => 12074#32
  | 85 => 12075#32
  | 86 => 12080#32
  | 87 => 12081#32
  | 88 => 12082#32
  | 89 => 12083#32
  | 90 => 12084#32
  | 91 => 12085#32
  | 92 => 12086#32
  | 93 => 12087#32
  | 94 => 12088#32
  | 95 => 12089#32
  | 96 => 12090#32
  | 97 => 12091#32
  | 98 => 12092#32
  | 99 => 12093#32
  | 100 => 12094#32
  | 101 => 12095#32
  | 102 => 12096#32
  | 103 => 12100#32
  | 104 => 12101#32
  | 105 => 12102#32
  | 106 => 12103#32
  | 107 => 12104#32
  | 108 => 12105#32
  | 109 => 12106#32
  | 110 => 12107#32
  | 111 => 12108#32
  | 112 => 12109#32
  | 113 => 12110#32
  | 114 => 12111#32
  | 115 => 12112#32
  | 116 => 12113#32
  | 117 => 12114#32
  | 118 => 12115#32
  | 119 => 12116#32
  | 120 => 12117#32
  | 121 => 12120#32
  | 122 => 12121#32
  | 123 => 12122#32
  | 124 => 12123#32
  | 125 => 12124#32
  | 126 => 12125#32
  | 127 => 12126#32
  | _ => 0#32

noncomputable abbrev lit0t0_52 (i : Nat) : BitVec 32 := match i % 128 with
  | 0 => 12127#32
  | 1 => 12128#32
  | 2 => 12129#32
  | 3 => 12130#32
  | 4 => 12131#32
  | 5 => 12132#32
  | 6 => 12133#32
  | 7 => 12134#32
  | 8 => 12135#32
  | 9 => 12136#32
  | 10 => 12137#32
  | 11 => 12138#32
  | 12 => 12140#32
  | 13 => 12141#32
  | 14 => 12142#32
  | 15 => 12143#32
  | 16 => 12144#32
  | 17 => 12145#32
  | 18 => 12146#32
  | 19 => 12147#32
  | 20 => 12148#32
  | 21 => 12149#32
  | 22 => 12150#32
  | 23 => 12151#32
  | 24 => 12152#32
  | 25 => 12153#32
  | 26 => 12154#32
  | 27 => 12155#32
  | 28 => 12156#32
  | 29 => 12157#32
  | 30 => 12158#32
  | 31 => 12159#32
  | 32 => 12160#32
  | 33 => 12161#32
  | 34 => 12180#32
  | 35 => 12181#32
  | 36 => 12182#32
  | 37 => 12200#32
  | 38 => 12201#32
  | 39 => 12202#32
  | 40 => 12203#32
  | 41 => 12220#32
  | 42 => 12221#32
  | 43 => 12222#32
  | 44 => 12223#32
  | 45 => 12224#32
  | 46 => 12240#32
  | 47 => 12241#32
  | 48 => 12242#32
  | 49 => 12243#32
  | 50 => 12244#32
  | 51 => 12245#32
  | 52 => 12260#32
  | 53 => 12261#32
  | 54 => 12262#32
  | 55 => 12263#32
  | 56 => 12264#32
  | 57 => 12265#32
  | 58 => 12266#32
  | 59 => 12280#32
  | 60 => 12281#32
  | 61 => 12282#32
  | 62 => 12283#32
  | 63 => 12284#32
  | 64 => 12285#32
  | 65 => 12286#32
  | 66 => 12287#32
  | 67 => 12300#32
  | 68 => 12301#32
  | 69 => 12302#32
  | 70 => 12303#32
  | 71 => 12304#32
  | 72 => 12305#32
  | 73 => 12306#32
  | 74 => 12307#32
  | 75 => 12308#32
  | 76 => 12320#32
  | 77 => 12321#32
  | 78 => 12322#32
  | 79 => 12323#32
  | 80 => 12324#32
  | 81 => 12325#32
  | 82 => 12326#32
  | 83 => 12327#32
  | 84 => 12328#32
  | 85 => 12329#32
  | 86 => 12340#32
  | 87 => 12341#32
  | 88 => 12342#32
  | 89 => 12343#32
  | 90 => 12344#32
  | 91 => 12345#32
  | 92 => 12346#32
  | 93 => 12347#32
  | 94 => 12348#32
  | 95 => 12349#32
  | 96 => 12350#32
  | 97 => 12360#32
  | 98 => 12361#32
  | 99 => 12362#32
  | 100 => 12363#32
  | 101 => 12364#32
  | 102 => 12365#32
  | 103 => 12366#32
  | 104 => 12367#32
  | 105 => 12368#32
  | 106 => 12369#32
  | 107 => 12370#32
  | 108 => 12371#32
  | 109 => 12380#32
  | 110 => 12381#32
  | 111 => 12382#32
  | 112 => 12383#32
  | 113 => 12384#32
  | 114 => 12385#32
  | 115 => 12386#32
  | 116 => 12387#32
  | 117 => 12388#32
  | 118 => 12389#32
  | 119 => 12390#32
  | 120 => 12391#32
  | 121 => 12392#32
  | 122 => 12400#32
  | 123 => 12401#32
  | 124 => 12402#32
  | 125 => 12403#32
  | 126 => 12404#32
  | 127 => 12405#32
  | _ => 0#32

noncomputable abbrev lit0t0_53 (i : Nat) : BitVec 32 := match i % 128 with
  | 0 => 12406#32
  | 1 => 12407#32
  | 2 => 12408#32
  | 3 => 12409#32
  | 4 => 12410#32
  | 5 => 12411#32
  | 6 => 12412#32
  | 7 => 12413#32
  | 8 => 12420#32
  | 9 => 12421#32
  | 10 => 12422#32
  | 11 => 12423#32
  | 12 => 12424#32
  | 13 => 12425#32
  | 14 => 12426#32
  | 15 => 12427#32
  | 16 => 12428#32
  | 17 => 12429#32
  | 18 => 12430#32
  | 19 => 12431#32
  | 20 => 12432#32
  | 21 => 12433#32
  | 22 => 12434#32
  | 23 => 12440#32
  | 24 => 12441#32
  | 25 => 12442#32
  | 26 => 12443#32
  | 27 => 12444#32
  | 28 => 12445#32
  | 29 => 12446#32
  | 30 => 12447#32
  | 31 => 12448#32
  | 32 => 12449#32
  | 33 => 12450#32
  | 34 => 12451#32
  | 35 => 12452#32
  | 36 => 12453#32
  | 37 => 12454#32
  | 38 => 12455#32
  | 39 => 12460#32
  | 40 => 12461#32
  | 41 => 12462#32
  | 42 => 12463#32
  | 43 => 12464#32
  | 44 => 12465#32
  | 45 => 12466#32
  | 46 => 12467#32
  | 47 => 12468#32
  | 48 => 12469#32
  | 49 => 12470#32
  | 50 => 12471#32
  | 51 => 12472#32
  | 52 => 12473#32
  | 53 => 12474#32
  | 54 => 12475#32
  | 55 => 12476#32
  | 56 => 12480#32
  | 57 => 12481#32
  | 58 => 12482#32
  | 59 => 12483#32
  | 60 => 12484#32
  | 61 => 12485#32
  | 62 => 12486#32
  | 63 => 12487#32
  | 64 => 12488#32
  | 65 => 12489#32
  | 66 => 12490#32
  | 67 => 12491#32
  | 68 => 12492#32
  | 69 => 12493#32
  | 70 => 12494#32
  | 71 => 12495#32
  | 72 => 12496#32
  | 73 => 12497#32
  | 74 => 12500#32
  | 75 => 12501#32
  | 76 => 12502#32
  | 77 => 12503#32
  | 78 => 12504#32
  | 79 => 12505#32
  | 80 => 12506#32
  | 81 => 12507#32
  | 82 => 12508#32
  | 83 => 12509#32
  | 84 => 12510#32
  | 85 => 12511#32
  | 86 => 12512#32
  | 87 => 12513#32
  | 88 => 12514#32
  | 89 => 12515#32
  | 90 => 12516#32
  | 91 => 12517#32
  | 92 => 12518#32
  | 93 => 12520#32
  | 94 => 12521#32
  | 95 => 12522#32
  | 96 => 12523#32
  | 97 => 12524#32
  | 98 => 12525#32
  | 99 => 12526#32
  | 100 => 12527#32
  | 101 => 12528#32
  | 102 => 12529#32
  | 103 => 12530#32
  | 104 => 12531#32
  | 105 => 12532#32
  | 106 => 12533#32
  | 107 => 12534#32
  | 108 => 12535#32
  | 109 => 12536#32
  | 110 => 12537#32
  | 111 => 12538#32
  | 112 => 12539#32
  | 113 => 12540#32
  | 114 => 12541#32
  | 115 => 12560#32
  | 116 => 12561#32
  | 117 => 12562#32
  | 118 => 12580#32
  | 119 => 12581#32
  | 120 => 12582#32
  | 121 => 12583#32
  | 122 => 12600#32
  | 123 => 12601#32
  | 124 => 12602#32
  | 125 => 12603#32
  | 126 => 12604#32
  | 127 => 12620#32
  | _ => 0#32

noncomputable abbrev lit0t0_54 (i : Nat) : BitVec 32 := match i % 128 with
  | 0 => 12621#32
  | 1 => 12622#32
  | 2 => 12623#32
  | 3 => 12624#32
  | 4 => 12625#32
  | 5 => 12640#32
  | 6 => 12641#32
  | 7 => 12642#32
  | 8 => 12643#32
  | 9 => 12644#32
  | 10 => 12645#32
  | 11 => 12646#32
  | 12 => 12660#32
  | 13 => 12661#32
  | 14 => 12662#32
  | 15 => 12663#32
  | 16 => 12664#32
  | 17 => 12665#32
  | 18 => 12666#32
  | 19 => 12667#32
  | 20 => 12680#32
  | 21 => 12681#32
  | 22 => 12682#32
  | 23 => 12683#32
  | 24 => 12684#32
  | 25 => 12685#32
  | 26 => 12686#32
  | 27 => 12687#32
  | 28 => 12688#32
  | 29 => 12700#32
  | 30 => 12701#32
  | 31 => 12702#32
  | 32 => 12703#32
  | 33 => 12704#32
  | 34 => 12705#32
  | 35 => 12706#32
  | 36 => 12707#32
  | 37 => 12708#32
  | 38 => 12709#32
  | 39 => 12720#32
  | 40 => 12721#32
  | 41 => 12722#32
  | 42 => 12723#32
  | 43 => 12724#32
  | 44 => 12725#32
  | 45 => 12726#32
  | 46 => 12727#32
  | 47 => 12728#32
  | 48 => 12729#32
  | 49 => 12730#32
  | 50 => 12740#32
  | 51 => 12741#32
  | 52 => 12742#32
  | 53 => 12743#32
  | 54 => 12744#32
  | 55 => 12745#32
  | 56 => 12746#32
  | 57 => 12747#32
  | 58 => 12748#32
  | 59 => 12749#32
  | 60 => 12750#32
  | 61 => 12751#32
  | 62 => 12760#32
  | 63 => 12761#32
  | 64 => 12762#32
  | 65 => 12763#32
  | 66 => 12764#32
  | 67 => 12765#32
  | 68 => 12766#32
  | 69 => 12767#32
  | 70 => 12768#32
  | 71 => 12769#32
  | 72 => 12770#32
  | 73 => 12771#32
  | 74 => 12772#32
  | 75 => 12780#32
  | 76 => 12781#32
  | 77 => 12782#32
  | 78 => 12783#32
  | 79 => 12784#32
  | 80 => 12785#32
  | 81 => 12786#32
  | 82 => 12787#32
  | 83 => 12788#32
  | 84 => 12789#32
  | 85 => 12790#32
  | 86 => 12791#32
  | 87 => 12792#32
  | 88 => 12793#32
  | 89 => 12800#32
  | 90 => 12801#32
  | 91 => 12802#32
  | 92 => 12803#32
  | 93 => 12804#32
  | 94 => 12805#32
  | 95 => 12806#32
  | 96 => 12807#32
  | 97 => 12808#32
  | 98 => 12809#32
  | 99 => 12810#32
  | 100 => 12811#32
  | 101 => 12812#32
  | 102 => 12813#32
  | 103 => 12814#32
  | 104 => 12820#32
  | 105 => 12821#32
  | 106 => 12822#32
  | 107 => 12823#32
  | 108 => 12824#32
  | 109 => 12825#32
  | 110 => 12826#32
  | 111 => 12827#32
  | 112 => 12828#32
  | 113 => 12829#32
  | 114 => 12830#32
  | 115 => 12831#32
  | 116 => 12832#32
  | 117 => 12833#32
  | 118 => 12834#32
  | 119 => 12835#32
  | 120 => 12840#32
  | 121 => 12841#32
  | 122 => 12842#32
  | 123 => 12843#32
  | 124 => 12844#32
  | 125 => 12845#32
  | 126 => 12846#32
  | 127 => 12847#32
  | _ => 0#32

noncomputable abbrev lit0t0_55 (i : Nat) : BitVec 32 := match i % 128 with
  | 0 => 12848#32
  | 1 => 12849#32
  | 2 => 12850#32
  | 3 => 12851#32
  | 4 => 12852#32
  | 5 => 12853#32
  | 6 => 12854#32
  | 7 => 12855#32
  | 8 => 12856#32
  | 9 => 12860#32
  | 10 => 12861#32
  | 11 => 12862#32
  | 12 => 12863#32
  | 13 => 12864#32
  | 14 => 12865#32
  | 15 => 12866#32
  | 16 => 12867#32
  | 17 => 12868#32
  | 18 => 12869#32
  | 19 => 12870#32
  | 20 => 12871#32
  | 21 => 12872#32
  | 22 => 12873#32
  | 23 => 12874#32
  | 24 => 12875#32
  | 25 => 12876#32
  | 26 => 12877#32
  | 27 => 12880#32
  | 28 => 12881#32
  | 29 => 12882#32
  | 30 => 12883#32
  | 31 => 12884#32
  | 32 => 12885#32
  | 33 => 12886#32
  | 34 => 12887#32
  | 35 => 12888#32
  | 36 => 12889#32
  | 37 => 12890#32
  | 38 => 12891#32
  | 39 => 12892#32
  | 40 => 12893#32
  | 41 => 12894#32
  | 42 => 12895#32
  | 43 => 12896#32
  | 44 => 12897#32
  | 45 => 12898#32
  | 46 => 12900#32
  | 47 => 12901#32
  | 48 => 12902#32
  | 49 => 12903#32
  | 50 => 12904#32
  | 51 => 12905#32
  | 52 => 12906#32
  | 53 => 12907#32
  | 54 => 12908#32
  | 55 => 12909#32
  | 56 => 12910#32
  | 57 => 12911#32
  | 58 => 12912#32
  | 59 => 12913#32
  | 60 => 12914#32
  | 61 => 12915#32
  | 62 => 12916#32
  | 63 => 12917#32
  | 64 => 12918#32
  | 65 => 12919#32
  | 66 => 12920#32
  | 67 => 12921#32
  | 68 => 12940#32
  | 69 => 12941#32
  | 70 => 12942#32
  | 71 => 12960#32
  | 72 => 12961#32
  | 73 => 12962#32
  | 74 => 12963#32
  | 75 => 12980#32
  | 76 => 12981#32
  | 77 => 12982#32
  | 78 => 12983#32
  | 79 => 12984#32
  | 80 => 13000#32
  | 81 => 13001#32
  | 82 => 13002#32
  | 83 => 13003#32
  | 84 => 13004#32
  | 85 => 13005#32
  | 86 => 13020#32
  | 87 => 13021#32
  | 88 => 13022#32
  | 89 => 13023#32
  | 90 => 13024#32
  | 91 => 13025#32
  | 92 => 13026#32
  | 93 => 13040#32
  | 94 => 13041#32
  | 95 => 13042#32
  | 96 => 13043#32
  | 97 => 13044#32
  | 98 => 13045#32
  | 99 => 13046#32
  | 100 => 13047#32
  | 101 => 13060#32
  | 102 => 13061#32
  | 103 => 13062#32
  | 104 => 13063#32
  | 105 => 13064#32
  | 106 => 13065#32
  | 107 => 13066#32
  | 108 => 13067#32
  | 109 => 13068#32
  | 110 => 13080#32
  | 111 => 13081#32
  | 112 => 13082#32
  | 113 => 13083#32
  | 114 => 13084#32
  | 115 => 13085#32
  | 116 => 13086#32
  | 117 => 13087#32
  | 118 => 13088#32
  | 119 => 13089#32
  | 120 => 13100#32
  | 121 => 13101#32
  | 122 => 13102#32
  | 123 => 13103#32
  | 124 => 13104#32
  | 125 => 13105#32
  | 126 => 13106#32
  | 127 => 13107#32
  | _ => 0#32

noncomputable abbrev lit0t0_56 (i : Nat) : BitVec 32 := match i % 128 with
  | 0 => 13108#32
  | 1 => 13109#32
  | 2 => 13110#32
  | 3 => 13120#32
  | 4 => 13121#32
  | 5 => 13122#32
  | 6 => 13123#32
  | 7 => 13124#32
  | 8 => 13125#32
  | 9 => 13126#32
  | 10 => 13127#32
  | 11 => 13128#32
  | 12 => 13129#32
  | 13 => 13130#32
  | 14 => 13131#32
  | 15 => 13140#32
  | 16 => 13141#32
  | 17 => 13142#32
  | 18 => 13143#32
  | 19 => 13144#32
  | 20 => 13145#32
  | 21 => 13146#32
  | 22 => 13147#32
  | 23 => 13148#32
  | 24 => 13149#32
  | 25 => 13150#32
  | 26 => 13151#32
  | 27 => 13152#32
  | 28 => 13160#32
  | 29 => 13161#32
  | 30 => 13162#32
  | 31 => 13163#32
  | 32 => 13164#32
  | 33 => 13165#32
  | 34 => 13166#32
  | 35 => 13167#32
  | 36 => 13168#32
  | 37 => 13169#32
  | 38 => 13170#32
  | 39 => 13171#32
  | 40 => 13172#32
  | 41 => 13173#32
  | 42 => 13180#32
  | 43 => 13181#32
  | 44 => 13182#32
  | 45 => 13183#32
  | 46 => 13184#32
  | 47 => 13185#32
  | 48 => 13186#32
  | 49 => 13187#32
  | 50 => 13188#32
  | 51 => 13189#32
  | 52 => 13190#32
  | 53 => 13191#32
  | 54 => 13192#32
  | 55 => 13193#32
  | 56 => 13194#32
  | 57 => 13200#32
  | 58 => 13201#32
  | 59 => 13202#32
  | 60 => 13203#32
  | 61 => 13204#32
  | 62 => 13205#32
  | 63 => 13206#32
  | 64 => 13207#32
  | 65 => 13208#32
  | 66 => 13209#32
  | 67 => 13210#32
  | 68 => 13211#32
  | 69 => 13212#32
  | 70 => 13213#32
  | 71 => 13214#32
  | 72 => 13215#32
  | 73 => 13220#32
  | 74 => 13221#32
  | 75 => 13222#32
  | 76 => 13223#32
  | 77 => 13224#32
  | 78 => 13225#32
  | 79 => 13226#32
  | 80 => 13227#32
  | 81 => 13228#32
  | 82 => 13229#32
  | 83 => 13230#32
  | 84 => 13231#32
  | 85 => 13232#32
  | 86 => 13233#32
  | 87 => 13234#32
  | 88 => 13235#32
  | 89 => 13236#32
  | 90 => 13240#32
  | 91 => 13241#32
  | 92 => 13242#32
  | 93 => 13243#32
  | 94 => 13244#32
  | 95 => 13245#32
  | 96 => 13246#32
  | 97 => 13247#32
  | 98 => 13248#32
  | 99 => 13249#32
  | 100 => 13250#32
  | 101 => 13251#32
  | 102 => 13252#32
  | 103 => 13253#32
  | 104 => 13254#32
  | 105 => 13255#32
  | 106 => 13256#32
  | 107 => 13257#32
  | 108 => 13260#32
  | 109 => 13261#32
  | 110 => 13262#32
  | 111 => 13263#32
  | 112 => 13264#32
  | 113 => 13265#32
  | 114 => 13266#32
  | 115 => 13267#32
  | 116 => 13268#32
  | 117 => 13269#32
  | 118 => 13270#32
  | 119 => 13271#32
  | 120 => 13272#32
  | 121 => 13273#32
  | 122 => 13274#32
  | 123 => 13275#32
  | 124 => 13276#32
  | 125 => 13277#32
  | 126 => 13278#32
  | 127 => 13280#32
  | _ => 0#32

noncomputable abbrev lit0t0_57 (i : Nat) : BitVec 32 := match i % 128 with
  | 0 => 13281#32
  | 1 => 13282#32
  | 2 => 13283#32
  | 3 => 13284#32
  | 4 => 13285#32
  | 5 => 13286#32
  | 6 => 13287#32
  | 7 => 13288#32
  | 8 => 13289#32
  | 9 => 13290#32
  | 10 => 13291#32
  | 11 => 13292#32
  | 12 => 13293#32
  | 13 => 13294#32
  | 14 => 13295#32
  | 15 => 13296#32
  | 16 => 13297#32
  | 17 => 13298#32
  | 18 => 13299#32
  | 19 => 13300#32
  | 20 => 13301#32
  | 21 => 13320#32
  | 22 => 13321#32
  | 23 => 13322#32
  | 24 => 13340#32
  | 25 => 13341#32
  | 26 => 13342#32
  | 27 => 13343#32
  | 28 => 13360#32
  | 29 => 13361#32
  | 30 => 13362#32
  | 31 => 13363#32
  | 32 => 13364#32
  | 33 => 13380#32
  | 34 => 13381#32
  | 35 => 13382#32
  | 36 => 13383#32
  | 37 => 13384#32
  | 38 => 13385#32
  | 39 => 13400#32
  | 40 => 13401#32
  | 41 => 13402#32
  | 42 => 13403#32
  | 43 => 13404#32
  | 44 => 13405#32
  | 45 => 13406#32
  | 46 => 13420#32
  | 47 => 13421#32
  | 48 => 13422#32
  | 49 => 13423#32
  | 50 => 13424#32
  | 51 => 13425#32
  | 52 => 13426#32
  | 53 => 13427#32
  | 54 => 13440#32
  | 55 => 13441#32
  | 56 => 13442#32
  | 57 => 13443#32
  | 58 => 13444#32
  | 59 => 13445#32
  | 60 => 13446#32
  | 61 => 13447#32
  | 62 => 13448#32
  | 63 => 13460#32
  | 64 => 13461#32
  | 65 => 13462#32
  | 66 => 13463#32
  | 67 => 13464#32
  | 68 => 13465#32
  | 69 => 13466#32
  | 70 => 13467#32
  | 71 => 13468#32
  | 72 => 13469#32
  | 73 => 13480#32
  | 74 => 13481#32
  | 75 => 13482#32
  | 76 => 13483#32
  | 77 => 13484#32
  | 78 => 13485#32
  | 79 => 13486#32
  | 80 => 13487#32
  | 81 => 13488#32
  | 82 => 13489#32
  | 83 => 13490#32
  | 84 => 13500#32
  | 85 => 13501#32
  | 86 => 13502#32
  | 87 => 13503#32
  | 88 => 13504#32
  | 89 => 13505#32
  | 90 => 13506#32
  | 91 => 13507#32
  | 92 => 13508#32
  | 93 => 13509#32
  | 94 => 13510#32
  | 95 => 13511#32
  | 96 => 13520#32
  | 97 => 13521#32
  | 98 => 13522#32
  | 99 => 13523#32
  | 100 => 13524#32
  | 101 => 13525#32
  | 102 => 13526#32
  | 103 => 13527#32
  | 104 => 13528#32
  | 105 => 13529#32
  | 106 => 13530#32
  | 107 => 13531#32
  | 108 => 13532#32
  | 109 => 13540#32
  | 110 => 13541#32
  | 111 => 13542#32
  | 112 => 13543#32
  | 113 => 13544#32
  | 114 => 13545#32
  | 115 => 13546#32
  | 116 => 13547#32
  | 117 => 13548#32
  | 118 => 13549#32
  | 119 => 13550#32
  | 120 => 13551#32
  | 121 => 13552#32
  | 122 => 13553#32
  | 123 => 13560#32
  | 124 => 13561#32
  | 125 => 13562#32
  | 126 => 13563#32
  | 127 => 13564#32
  | _ => 0#32

noncomputable abbrev lit0t0_58 (i : Nat) : BitVec 32 := match i % 128 with
  | 0 => 13565#32
  | 1 => 13566#32
  | 2 => 13567#32
  | 3 => 13568#32
  | 4 => 13569#32
  | 5 => 13570#32
  | 6 => 13571#32
  | 7 => 13572#32
  | 8 => 13573#32
  | 9 => 13574#32
  | 10 => 13580#32
  | 11 => 13581#32
  | 12 => 13582#32
  | 13 => 13583#32
  | 14 => 13584#32
  | 15 => 13585#32
  | 16 => 13586#32
  | 17 => 13587#32
  | 18 => 13588#32
  | 19 => 13589#32
  | 20 => 13590#32
  | 21 => 13591#32
  | 22 => 13592#32
  | 23 => 13593#32
  | 24 => 13594#32
  | 25 => 13595#32
  | 26 => 13600#32
  | 27 => 13601#32
  | 28 => 13602#32
  | 29 => 13603#32
  | 30 => 13604#32
  | 31 => 13605#32
  | 32 => 13606#32
  | 33 => 13607#32
  | 34 => 13608#32
  | 35 => 13609#32
  | 36 => 13610#32
  | 37 => 13611#32
  | 38 => 13612#32
  | 39 => 13613#32
  | 40 => 13614#32
  | 41 => 13615#32
  | 42 => 13616#32
  | 43 => 13620#32
  | 44 => 13621#32
  | 45 => 13622#32
  | 46 => 13623#32
  | 47 => 13624#32
  | 48 => 13625#32
  | 49 => 13626#32
  | 50 => 13627#32
  | 51 => 13628#32
  | 52 => 13629#32
  | 53 => 13630#32
  | 54 => 13631#32
  | 55 => 13632#32
  | 56 => 13633#32
  | 57 => 13634#32
  | 58 => 13635#32
  | 59 => 13636#32
  | 60 => 13637#32
  | 61 => 13640#32
  | 62 => 13641#32
  | 63 => 13642#32
  | 64 => 13643#32
  | 65 => 13644#32
  | 66 => 13645#32
  | 67 => 13646#32
  | 68 => 13647#32
  | 69 => 13648#32
  | 70 => 13649#32
  | 71 => 13650#32
  | 72 => 13651#32
  | 73 => 13652#32
  | 74 => 13653#32
  | 75 => 13654#32
  | 76 => 13655#32
  | 77 => 13656#32
  | 78 => 13657#32
  | 79 => 13658#32
  | 80 => 13660#32
  | 81 => 13661#32
  | 82 => 13662#32
  | 83 => 13663#32
  | 84 => 13664#32
  | 85 => 13665#32
  | 86 => 13666#32
  | 87 => 13667#32
  | 88 => 13668#32
  | 89 => 13669#32
  | 90 => 13670#32
  | 91 => 13671#32
  | 92 => 13672#32
  | 93 => 13673#32
  | 94 => 13674#32
  | 95 => 13675#32
  | 96 => 13676#32
  | 97 => 13677#32
  | 98 => 13678#32
  | 99 => 13679#32
  | 100 => 13680#32
  | 101 => 13681#32
  | 102 => 13700#32
  | 103 => 13701#32
  | 104 => 13702#32
  | 105 => 13720#32
  | 106 => 13721#32
  | 107 => 13722#32
  | 108 => 13723#32
  | 109 => 13740#32
  | 110 => 13741#32
  | 111 => 13742#32
  | 112 => 13743#32
  | 113 => 13744#32
  | 114 => 13760#32
  | 115 => 13761#32
  | 116 => 13762#32
  | 117 => 13763#32
  | 118 => 13764#32
  | 119 => 13765#32
  | 120 => 13780#32
  | 121 => 13781#32
  | 122 => 13782#32
  | 123 => 13783#32
  | 124 => 13784#32
  | 125 => 13785#32
  | 126 => 13786#32
  | 127 => 13800#32
  | _ => 0#32

noncomputable abbrev lit0t0_59 (i : Nat) : BitVec 32 := match i % 128 with
  | 0 => 13801#32
  | 1 => 13802#32
  | 2 => 13803#32
  | 3 => 13804#32
  | 4 => 13805#32
  | 5 => 13806#32
  | 6 => 13807#32
  | 7 => 13820#32
  | 8 => 13821#32
  | 9 => 13822#32
  | 10 => 13823#32
  | 11 => 13824#32
  | 12 => 13825#32
  | 13 => 13826#32
  | 14 => 13827#32
  | 15 => 13828#32
  | 16 => 13840#32
  | 17 => 13841#32
  | 18 => 13842#32
  | 19 => 13843#32
  | 20 => 13844#32
  | 21 => 13845#32
  | 22 => 13846#32
  | 23 => 13847#32
  | 24 => 13848#32
  | 25 => 13849#32
  | 26 => 13860#32
  | 27 => 13861#32
  | 28 => 13862#32
  | 29 => 13863#32
  | 30 => 13864#32
  | 31 => 13865#32
  | 32 => 13866#32
  | 33 => 13867#32
  | 34 => 13868#32
  | 35 => 13869#32
  | 36 => 13870#32
  | 37 => 13880#32
  | 38 => 13881#32
  | 39 => 13882#32
  | 40 => 13883#32
  | 41 => 13884#32
  | 42 => 13885#32
  | 43 => 13886#32
  | 44 => 13887#32
  | 45 => 13888#32
  | 46 => 13889#32
  | 47 => 13890#32
  | 48 => 13891#32
  | 49 => 13900#32
  | 50 => 13901#32
  | 51 => 13902#32
  | 52 => 13903#32
  | 53 => 13904#32
  | 54 => 13905#32
  | 55 => 13906#32
  | 56 => 13907#32
  | 57 => 13908#32
  | 58 => 13909#32
  | 59 => 13910#32
  | 60 => 13911#32
  | 61 => 13912#32
  | 62 => 13920#32
  | 63 => 13921#32
  | 64 => 13922#32
  | 65 => 13923#32
  | 66 => 13924#32
  | 67 => 13925#32
  | 68 => 13926#32
  | 69 => 13927#32
  | 70 => 13928#32
  | 71 => 13929#32
  | 72 => 13930#32
  | 73 => 13931#32
  | 74 => 13932#32
  | 75 => 13933#32
  | 76 => 13940#32
  | 77 => 13941#32
  | 78 => 13942#32
  | 79 => 13943#32
  | 80 => 13944#32
  | 81 => 13945#32
  | 82 => 13946#32
  | 83 => 13947#32
  | 84 => 13948#32
  | 85 => 13949#32
  | 86 => 13950#32
  | 87 => 13951#32
  | 88 => 13952#32
  | 89 => 13953#32
  | 90 => 13954#32
  | 91 => 13960#32
  | 92 => 13961#32
  | 93 => 13962#32
  | 94 => 13963#32
  | 95 => 13964#32
  | 96 => 13965#32
  | 97 => 13966#32
  | 98 => 13967#32
  | 99 => 13968#32
  | 100 => 13969#32
  | 101 => 13970#32
  | 102 => 13971#32
  | 103 => 13972#32
  | 104 => 13973#32
  | 105 => 13974#32
  | 106 => 13975#32
  | 107 => 13980#32
  | 108 => 13981#32
  | 109 => 13982#32
  | 110 => 13983#32
  | 111 => 13984#32
  | 112 => 13985#32
  | 113 => 13986#32
  | 114 => 13987#32
  | 115 => 13988#32
  | 116 => 13989#32
  | 117 => 13990#32
  | 118 => 13991#32
  | 119 => 13992#32
  | 120 => 13993#32
  | 121 => 13994#32
  | 122 => 13995#32
  | 123 => 13996#32
  | 124 => 14000#32
  | 125 => 14001#32
  | 126 => 14002#32
  | 127 => 14003#32
  | _ => 0#32

noncomputable abbrev lit0t0_60 (i : Nat) : BitVec 32 := match i % 128 with
  | 0 => 14004#32
  | 1 => 14005#32
  | 2 => 14006#32
  | 3 => 14007#32
  | 4 => 14008#32
  | 5 => 14009#32
  | 6 => 14010#32
  | 7 => 14011#32
  | 8 => 14012#32
  | 9 => 14013#32
  | 10 => 14014#32
  | 11 => 14015#32
  | 12 => 14016#32
  | 13 => 14017#32
  | 14 => 14020#32
  | 15 => 14021#32
  | 16 => 14022#32
  | 17 => 14023#32
  | 18 => 14024#32
  | 19 => 14025#32
  | 20 => 14026#32
  | 21 => 14027#32
  | 22 => 14028#32
  | 23 => 14029#32
  | 24 => 14030#32
  | 25 => 14031#32
  | 26 => 14032#32
  | 27 => 14033#32
  | 28 => 14034#32
  | 29 => 14035#32
  | 30 => 14036#32
  | 31 => 14037#32
  | 32 => 14038#32
  | 33 => 14040#32
  | 34 => 14041#32
  | 35 => 14042#32
  | 36 => 14043#32
  | 37 => 14044#32
  | 38 => 14045#32
  | 39 => 14046#32
  | 40 => 14047#32
  | 41 => 14048#32
  | 42 => 14049#32
  | 43 => 14050#32
  | 44 => 14051#32
  | 45 => 14052#32
  | 46 => 14053#32
  | 47 => 14054#32
  | 48 => 14055#32
  | 49 => 14056#32
  | 50 => 14057#32
  | 51 => 14058#32
  | 52 => 14059#32
  | 53 => 14060#32
  | 54 => 14061#32
  | 55 => 14080#32
  | 56 => 14081#32
  | 57 => 14082#32
  | 58 => 14100#32
  | 59 => 14101#32
  | 60 => 14102#32
  | 61 => 14103#32
  | 62 => 14120#32
  | 63 => 14121#32
  | 64 => 14122#32
  | 65 => 14123#32
  | 66 => 14124#32
  | 67 => 14140#32
  | 68 => 14141#32
  | 69 => 14142#32
  | 70 => 14143#32
  | 71 => 14144#32
  | 72 => 14145#32
  | 73 => 14160#32
  | 74 => 14161#32
  | 75 => 14162#32
  | 76 => 14163#32
  | 77 => 14164#32
  | 78 => 14165#32
  | 79 => 14166#32
  | 80 => 14180#32
  | 81 => 14181#32
  | 82 => 14182#32
  | 83 => 14183#32
  | 84 => 14184#32
  | 85 => 14185#32
  | 86 => 14186#32
  | 87 => 14187#32
  | 88 => 14200#32
  | 89 => 14201#32
  | 90 => 14202#32
  | 91 => 14203#32
  | 92 => 14204#32
  | 93 => 14205#32
  | 94 => 14206#32
  | 95 => 14207#32
  | 96 => 14208#32
  | 97 => 14220#32
  | 98 => 14221#32
  | 99 => 14222#32
  | 100 => 14223#32
  | 101 => 14224#32
  | 102 => 14225#32
  | 103 => 14226#32
  | 104 => 14227#32
  | 105 => 14228#32
  | 106 => 14229#32
  | 107 => 14240#32
  | 108 => 14241#32
  | 109 => 14242#32
  | 110 => 14243#32
  | 111 => 14244#32
  | 112 => 14245#32
  | 113 => 14246#32
  | 114 => 14247#32
  | 115 => 14248#32
  | 116 => 14249#32
  | 117 => 14250#32
  | 118 => 14260#32
  | 119 => 14261#32
  | 120 => 14262#32
  | 121 => 14263#32
  | 122 => 14264#32
  | 123 => 14265#32
  | 124 => 14266#32
  | 125 => 14267#32
  | 126 => 14268#32
  | 127 => 14269#32
  | _ => 0#32

noncomputable abbrev lit0t0_61 (i : Nat) : BitVec 32 := match i % 128 with
  | 0 => 14270#32
  | 1 => 14271#32
  | 2 => 14280#32
  | 3 => 14281#32
  | 4 => 14282#32
  | 5 => 14283#32
  | 6 => 14284#32
  | 7 => 14285#32
  | 8 => 14286#32
  | 9 => 14287#32
  | 10 => 14288#32
  | 11 => 14289#32
  | 12 => 14290#32
  | 13 => 14291#32
  | 14 => 14292#32
  | 15 => 14300#32
  | 16 => 14301#32
  | 17 => 14302#32
  | 18 => 14303#32
  | 19 => 14304#32
  | 20 => 14305#32
  | 21 => 14306#32
  | 22 => 14307#32
  | 23 => 14308#32
  | 24 => 14309#32
  | 25 => 14310#32
  | 26 => 14311#32
  | 27 => 14312#32
  | 28 => 14313#32
  | 29 => 14320#32
  | 30 => 14321#32
  | 31 => 14322#32
  | 32 => 14323#32
  | 33 => 14324#32
  | 34 => 14325#32
  | 35 => 14326#32
  | 36 => 14327#32
  | 37 => 14328#32
  | 38 => 14329#32
  | 39 => 14330#32
  | 40 => 14331#32
  | 41 => 14332#32
  | 42 => 14333#32
  | 43 => 14334#32
  | 44 => 14340#32
  | 45 => 14341#32
  | 46 => 14342#32
  | 47 => 14343#32
  | 48 => 14344#32
  | 49 => 14345#32
  | 50 => 14346#32
  | 51 => 14347#32
  | 52 => 14348#32
  | 53 => 14349#32
  | 54 => 14350#32
  | 55 => 14351#32
  | 56 => 14352#32
  | 57 => 14353#32
  | 58 => 14354#32
  | 59 => 14355#32
  | 60 => 14360#32
  | 61 => 14361#32
  | 62 => 14362#32
  | 63 => 14363#32
  | 64 => 14364#32
  | 65 => 14365#32
  | 66 => 14366#32
  | 67 => 14367#32
  | 68 => 14368#32
  | 69 => 14369#32
  | 70 => 14370#32
  | 71 => 14371#32
  | 72 => 14372#32
  | 73 => 14373#32
  | 74 => 14374#32
  | 75 => 14375#32
  | 76 => 14376#32
  | 77 => 14380#32
  | 78 => 14381#32
  | 79 => 14382#32
  | 80 => 14383#32
  | 81 => 14384#32
  | 82 => 14385#32
  | 83 => 14386#32
  | 84 => 14387#32
  | 85 => 14388#32
  | 86 => 14389#32
  | 87 => 14390#32
  | 88 => 14391#32
  | 89 => 14392#32
  | 90 => 14393#32
  | 91 => 14394#32
  | 92 => 14395#32
  | 93 => 14396#32
  | 94 => 14397#32
  | 95 => 14400#32
  | 96 => 14401#32
  | 97 => 14402#32
  | 98 => 14403#32
  | 99 => 14404#32
  | 100 => 14405#32
  | 101 => 14406#32
  | 102 => 14407#32
  | 103 => 14408#32
  | 104 => 14409#32
  | 105 => 14410#32
  | 106 => 14411#32
  | 107 => 14412#32
  | 108 => 14413#32
  | 109 => 14414#32
  | 110 => 14415#32
  | 111 => 14416#32
  | 112 => 14417#32
  | 113 => 14418#32
  | 114 => 14420#32
  | 115 => 14421#32
  | 116 => 14422#32
  | 117 => 14423#32
  | 118 => 14424#32
  | 119 => 14425#32
  | 120 => 14426#32
  | 121 => 14427#32
  | 122 => 14428#32
  | 123 => 14429#32
  | 124 => 14430#32
  | 125 => 14431#32
  | 126 => 14432#32
  | 127 => 14433#32
  | _ => 0#32

noncomputable abbrev lit0t0_62 (i : Nat) : BitVec 32 := match i % 128 with
  | 0 => 14434#32
  | 1 => 14435#32
  | 2 => 14436#32
  | 3 => 14437#32
  | 4 => 14438#32
  | 5 => 14439#32
  | 6 => 14440#32
  | 7 => 14441#32
  | 8 => 14460#32
  | 9 => 14461#32
  | 10 => 14462#32
  | 11 => 14480#32
  | 12 => 14481#32
  | 13 => 14482#32
  | 14 => 14483#32
  | 15 => 14500#32
  | 16 => 14501#32
  | 17 => 14502#32
  | 18 => 14503#32
  | 19 => 14504#32
  | 20 => 14520#32
  | 21 => 14521#32
  | 22 => 14522#32
  | 23 => 14523#32
  | 24 => 14524#32
  | 25 => 14525#32
  | 26 => 14540#32
  | 27 => 14541#32
  | 28 => 14542#32
  | 29 => 14543#32
  | 30 => 14544#32
  | 31 => 14545#32
  | 32 => 14546#32
  | 33 => 14560#32
  | 34 => 14561#32
  | 35 => 14562#32
  | 36 => 14563#32
  | 37 => 14564#32
  | 38 => 14565#32
  | 39 => 14566#32
  | 40 => 14567#32
  | 41 => 14580#32
  | 42 => 14581#32
  | 43 => 14582#32
  | 44 => 14583#32
  | 45 => 14584#32
  | 46 => 14585#32
  | 47 => 14586#32
  | 48 => 14587#32
  | 49 => 14588#32
  | 50 => 14600#32
  | 51 => 14601#32
  | 52 => 14602#32
  | 53 => 14603#32
  | 54 => 14604#32
  | 55 => 14605#32
  | 56 => 14606#32
  | 57 => 14607#32
  | 58 => 14608#32
  | 59 => 14609#32
  | 60 => 14620#32
  | 61 => 14621#32
  | 62 => 14622#32
  | 63 => 14623#32
  | 64 => 14624#32
  | 65 => 14625#32
  | 66 => 14626#32
  | 67 => 14627#32
  | 68 => 14628#32
  | 69 => 14629#32
  | 70 => 14630#32
  | 71 => 14640#32
  | 72 => 14641#32
  | 73 => 14642#32
  | 74 => 14643#32
  | 75 => 14644#32
  | 76 => 14645#32
  | 77 => 14646#32
  | 78 => 14647#32
  | 79 => 14648#32
  | 80 => 14649#32
  | 81 => 14650#32
  | 82 => 14651#32
  | 83 => 14660#32
  | 84 => 14661#32
  | 85 => 14662#32
  | 86 => 14663#32
  | 87 => 14664#32
  | 88 => 14665#32
  | 89 => 14666#32
  | 90 => 14667#32
  | 91 => 14668#32
  | 92 => 14669#32
  | 93 => 14670#32
  | 94 => 14671#32
  | 95 => 14672#32
  | 96 => 14680#32
  | 97 => 14681#32
  | 98 => 14682#32
  | 99 => 14683#32
  | 100 => 14684#32
  | 101 => 14685#32
  | 102 => 14686#32
  | 103 => 14687#32
  | 104 => 14688#32
  | 105 => 14689#32
  | 106 => 14690#32
  | 107 => 14691#32
  | 108 => 14692#32
  | 109 => 14693#32
  | 110 => 14700#32
  | 111 => 14701#32
  | 112 => 14702#32
  | 113 => 14703#32
  | 114 => 14704#32
  | 115 => 14705#32
  | 116 => 14706#32
  | 117 => 14707#32
  | 118 => 14708#32
  | 119 => 14709#32
  | 120 => 14710#32
  | 121 => 14711#32
  | 122 => 14712#32
  | 123 => 14713#32
  | 124 => 14714#32
  | 125 => 14720#32
  | 126 => 14721#32
  | 127 => 14722#32
  | _ => 0#32

noncomputable abbrev lit0t0_63 (i : Nat) : BitVec 32 := match i % 128 with
  | 0 => 14723#32
  | 1 => 14724#32
  | 2 => 14725#32
  | 3 => 14726#32
  | 4 => 14727#32
  | 5 => 14728#32
  | 6 => 14729#32
  | 7 => 14730#32
  | 8 => 14731#32
  | 9 => 14732#32
  | 10 => 14733#32
  | 11 => 14734#32
  | 12 => 14735#32
  | 13 => 14740#32
  | 14 => 14741#32
  | 15 => 14742#32
  | 16 => 14743#32
  | 17 => 14744#32
  | 18 => 14745#32
  | 19 => 14746#32
  | 20 => 14747#32
  | 21 => 14748#32
  | 22 => 14749#32
  | 23 => 14750#32
  | 24 => 14751#32
  | 25 => 14752#32
  | 26 => 14753#32
  | 27 => 14754#32
  | 28 => 14755#32
  | 29 => 14756#32
  | 30 => 14760#32
  | 31 => 14761#32
  | 32 => 14762#32
  | 33 => 14763#32
  | 34 => 14764#32
  | 35 => 14765#32
  | 36 => 14766#32
  | 37 => 14767#32
  | 38 => 14768#32
  | 39 => 14769#32
  | 40 => 14770#32
  | 41 => 14771#32
  | 42 => 14772#32
  | 43 => 14773#32
  | 44 => 14774#32
  | 45 => 14775#32
  | 46 => 14776#32
  | 47 => 14777#32
  | 48 => 14780#32
  | 49 => 14781#32
  | 50 => 14782#32
  | 51 => 14783#32
  | 52 => 14784#32
  | 53 => 14785#32
  | 54 => 14786#32
  | 55 => 14787#32
  | 56 => 14788#32
  | 57 => 14789#32
  | 58 => 14790#32
  | 59 => 14791#32
  | 60 => 14792#32
  | 61 => 14793#32
  | 62 => 14794#32
  | 63 => 14795#32
  | 64 => 14796#32
  | 65 => 14797#32
  | 66 => 14798#32
  | 67 => 14800#32
  | 68 => 14801#32
  | 69 => 14802#32
  | 70 => 14803#32
  | 71 => 14804#32
  | 72 => 14805#32
  | 73 => 14806#32
  | 74 => 14807#32
  | 75 => 14808#32
  | 76 => 14809#32
  | 77 => 14810#32
  | 78 => 14811#32
  | 79 => 14812#32
  | 80 => 14813#32
  | 81 => 14814#32
  | 82 => 14815#32
  | 83 => 14816#32
  | 84 => 14817#32
  | 85 => 14818#32
  | 86 => 14819#32
  | 87 => 14820#32
  | 88 => 14821#32
  | 89 => 14840#32
  | 90 => 14841#32
  | 91 => 14842#32
  | 92 => 14860#32
  | 93 => 14861#32
  | 94 => 14862#32
  | 95 => 14863#32
  | 96 => 14880#32
  | 97 => 14881#32
  | 98 => 14882#32
  | 99 => 14883#32
  | 100 => 14884#32
  | 101 => 14900#32
  | 102 => 14901#32
  | 103 => 14902#32
  | 104 => 14903#32
  | 105 => 14904#32
  | 106 => 14905#32
  | 107 => 14920#32
  | 108 => 14921#32
  | 109 => 14922#32
  | 110 => 14923#32
  | 111 => 14924#32
  | 112 => 14925#32
  | 113 => 14926#32
  | 114 => 14940#32
  | 115 => 14941#32
  | 116 => 14942#32
  | 117 => 14943#32
  | 118 => 14944#32
  | 119 => 14945#32
  | 120 => 14946#32
  | 121 => 14947#32
  | 122 => 14960#32
  | 123 => 14961#32
  | 124 => 14962#32
  | 125 => 14963#32
  | 126 => 14964#32
  | 127 => 14965#32
  | _ => 0#32

noncomputable abbrev lit0t0_64 (i : Nat) : BitVec 32 := match i % 128 with
  | 0 => 14966#32
  | 1 => 14967#32
  | 2 => 14968#32
  | 3 => 14980#32
  | 4 => 14981#32
  | 5 => 14982#32
  | 6 => 14983#32
  | 7 => 14984#32
  | 8 => 14985#32
  | 9 => 14986#32
  | 10 => 14987#32
  | 11 => 14988#32
  | 12 => 14989#32
  | 13 => 15000#32
  | 14 => 15001#32
  | 15 => 15002#32
  | 16 => 15003#32
  | 17 => 15004#32
  | 18 => 15005#32
  | 19 => 15006#32
  | 20 => 15007#32
  | 21 => 15008#32
  | 22 => 15009#32
  | 23 => 15010#32
  | 24 => 15020#32
  | 25 => 15021#32
  | 26 => 15022#32
  | 27 => 15023#32
  | 28 => 15024#32
  | 29 => 15025#32
  | 30 => 15026#32
  | 31 => 15027#32
  | 32 => 15028#32
  | 33 => 15029#32
  | 34 => 15030#32
  | 35 => 15031#32
  | 36 => 15040#32
  | 37 => 15041#32
  | 38 => 15042#32
  | 39 => 15043#32
  | 40 => 15044#32
  | 41 => 15045#32
  | 42 => 15046#32
  | 43 => 15047#32
  | 44 => 15048#32
  | 45 => 15049#32
  | 46 => 15050#32
  | 47 => 15051#32
  | 48 => 15052#32
  | 49 => 15060#32
  | 50 => 15061#32
  | 51 => 15062#32
  | 52 => 15063#32
  | 53 => 15064#32
  | 54 => 15065#32
  | 55 => 15066#32
  | 56 => 15067#32
  | 57 => 15068#32
  | 58 => 15069#32
  | 59 => 15070#32
  | 60 => 15071#32
  | 61 => 15072#32
  | 62 => 15073#32
  | 63 => 15080#32
  | 64 => 15081#32
  | 65 => 15082#32
  | 66 => 15083#32
  | 67 => 15084#32
  | 68 => 15085#32
  | 69 => 15086#32
  | 70 => 15087#32
  | 71 => 15088#32
  | 72 => 15089#32
  | 73 => 15090#32
  | 74 => 15091#32
  | 75 => 15092#32
  | 76 => 15093#32
  | 77 => 15094#32
  | 78 => 15100#32
  | 79 => 15101#32
  | 80 => 15102#32
  | 81 => 15103#32
  | 82 => 15104#32
  | 83 => 15105#32
  | 84 => 15106#32
  | 85 => 15107#32
  | 86 => 15108#32
  | 87 => 15109#32
  | 88 => 15110#32
  | 89 => 15111#32
  | 90 => 15112#32
  | 91 => 15113#32
  | 92 => 15114#32
  | 93 => 15115#32
  | 94 => 15120#32
  | 95 => 15121#32
  | 96 => 15122#32
  | 97 => 15123#32
  | 98 => 15124#32
  | 99 => 15125#32
  | 100 => 15126#32
  | 101 => 15127#32
  | 102 => 15128#32
  | 103 => 15129#32
  | 104 => 15130#32
  | 105 => 15131#32
  | 106 => 15132#32
  | 107 => 15133#32
  | 108 => 15134#32
  | 109 => 15135#32
  | 110 => 15136#32
  | 111 => 15140#32
  | 112 => 15141#32
  | 113 => 15142#32
  | 114 => 15143#32
  | 115 => 15144#32
  | 116 => 15145#32
  | 117 => 15146#32
  | 118 => 15147#32
  | 119 => 15148#32
  | 120 => 15149#32
  | 121 => 15150#32
  | 122 => 15151#32
  | 123 => 15152#32
  | 124 => 15153#32
  | 125 => 15154#32
  | 126 => 15155#32
  | 127 => 15156#32
  | _ => 0#32

noncomputable abbrev lit0t0_65 (i : Nat) : BitVec 32 := match i % 128 with
  | 0 => 15157#32
  | 1 => 15160#32
  | 2 => 15161#32
  | 3 => 15162#32
  | 4 => 15163#32
  | 5 => 15164#32
  | 6 => 15165#32
  | 7 => 15166#32
  | 8 => 15167#32
  | 9 => 15168#32
  | 10 => 15169#32
  | 11 => 15170#32
  | 12 => 15171#32
  | 13 => 15172#32
  | 14 => 15173#32
  | 15 => 15174#32
  | 16 => 15175#32
  | 17 => 15176#32
  | 18 => 15177#32
  | 19 => 15178#32
  | 20 => 15180#32
  | 21 => 15181#32
  | 22 => 15182#32
  | 23 => 15183#32
  | 24 => 15184#32
  | 25 => 15185#32
  | 26 => 15186#32
  | 27 => 15187#32
  | 28 => 15188#32
  | 29 => 15189#32
  | 30 => 15190#32
  | 31 => 15191#32
  | 32 => 15192#32
  | 33 => 15193#32
  | 34 => 15194#32
  | 35 => 15195#32
  | 36 => 15196#32
  | 37 => 15197#32
  | 38 => 15198#32
  | 39 => 15199#32
  | 40 => 15200#32
  | 41 => 15201#32
  | 42 => 15220#32
  | 43 => 15221#32
  | 44 => 15222#32
  | 45 => 15240#32
  | 46 => 15241#32
  | 47 => 15242#32
  | 48 => 15243#32
  | 49 => 15260#32
  | 50 => 15261#32
  | 51 => 15262#32
  | 52 => 15263#32
  | 53 => 15264#32
  | 54 => 15280#32
  | 55 => 15281#32
  | 56 => 15282#32
  | 57 => 15283#32
  | 58 => 15284#32
  | 59 => 15285#32
  | 60 => 15300#32
  | 61 => 15301#32
  | 62 => 15302#32
  | 63 => 15303#32
  | 64 => 15304#32
  | 65 => 15305#32
  | 66 => 15306#32
  | 67 => 15320#32
  | 68 => 15321#32
  | 69 => 15322#32
  | 70 => 15323#32
  | 71 => 15324#32
  | 72 => 15325#32
  | 73 => 15326#32
  | 74 => 15327#32
  | 75 => 15340#32
  | 76 => 15341#32
  | 77 => 15342#32
  | 78 => 15343#32
  | 79 => 15344#32
  | 80 => 15345#32
  | 81 => 15346#32
  | 82 => 15347#32
  | 83 => 15348#32
  | 84 => 15360#32
  | 85 => 15361#32
  | 86 => 15362#32
  | 87 => 15363#32
  | 88 => 15364#32
  | 89 => 15365#32
  | 90 => 15366#32
  | 91 => 15367#32
  | 92 => 15368#32
  | 93 => 15369#32
  | 94 => 15380#32
  | 95 => 15381#32
  | 96 => 15382#32
  | 97 => 15383#32
  | 98 => 15384#32
  | 99 => 15385#32
  | 100 => 15386#32
  | 101 => 15387#32
  | 102 => 15388#32
  | 103 => 15389#32
  | 104 => 15390#32
  | 105 => 15400#32
  | 106 => 15401#32
  | 107 => 15402#32
  | 108 => 15403#32
  | 109 => 15404#32
  | 110 => 15405#32
  | 111 => 15406#32
  | 112 => 15407#32
  | 113 => 15408#32
  | 114 => 15409#32
  | 115 => 15410#32
  | 116 => 15411#32
  | 117 => 15420#32
  | 118 => 15421#32
  | 119 => 15422#32
  | 120 => 15423#32
  | 121 => 15424#32
  | 122 => 15425#32
  | 123 => 15426#32
  | 124 => 15427#32
  | 125 => 15428#32
  | 126 => 15429#32
  | 127 => 15430#32
  | _ => 0#32

noncomputable abbrev lit0t0_66 (i : Nat) : BitVec 32 := match i % 128 with
  | 0 => 15431#32
  | 1 => 15432#32
  | 2 => 15440#32
  | 3 => 15441#32
  | 4 => 15442#32
  | 5 => 15443#32
  | 6 => 15444#32
  | 7 => 15445#32
  | 8 => 15446#32
  | 9 => 15447#32
  | 10 => 15448#32
  | 11 => 15449#32
  | 12 => 15450#32
  | 13 => 15451#32
  | 14 => 15452#32
  | 15 => 15453#32
  | 16 => 15460#32
  | 17 => 15461#32
  | 18 => 15462#32
  | 19 => 15463#32
  | 20 => 15464#32
  | 21 => 15465#32
  | 22 => 15466#32
  | 23 => 15467#32
  | 24 => 15468#32
  | 25 => 15469#32
  | 26 => 15470#32
  | 27 => 15471#32
  | 28 => 15472#32
  | 29 => 15473#32
  | 30 => 15474#32
  | 31 => 15480#32
  | 32 => 15481#32
  | 33 => 15482#32
  | 34 => 15483#32
  | 35 => 15484#32
  | 36 => 15485#32
  | 37 => 15486#32
  | 38 => 15487#32
  | 39 => 15488#32
  | 40 => 15489#32
  | 41 => 15490#32
  | 42 => 15491#32
  | 43 => 15492#32
  | 44 => 15493#32
  | 45 => 15494#32
  | 46 => 15495#32
  | 47 => 15500#32
  | 48 => 15501#32
  | 49 => 15502#32
  | 50 => 15503#32
  | 51 => 15504#32
  | 52 => 15505#32
  | 53 => 15506#32
  | 54 => 15507#32
  | 55 => 15508#32
  | 56 => 15509#32
  | 57 => 15510#32
  | 58 => 15511#32
  | 59 => 15512#32
  | 60 => 15513#32
  | 61 => 15514#32
  | 62 => 15515#32
  | 63 => 15516#32
  | 64 => 15520#32
  | 65 => 15521#32
  | 66 => 15522#32
  | 67 => 15523#32
  | 68 => 15524#32
  | 69 => 15525#32
  | 70 => 15526#32
  | 71 => 15527#32
  | 72 => 15528#32
  | 73 => 15529#32
  | 74 => 15530#32
  | 75 => 15531#32
  | 76 => 15532#32
  | 77 => 15533#32
  | 78 => 15534#32
  | 79 => 15535#32
  | 80 => 15536#32
  | 81 => 15537#32
  | 82 => 15540#32
  | 83 => 15541#32
  | 84 => 15542#32
  | 85 => 15543#32
  | 86 => 15544#32
  | 87 => 15545#32
  | 88 => 15546#32
  | 89 => 15547#32
  | 90 => 15548#32
  | 91 => 15549#32
  | 92 => 15550#32
  | 93 => 15551#32
  | 94 => 15552#32
  | 95 => 15553#32
  | 96 => 15554#32
  | 97 => 15555#32
  | 98 => 15556#32
  | 99 => 15557#32
  | 100 => 15558#32
  | 101 => 15560#32
  | 102 => 15561#32
  | 103 => 15562#32
  | 104 => 15563#32
  | 105 => 15564#32
  | 106 => 15565#32
  | 107 => 15566#32
  | 108 => 15567#32
  | 109 => 15568#32
  | 110 => 15569#32
  | 111 => 15570#32
  | 112 => 15571#32
  | 113 => 15572#32
  | 114 => 15573#32
  | 115 => 15574#32
  | 116 => 15575#32
  | 117 => 15576#32
  | 118 => 15577#32
  | 119 => 15578#32
  | 120 => 15579#32
  | 121 => 15580#32
  | 122 => 15581#32
  | 123 => 15600#32
  | 124 => 15601#32
  | 125 => 15602#32
  | 126 => 15620#32
  | 127 => 15621#32
  | _ => 0#32

noncomputable abbrev lit0t0_67 (i : Nat) : BitVec 32 := match i % 128 with
  | 0 => 15622#32
  | 1 => 15623#32
  | 2 => 15640#32
  | 3 => 15641#32
  | 4 => 15642#32
  | 5 => 15643#32
  | 6 => 15644#32
  | 7 => 15660#32
  | 8 => 15661#32
  | 9 => 15662#32
  | 10 => 15663#32
  | 11 => 15664#32
  | 12 => 15665#32
  | 13 => 15680#32
  | 14 => 15681#32
  | 15 => 15682#32
  | 16 => 15683#32
  | 17 => 15684#32
  | 18 => 15685#32
  | 19 => 15686#32
  | 20 => 15700#32
  | 21 => 15701#32
  | 22 => 15702#32
  | 23 => 15703#32
  | 24 => 15704#32
  | 25 => 15705#32
  | 26 => 15706#32
  | 27 => 15707#32
  | 28 => 15720#32
  | 29 => 15721#32
  | 30 => 15722#32
  | 31 => 15723#32
  | 32 => 15724#32
  | 33 => 15725#32
  | 34 => 15726#32
  | 35 => 15727#32
  | 36 => 15728#32
  | 37 => 15740#32
  | 38 => 15741#32
  | 39 => 15742#32
  | 40 => 15743#32
  | 41 => 15744#32
  | 42 => 15745#32
  | 43 => 15746#32
  | 44 => 15747#32
  | 45 => 15748#32
  | 46 => 15749#32
  | 47 => 15760#32
  | 48 => 15761#32
  | 49 => 15762#32
  | 50 => 15763#32
  | 51 => 15764#32
  | 52 => 15765#32
  | 53 => 15766#32
  | 54 => 15767#32
  | 55 => 15768#32
  | 56 => 15769#32
  | 57 => 15770#32
  | 58 => 15780#32
  | 59 => 15781#32
  | 60 => 15782#32
  | 61 => 15783#32
  | 62 => 15784#32
  | 63 => 15785#32
  | 64 => 15786#32
  | 65 => 15787#32
  | 66 => 15788#32
  | 67 => 15789#32
  | 68 => 15790#32
  | 69 => 15791#32
  | 70 => 15800#32
  | 71 => 15801#32
  | 72 => 15802#32
  | 73 => 15803#32
  | 74 => 15804#32
  | 75 => 15805#32
  | 76 => 15806#32
  | 77 => 15807#32
  | 78 => 15808#32
  | 79 => 15809#32
  | 80 => 15810#32
  | 81 => 15811#32
  | 82 => 15812#32
  | 83 => 15820#32
  | 84 => 15821#32
  | 85 => 15822#32
  | 86 => 15823#32
  | 87 => 15824#32
  | 88 => 15825#32
  | 89 => 15826#32
  | 90 => 15827#32
  | 91 => 15828#32
  | 92 => 15829#32
  | 93 => 15830#32
  | 94 => 15831#32
  | 95 => 15832#32
  | 96 => 15833#32
  | 97 => 15840#32
  | 98 => 15841#32
  | 99 => 15842#32
  | 100 => 15843#32
  | 101 => 15844#32
  | 102 => 15845#32
  | 103 => 15846#32
  | 104 => 15847#32
  | 105 => 15848#32
  | 106 => 15849#32
  | 107 => 15850#32
  | 108 => 15851#32
  | 109 => 15852#32
  | 110 => 15853#32
  | 111 => 15854#32
  | 112 => 15860#32
  | 113 => 15861#32
  | 114 => 15862#32
  | 115 => 15863#32
  | 116 => 15864#32
  | 117 => 15865#32
  | 118 => 15866#32
  | 119 => 15867#32
  | 120 => 15868#32
  | 121 => 15869#32
  | 122 => 15870#32
  | 123 => 15871#32
  | 124 => 15872#32
  | 125 => 15873#32
  | 126 => 15874#32
  | 127 => 15875#32
  | _ => 0#32

noncomputable abbrev lit0t0_68 (i : Nat) : BitVec 32 := match i % 128 with
  | 0 => 15880#32
  | 1 => 15881#32
  | 2 => 15882#32
  | 3 => 15883#32
  | 4 => 15884#32
  | 5 => 15885#32
  | 6 => 15886#32
  | 7 => 15887#32
  | 8 => 15888#32
  | 9 => 15889#32
  | 10 => 15890#32
  | 11 => 15891#32
  | 12 => 15892#32
  | 13 => 15893#32
  | 14 => 15894#32
  | 15 => 15895#32
  | 16 => 15896#32
  | 17 => 15900#32
  | 18 => 15901#32
  | 19 => 15902#32
  | 20 => 15903#32
  | 21 => 15904#32
  | 22 => 15905#32
  | 23 => 15906#32
  | 24 => 15907#32
  | 25 => 15908#32
  | 26 => 15909#32
  | 27 => 15910#32
  | 28 => 15911#32
  | 29 => 15912#32
  | 30 => 15913#32
  | 31 => 15914#32
  | 32 => 15915#32
  | 33 => 15916#32
  | 34 => 15917#32
  | 35 => 15920#32
  | 36 => 15921#32
  | 37 => 15922#32
  | 38 => 15923#32
  | 39 => 15924#32
  | 40 => 15925#32
  | 41 => 15926#32
  | 42 => 15927#32
  | 43 => 15928#32
  | 44 => 15929#32
  | 45 => 15930#32
  | 46 => 15931#32
  | 47 => 15932#32
  | 48 => 15933#32
  | 49 => 15934#32
  | 50 => 15935#32
  | 51 => 15936#32
  | 52 => 15937#32
  | 53 => 15938#32
  | 54 => 15940#32
  | 55 => 15941#32
  | 56 => 15942#32
  | 57 => 15943#32
  | 58 => 15944#32
  | 59 => 15945#32
  | 60 => 15946#32
  | 61 => 15947#32
  | 62 => 15948#32
  | 63 => 15949#32
  | 64 => 15950#32
  | 65 => 15951#32
  | 66 => 15952#32
  | 67 => 15953#32
  | 68 => 15954#32
  | 69 => 15955#32
  | 70 => 15956#32
  | 71 => 15957#32
  | 72 => 15958#32
  | 73 => 15959#32
  | 74 => 15960#32
  | 75 => 15961#32
  | 76 => 15980#32
  | 77 => 15981#32
  | 78 => 15982#32
  | 79 => 16000#32
  | 80 => 16001#32
  | 81 => 16002#32
  | 82 => 16003#32
  | 83 => 16020#32
  | 84 => 16021#32
  | 85 => 16022#32
  | 86 => 16023#32
  | 87 => 16024#32
  | 88 => 16040#32
  | 89 => 16041#32
  | 90 => 16042#32
  | 91 => 16043#32
  | 92 => 16044#32
  | 93 => 16045#32
  | 94 => 16060#32
  | 95 => 16061#32
  | 96 => 16062#32
  | 97 => 16063#32
  | 98 => 16064#32
  | 99 => 16065#32
  | 100 => 16066#32
  | 101 => 16080#32
  | 102 => 16081#32
  | 103 => 16082#32
  | 104 => 16083#32
  | 105 => 16084#32
  | 106 => 16085#32
  | 107 => 16086#32
  | 108 => 16087#32
  | 109 => 16100#32
  | 110 => 16101#32
  | 111 => 16102#32
  | 112 => 16103#32
  | 113 => 16104#32
  | 114 => 16105#32
  | 115 => 16106#32
  | 116 => 16107#32
  | 117 => 16108#32
  | 118 => 16120#32
  | 119 => 16121#32
  | 120 => 16122#32
  | 121 => 16123#32
  | 122 => 16124#32
  | 123 => 16125#32
  | 124 => 16126#32
  | 125 => 16127#32
  | 126 => 16128#32
  | 127 => 16129#32
  | _ => 0#32

noncomputable abbrev lit0t0_69 (i : Nat) : BitVec 32 := match i % 128 with
  | 0 => 16140#32
  | 1 => 16141#32
  | 2 => 16142#32
  | 3 => 16143#32
  | 4 => 16144#32
  | 5 => 16145#32
  | 6 => 16146#32
  | 7 => 16147#32
  | 8 => 16148#32
  | 9 => 16149#32
  | 10 => 16150#32
  | 11 => 16160#32
  | 12 => 16161#32
  | 13 => 16162#32
  | 14 => 16163#32
  | 15 => 16164#32
  | 16 => 16165#32
  | 17 => 16166#32
  | 18 => 16167#32
  | 19 => 16168#32
  | 20 => 16169#32
  | 21 => 16170#32
  | 22 => 16171#32
  | 23 => 16180#32
  | 24 => 16181#32
  | 25 => 16182#32
  | 26 => 16183#32
  | 27 => 16184#32
  | 28 => 16185#32
  | 29 => 16186#32
  | 30 => 16187#32
  | 31 => 16188#32
  | 32 => 16189#32
  | 33 => 16190#32
  | 34 => 16191#32
  | 35 => 16192#32
  | 36 => 16200#32
  | 37 => 16201#32
  | 38 => 16202#32
  | 39 => 16203#32
  | 40 => 16204#32
  | 41 => 16205#32
  | 42 => 16206#32
  | 43 => 16207#32
  | 44 => 16208#32
  | 45 => 16209#32
  | 46 => 16210#32
  | 47 => 16211#32
  | 48 => 16212#32
  | 49 => 16213#32
  | 50 => 16220#32
  | 51 => 16221#32
  | 52 => 16222#32
  | 53 => 16223#32
  | 54 => 16224#32
  | 55 => 16225#32
  | 56 => 16226#32
  | 57 => 16227#32
  | 58 => 16228#32
  | 59 => 16229#32
  | 60 => 16230#32
  | 61 => 16231#32
  | 62 => 16232#32
  | 63 => 16233#32
  | 64 => 16234#32
  | 65 => 16240#32
  | 66 => 16241#32
  | 67 => 16242#32
  | 68 => 16243#32
  | 69 => 16244#32
  | 70 => 16245#32
  | 71 => 16246#32
  | 72 => 16247#32
  | 73 => 16248#32
  | 74 => 16249#32
  | 75 => 16250#32
  | 76 => 16251#32
  | 77 => 16252#32
  | 78 => 16253#32
  | 79 => 16254#32
  | 80 => 16255#32
  | 81 => 16260#32
  | 82 => 16261#32
  | 83 => 16262#32
  | 84 => 16263#32
  | 85 => 16264#32
  | 86 => 16265#32
  | 87 => 16266#32
  | 88 => 16267#32
  | 89 => 16268#32
  | 90 => 16269#32
  | 91 => 16270#32
  | 92 => 16271#32
  | 93 => 16272#32
  | 94 => 16273#32
  | 95 => 16274#32
  | 96 => 16275#32
  | 97 => 16276#32
  | 98 => 16280#32
  | 99 => 16281#32
  | 100 => 16282#32
  | 101 => 16283#32
  | 102 => 16284#32
  | 103 => 16285#32
  | 104 => 16286#32
  | 105 => 16287#32
  | 106 => 16288#32
  | 107 => 16289#32
  | 108 => 16290#32
  | 109 => 16291#32
  | 110 => 16292#32
  | 111 => 16293#32
  | 112 => 16294#32
  | 113 => 16295#32
  | 114 => 16296#32
  | 115 => 16297#32
  | 116 => 16300#32
  | 117 => 16301#32
  | 118 => 16302#32
  | 119 => 16303#32
  | 120 => 16304#32
  | 121 => 16305#32
  | 122 => 16306#32
  | 123 => 16307#32
  | 124 => 16308#32
  | 125 => 16309#32
  | 126 => 16310#32
  | 127 => 16311#32
  | _ => 0#32

noncomputable abbrev lit0t0_70 (i : Nat) : BitVec 32 := match i % 128 with
  | 0 => 16312#32
  | 1 => 16313#32
  | 2 => 16314#32
  | 3 => 16315#32
  | 4 => 16316#32
  | 5 => 16317#32
  | 6 => 16318#32
  | 7 => 16320#32
  | 8 => 16321#32
  | 9 => 16322#32
  | 10 => 16323#32
  | 11 => 16324#32
  | 12 => 16325#32
  | 13 => 16326#32
  | 14 => 16327#32
  | 15 => 16328#32
  | 16 => 16329#32
  | 17 => 16330#32
  | 18 => 16331#32
  | 19 => 16332#32
  | 20 => 16333#32
  | 21 => 16334#32
  | 22 => 16335#32
  | 23 => 16336#32
  | 24 => 16337#32
  | 25 => 16338#32
  | 26 => 16339#32
  | 27 => 16340#32
  | 28 => 16341#32
  | 29 => 16360#32
  | 30 => 16361#32
  | 31 => 16362#32
  | 32 => 16380#32
  | 33 => 16381#32
  | 34 => 16382#32
  | 35 => 16383#32
  | 36 => 16400#32
  | 37 => 16401#32
  | 38 => 16402#32
  | 39 => 16403#32
  | 40 => 16404#32
  | 41 => 16420#32
  | 42 => 16421#32
  | 43 => 16422#32
  | 44 => 16423#32
  | 45 => 16424#32
  | 46 => 16425#32
  | 47 => 16440#32
  | 48 => 16441#32
  | 49 => 16442#32
  | 50 => 16443#32
  | 51 => 16444#32
  | 52 => 16445#32
  | 53 => 16446#32
  | 54 => 16460#32
  | 55 => 16461#32
  | 56 => 16462#32
  | 57 => 16463#32
  | 58 => 16464#32
  | 59 => 16465#32
  | 60 => 16466#32
  | 61 => 16467#32
  | 62 => 16480#32
  | 63 => 16481#32
  | 64 => 16482#32
  | 65 => 16483#32
  | 66 => 16484#32
  | 67 => 16485#32
  | 68 => 16486#32
  | 69 => 16487#32
  | 70 => 16488#32
  | 71 => 16500#32
  | 72 => 16501#32
  | 73 => 16502#32
  | 74 => 16503#32
  | 75 => 16504#32
  | 76 => 16505#32
  | 77 => 16506#32
  | 78 => 16507#32
  | 79 => 16508#32
  | 80 => 16509#32
  | 81 => 16520#32
  | 82 => 16521#32
  | 83 => 16522#32
  | 84 => 16523#32
  | 85 => 16524#32
  | 86 => 16525#32
  | 87 => 16526#32
  | 88 => 16527#32
  | 89 => 16528#32
  | 90 => 16529#32
  | 91 => 16530#32
  | 92 => 16540#32
  | 93 => 16541#32
  | 94 => 16542#32
  | 95 => 16543#32
  | 96 => 16544#32
  | 97 => 16545#32
  | 98 => 16546#32
  | 99 => 16547#32
  | 100 => 16548#32
  | 101 => 16549#32
  | 102 => 16550#32
  | 103 => 16551#32
  | 104 => 16560#32
  | 105 => 16561#32
  | 106 => 16562#32
  | 107 => 16563#32
  | 108 => 16564#32
  | 109 => 16565#32
  | 110 => 16566#32
  | 111 => 16567#32
  | 112 => 16568#32
  | 113 => 16569#32
  | 114 => 16570#32
  | 115 => 16571#32
  | 116 => 16572#32
  | 117 => 16580#32
  | 118 => 16581#32
  | 119 => 16582#32
  | 120 => 16583#32
  | 121 => 16584#32
  | 122 => 16585#32
  | 123 => 16586#32
  | 124 => 16587#32
  | 125 => 16588#32
  | 126 => 16589#32
  | 127 => 16590#32
  | _ => 0#32

noncomputable abbrev lit0t0_71 (i : Nat) : BitVec 32 := match i % 128 with
  | 0 => 16591#32
  | 1 => 16592#32
  | 2 => 16593#32
  | 3 => 16600#32
  | 4 => 16601#32
  | 5 => 16602#32
  | 6 => 16603#32
  | 7 => 16604#32
  | 8 => 16605#32
  | 9 => 16606#32
  | 10 => 16607#32
  | 11 => 16608#32
  | 12 => 16609#32
  | 13 => 16610#32
  | 14 => 16611#32
  | 15 => 16612#32
  | 16 => 16613#32
  | 17 => 16614#32
  | 18 => 16620#32
  | 19 => 16621#32
  | 20 => 16622#32
  | 21 => 16623#32
  | 22 => 16624#32
  | 23 => 16625#32
  | 24 => 16626#32
  | 25 => 16627#32
  | 26 => 16628#32
  | 27 => 16629#32
  | 28 => 16630#32
  | 29 => 16631#32
  | 30 => 16632#32
  | 31 => 16633#32
  | 32 => 16634#32
  | 33 => 16635#32
  | 34 => 16640#32
  | 35 => 16641#32
  | 36 => 16642#32
  | 37 => 16643#32
  | 38 => 16644#32
  | 39 => 16645#32
  | 40 => 16646#32
  | 41 => 16647#32
  | 42 => 16648#32
  | 43 => 16649#32
  | 44 => 16650#32
  | 45 => 16651#32
  | 46 => 16652#32
  | 47 => 16653#32
  | 48 => 16654#32
  | 49 => 16655#32
  | 50 => 16656#32
  | 51 => 16660#32
  | 52 => 16661#32
  | 53 => 16662#32
  | 54 => 16663#32
  | 55 => 16664#32
  | 56 => 16665#32
  | 57 => 16666#32
  | 58 => 16667#32
  | 59 => 16668#32
  | 60 => 16669#32
  | 61 => 16670#32
  | 62 => 16671#32
  | 63 => 16672#32
  | 64 => 16673#32
  | 65 => 16674#32
  | 66 => 16675#32
  | 67 => 16676#32
  | 68 => 16677#32
  | 69 => 16680#32
  | 70 => 16681#32
  | 71 => 16682#32
  | 72 => 16683#32
  | 73 => 16684#32
  | 74 => 16685#32
  | 75 => 16686#32
  | 76 => 16687#32
  | 77 => 16688#32
  | 78 => 16689#32
  | 79 => 16690#32
  | 80 => 16691#32
  | 81 => 16692#32
  | 82 => 16693#32
  | 83 => 16694#32
  | 84 => 16695#32
  | 85 => 16696#32
  | 86 => 16697#32
  | 87 => 16698#32
  | 88 => 16700#32
  | 89 => 16701#32
  | 90 => 16702#32
  | 91 => 16703#32
  | 92 => 16704#32
  | 93 => 16705#32
  | 94 => 16706#32
  | 95 => 16707#32
  | 96 => 16708#32
  | 97 => 16709#32
  | 98 => 16710#32
  | 99 => 16711#32
  | 100 => 16712#32
  | 101 => 16713#32
  | 102 => 16714#32
  | 103 => 16715#32
  | 104 => 16716#32
  | 105 => 16717#32
  | 106 => 16718#32
  | 107 => 16719#32
  | 108 => 16720#32
  | 109 => 16721#32
  | 110 => 16740#32
  | 111 => 16741#32
  | 112 => 16742#32
  | 113 => 16760#32
  | 114 => 16761#32
  | 115 => 16762#32
  | 116 => 16763#32
  | 117 => 16780#32
  | 118 => 16781#32
  | 119 => 16782#32
  | 120 => 16783#32
  | 121 => 16784#32
  | 122 => 16800#32
  | 123 => 16801#32
  | 124 => 16802#32
  | 125 => 16803#32
  | 126 => 16804#32
  | 127 => 16805#32
  | _ => 0#32

noncomputable abbrev lit0t0_72 (i : Nat) : BitVec 32 := match i % 128 with
  | 0 => 16820#32
  | 1 => 16821#32
  | 2 => 16822#32
  | 3 => 16823#32
  | 4 => 16824#32
  | 5 => 16825#32
  | 6 => 16826#32
  | 7 => 16840#32
  | 8 => 16841#32
  | 9 => 16842#32
  | 10 => 16843#32
  | 11 => 16844#32
  | 12 => 16845#32
  | 13 => 16846#32
  | 14 => 16847#32
  | 15 => 16860#32
  | 16 => 16861#32
  | 17 => 16862#32
  | 18 => 16863#32
  | 19 => 16864#32
  | 20 => 16865#32
  | 21 => 16866#32
  | 22 => 16867#32
  | 23 => 16868#32
  | 24 => 16880#32
  | 25 => 16881#32
  | 26 => 16882#32
  | 27 => 16883#32
  | 28 => 16884#32
  | 29 => 16885#32
  | 30 => 16886#32
  | 31 => 16887#32
  | 32 => 16888#32
  | 33 => 16889#32
  | 34 => 16900#32
  | 35 => 16901#32
  | 36 => 16902#32
  | 37 => 16903#32
  | 38 => 16904#32
  | 39 => 16905#32
  | 40 => 16906#32
  | 41 => 16907#32
  | 42 => 16908#32
  | 43 => 16909#32
  | 44 => 16910#32
  | 45 => 16920#32
  | 46 => 16921#32
  | 47 => 16922#32
  | 48 => 16923#32
  | 49 => 16924#32
  | 50 => 16925#32
  | 51 => 16926#32
  | 52 => 16927#32
  | 53 => 16928#32
  | 54 => 16929#32
  | 55 => 16930#32
  | 56 => 16931#32
  | 57 => 16940#32
  | 58 => 16941#32
  | 59 => 16942#32
  | 60 => 16943#32
  | 61 => 16944#32
  | 62 => 16945#32
  | 63 => 16946#32
  | 64 => 16947#32
  | 65 => 16948#32
  | 66 => 16949#32
  | 67 => 16950#32
  | 68 => 16951#32
  | 69 => 16952#32
  | 70 => 16960#32
  | 71 => 16961#32
  | 72 => 16962#32
  | 73 => 16963#32
  | 74 => 16964#32
  | 75 => 16965#32
  | 76 => 16966#32
  | 77 => 16967#32
  | 78 => 16968#32
  | 79 => 16969#32
  | 80 => 16970#32
  | 81 => 16971#32
  | 82 => 16972#32
  | 83 => 16973#32
  | 84 => 16980#32
  | 85 => 16981#32
  | 86 => 16982#32
  | 87 => 16983#32
  | 88 => 16984#32
  | 89 => 16985#32
  | 90 => 16986#32
  | 91 => 16987#32
  | 92 => 16988#32
  | 93 => 16989#32
  | 94 => 16990#32
  | 95 => 16991#32
  | 96 => 16992#32
  | 97 => 16993#32
  | 98 => 16994#32
  | 99 => 17000#32
  | 100 => 17001#32
  | 101 => 17002#32
  | 102 => 17003#32
  | 103 => 17004#32
  | 104 => 17005#32
  | 105 => 17006#32
  | 106 => 17007#32
  | 107 => 17008#32
  | 108 => 17009#32
  | 109 => 17010#32
  | 110 => 17011#32
  | 111 => 17012#32
  | 112 => 17013#32
  | 113 => 17014#32
  | 114 => 17015#32
  | 115 => 17020#32
  | 116 => 17021#32
  | 117 => 17022#32
  | 118 => 17023#32
  | 119 => 17024#32
  | 120 => 17025#32
  | 121 => 17026#32
  | 122 => 17027#32
  | 123 => 17028#32
  | 124 => 17029#32
  | 125 => 17030#32
  | 126 => 17031#32
  | 127 => 17032#32
  | _ => 0#32

noncomputable abbrev lit0t0_73 (i : Nat) : BitVec 32 := match i % 128 with
  | 0 => 17033#32
  | 1 => 17034#32
  | 2 => 17035#32
  | 3 => 17036#32
  | 4 => 17040#32
  | 5 => 17041#32
  | 6 => 17042#32
  | 7 => 17043#32
  | 8 => 17044#32
  | 9 => 17045#32
  | 10 => 17046#32
  | 11 => 17047#32
  | 12 => 17048#32
  | 13 => 17049#32
  | 14 => 17050#32
  | 15 => 17051#32
  | 16 => 17052#32
  | 17 => 17053#32
  | 18 => 17054#32
  | 19 => 17055#32
  | 20 => 17056#32
  | 21 => 17057#32
  | 22 => 17060#32
  | 23 => 17061#32
  | 24 => 17062#32
  | 25 => 17063#32
  | 26 => 17064#32
  | 27 => 17065#32
  | 28 => 17066#32
  | 29 => 17067#32
  | 30 => 17068#32
  | 31 => 17069#32
  | 32 => 17070#32
  | 33 => 17071#32
  | 34 => 17072#32
  | 35 => 17073#32
  | 36 => 17074#32
  | 37 => 17075#32
  | 38 => 17076#32
  | 39 => 17077#32
  | 40 => 17078#32
  | 41 => 17080#32
  | 42 => 17081#32
  | 43 => 17082#32
  | 44 => 17083#32
  | 45 => 17084#32
  | 46 => 17085#32
  | 47 => 17086#32
  | 48 => 17087#32
  | 49 => 17088#32
  | 50 => 17089#32
  | 51 => 17090#32
  | 52 => 17091#32
  | 53 => 17092#32
  | 54 => 17093#32
  | 55 => 17094#32
  | 56 => 17095#32
  | 57 => 17096#32
  | 58 => 17097#32
  | 59 => 17098#32
  | 60 => 17099#32
  | 61 => 17100#32
  | 62 => 17101#32
  | 63 => 17120#32
  | 64 => 17121#32
  | 65 => 17122#32
  | 66 => 17140#32
  | 67 => 17141#32
  | 68 => 17142#32
  | 69 => 17143#32
  | 70 => 17160#32
  | 71 => 17161#32
  | 72 => 17162#32
  | 73 => 17163#32
  | 74 => 17164#32
  | 75 => 17180#32
  | 76 => 17181#32
  | 77 => 17182#32
  | 78 => 17183#32
  | 79 => 17184#32
  | 80 => 17185#32
  | 81 => 17200#32
  | 82 => 17201#32
  | 83 => 17202#32
  | 84 => 17203#32
  | 85 => 17204#32
  | 86 => 17205#32
  | 87 => 17206#32
  | 88 => 17220#32
  | 89 => 17221#32
  | 90 => 17222#32
  | 91 => 17223#32
  | 92 => 17224#32
  | 93 => 17225#32
  | 94 => 17226#32
  | 95 => 17227#32
  | 96 => 17240#32
  | 97 => 17241#32
  | 98 => 17242#32
  | 99 => 17243#32
  | 100 => 17244#32
  | 101 => 17245#32
  | 102 => 17246#32
  | 103 => 17247#32
  | 104 => 17248#32
  | 105 => 17260#32
  | 106 => 17261#32
  | 107 => 17262#32
  | 108 => 17263#32
  | 109 => 17264#32
  | 110 => 17265#32
  | 111 => 17266#32
  | 112 => 17267#32
  | 113 => 17268#32
  | 114 => 17269#32
  | 115 => 17280#32
  | 116 => 17281#32
  | 117 => 17282#32
  | 118 => 17283#32
  | 119 => 17284#32
  | 120 => 17285#32
  | 121 => 17286#32
  | 122 => 17287#32
  | 123 => 17288#32
  | 124 => 17289#32
  | 125 => 17290#32
  | 126 => 17300#32
  | 127 => 17301#32
  | _ => 0#32

noncomputable abbrev lit0t0_74 (i : Nat) : BitVec 32 := match i % 128 with
  | 0 => 17302#32
  | 1 => 17303#32
  | 2 => 17304#32
  | 3 => 17305#32
  | 4 => 17306#32
  | 5 => 17307#32
  | 6 => 17308#32
  | 7 => 17309#32
  | 8 => 17310#32
  | 9 => 17311#32
  | 10 => 17320#32
  | 11 => 17321#32
  | 12 => 17322#32
  | 13 => 17323#32
  | 14 => 17324#32
  | 15 => 17325#32
  | 16 => 17326#32
  | 17 => 17327#32
  | 18 => 17328#32
  | 19 => 17329#32
  | 20 => 17330#32
  | 21 => 17331#32
  | 22 => 17332#32
  | 23 => 17340#32
  | 24 => 17341#32
  | 25 => 17342#32
  | 26 => 17343#32
  | 27 => 17344#32
  | 28 => 17345#32
  | 29 => 17346#32
  | 30 => 17347#32
  | 31 => 17348#32
  | 32 => 17349#32
  | 33 => 17350#32
  | 34 => 17351#32
  | 35 => 17352#32
  | 36 => 17353#32
  | 37 => 17360#32
  | 38 => 17361#32
  | 39 => 17362#32
  | 40 => 17363#32
  | 41 => 17364#32
  | 42 => 17365#32
  | 43 => 17366#32
  | 44 => 17367#32
  | 45 => 17368#32
  | 46 => 17369#32
  | 47 => 17370#32
  | 48 => 17371#32
  | 49 => 17372#32
  | 50 => 17373#32
  | 51 => 17374#32
  | 52 => 17380#32
  | 53 => 17381#32
  | 54 => 17382#32
  | 55 => 17383#32
  | 56 => 17384#32
  | 57 => 17385#32
  | 58 => 17386#32
  | 59 => 17387#32
  | 60 => 17388#32
  | 61 => 17389#32
  | 62 => 17390#32
  | 63 => 17391#32
  | 64 => 17392#32
  | 65 => 17393#32
  | 66 => 17394#32
  | 67 => 17395#32
  | 68 => 17400#32
  | 69 => 17401#32
  | 70 => 17402#32
  | 71 => 17403#32
  | 72 => 17404#32
  | 73 => 17405#32
  | 74 => 17406#32
  | 75 => 17407#32
  | 76 => 17408#32
  | 77 => 17409#32
  | 78 => 17410#32
  | 79 => 17411#32
  | 80 => 17412#32
  | 81 => 17413#32
  | 82 => 17414#32
  | 83 => 17415#32
  | 84 => 17416#32
  | 85 => 17420#32
  | 86 => 17421#32
  | 87 => 17422#32
  | 88 => 17423#32
  | 89 => 17424#32
  | 90 => 17425#32
  | 91 => 17426#32
  | 92 => 17427#32
  | 93 => 17428#32
  | 94 => 17429#32
  | 95 => 17430#32
  | 96 => 17431#32
  | 97 => 17432#32
  | 98 => 17433#32
  | 99 => 17434#32
  | 100 => 17435#32
  | 101 => 17436#32
  | 102 => 17437#32
  | 103 => 17440#32
  | 104 => 17441#32
  | 105 => 17442#32
  | 106 => 17443#32
  | 107 => 17444#32
  | 108 => 17445#32
  | 109 => 17446#32
  | 110 => 17447#32
  | 111 => 17448#32
  | 112 => 17449#32
  | 113 => 17450#32
  | 114 => 17451#32
  | 115 => 17452#32
  | 116 => 17453#32
  | 117 => 17454#32
  | 118 => 17455#32
  | 119 => 17456#32
  | 120 => 17457#32
  | 121 => 17458#32
  | 122 => 17460#32
  | 123 => 17461#32
  | 124 => 17462#32
  | 125 => 17463#32
  | 126 => 17464#32
  | 127 => 17465#32
  | _ => 0#32

noncomputable abbrev lit0t0_75 (i : Nat) : BitVec 32 := match i % 128 with
  | 0 => 17466#32
  | 1 => 17467#32
  | 2 => 17468#32
  | 3 => 17469#32
  | 4 => 17470#32
  | 5 => 17471#32
  | 6 => 17472#32
  | 7 => 17473#32
  | 8 => 17474#32
  | 9 => 17475#32
  | 10 => 17476#32
  | 11 => 17477#32
  | 12 => 17478#32
  | 13 => 17479#32
  | 14 => 17480#32
  | 15 => 17481#32
  | 16 => 17500#32
  | 17 => 17501#32
  | 18 => 17502#32
  | 19 => 17520#32
  | 20 => 17521#32
  | 21 => 17522#32
  | 22 => 17523#32
  | 23 => 17540#32
  | 24 => 17541#32
  | 25 => 17542#32
  | 26 => 17543#32
  | 27 => 17544#32
  | 28 => 17560#32
  | 29 => 17561#32
  | 30 => 17562#32
  | 31 => 17563#32
  | 32 => 17564#32
  | 33 => 17565#32
  | 34 => 17580#32
  | 35 => 17581#32
  | 36 => 17582#32
  | 37 => 17583#32
  | 38 => 17584#32
  | 39 => 17585#32
  | 40 => 17586#32
  | 41 => 17600#32
  | 42 => 17601#32
  | 43 => 17602#32
  | 44 => 17603#32
  | 45 => 17604#32
  | 46 => 17605#32
  | 47 => 17606#32
  | 48 => 17607#32
  | 49 => 17620#32
  | 50 => 17621#32
  | 51 => 17622#32
  | 52 => 17623#32
  | 53 => 17624#32
  | 54 => 17625#32
  | 55 => 17626#32
  | 56 => 17627#32
  | 57 => 17628#32
  | 58 => 17640#32
  | 59 => 17641#32
  | 60 => 17642#32
  | 61 => 17643#32
  | 62 => 17644#32
  | 63 => 17645#32
  | 64 => 17646#32
  | 65 => 17647#32
  | 66 => 17648#32
  | 67 => 17649#32
  | 68 => 17660#32
  | 69 => 17661#32
  | 70 => 17662#32
  | 71 => 17663#32
  | 72 => 17664#32
  | 73 => 17665#32
  | 74 => 17666#32
  | 75 => 17667#32
  | 76 => 17668#32
  | 77 => 17669#32
  | 78 => 17670#32
  | 79 => 17680#32
  | 80 => 17681#32
  | 81 => 17682#32
  | 82 => 17683#32
  | 83 => 17684#32
  | 84 => 17685#32
  | 85 => 17686#32
  | 86 => 17687#32
  | 87 => 17688#32
  | 88 => 17689#32
  | 89 => 17690#32
  | 90 => 17691#32
  | 91 => 17700#32
  | 92 => 17701#32
  | 93 => 17702#32
  | 94 => 17703#32
  | 95 => 17704#32
  | 96 => 17705#32
  | 97 => 17706#32
  | 98 => 17707#32
  | 99 => 17708#32
  | 100 => 17709#32
  | 101 => 17710#32
  | 102 => 17711#32
  | 103 => 17712#32
  | 104 => 17720#32
  | 105 => 17721#32
  | 106 => 17722#32
  | 107 => 17723#32
  | 108 => 17724#32
  | 109 => 17725#32
  | 110 => 17726#32
  | 111 => 17727#32
  | 112 => 17728#32
  | 113 => 17729#32
  | 114 => 17730#32
  | 115 => 17731#32
  | 116 => 17732#32
  | 117 => 17733#32
  | 118 => 17740#32
  | 119 => 17741#32
  | 120 => 17742#32
  | 121 => 17743#32
  | 122 => 17744#32
  | 123 => 17745#32
  | 124 => 17746#32
  | 125 => 17747#32
  | 126 => 17748#32
  | 127 => 17749#32
  | _ => 0#32

noncomputable abbrev lit0t0_76 (i : Nat) : BitVec 32 := match i % 128 with
  | 0 => 17750#32
  | 1 => 17751#32
  | 2 => 17752#32
  | 3 => 17753#32
  | 4 => 17754#32
  | 5 => 17760#32
  | 6 => 17761#32
  | 7 => 17762#32
  | 8 => 17763#32
  | 9 => 17764#32
  | 10 => 17765#32
  | 11 => 17766#32
  | 12 => 17767#32
  | 13 => 17768#32
  | 14 => 17769#32
  | 15 => 17770#32
  | 16 => 17771#32
  | 17 => 17772#32
  | 18 => 17773#32
  | 19 => 17774#32
  | 20 => 17775#32
  | 21 => 17780#32
  | 22 => 17781#32
  | 23 => 17782#32
  | 24 => 17783#32
  | 25 => 17784#32
  | 26 => 17785#32
  | 27 => 17786#32
  | 28 => 17787#32
  | 29 => 17788#32
  | 30 => 17789#32
  | 31 => 17790#32
  | 32 => 17791#32
  | 33 => 17792#32
  | 34 => 17793#32
  | 35 => 17794#32
  | 36 => 17795#32
  | 37 => 17796#32
  | 38 => 17800#32
  | 39 => 17801#32
  | 40 => 17802#32
  | 41 => 17803#32
  | 42 => 17804#32
  | 43 => 17805#32
  | 44 => 17806#32
  | 45 => 17807#32
  | 46 => 17808#32
  | 47 => 17809#32
  | 48 => 17810#32
  | 49 => 17811#32
  | 50 => 17812#32
  | 51 => 17813#32
  | 52 => 17814#32
  | 53 => 17815#32
  | 54 => 17816#32
  | 55 => 17817#32
  | 56 => 17820#32
  | 57 => 17821#32
  | 58 => 17822#32
  | 59 => 17823#32
  | 60 => 17824#32
  | 61 => 17825#32
  | 62 => 17826#32
  | 63 => 17827#32
  | 64 => 17828#32
  | 65 => 17829#32
  | 66 => 17830#32
  | 67 => 17831#32
  | 68 => 17832#32
  | 69 => 17833#32
  | 70 => 17834#32
  | 71 => 17835#32
  | 72 => 17836#32
  | 73 => 17837#32
  | 74 => 17838#32
  | 75 => 17840#32
  | 76 => 17841#32
  | 77 => 17842#32
  | 78 => 17843#32
  | 79 => 17844#32
  | 80 => 17845#32
  | 81 => 17846#32
  | 82 => 17847#32
  | 83 => 17848#32
  | 84 => 17849#32
  | 85 => 17850#32
  | 86 => 17851#32
  | 87 => 17852#32
  | 88 => 17853#32
  | 89 => 17854#32
  | 90 => 17855#32
  | 91 => 17856#32
  | 92 => 17857#32
  | 93 => 17858#32
  | 94 => 17859#32
  | 95 => 17860#32
  | 96 => 17861#32
  | 97 => 17880#32
  | 98 => 17881#32
  | 99 => 17882#32
  | 100 => 17900#32
  | 101 => 17901#32
  | 102 => 17902#32
  | 103 => 17903#32
  | 104 => 17920#32
  | 105 => 17921#32
  | 106 => 17922#32
  | 107 => 17923#32
  | 108 => 17924#32
  | 109 => 17940#32
  | 110 => 17941#32
  | 111 => 17942#32
  | 112 => 17943#32
  | 113 => 17944#32
  | 114 => 17945#32
  | 115 => 17960#32
  | 116 => 17961#32
  | 117 => 17962#32
  | 118 => 17963#32
  | 119 => 17964#32
  | 120 => 17965#32
  | 121 => 17966#32
  | 122 => 17980#32
  | 123 => 17981#32
  | 124 => 17982#32
  | 125 => 17983#32
  | 126 => 17984#32
  | 127 => 17985#32
  | _ => 0#32

noncomputable abbrev lit0t0_77 (i : Nat) : BitVec 32 := match i % 128 with
  | 0 => 17986#32
  | 1 => 17987#32
  | 2 => 18000#32
  | 3 => 18001#32
  | 4 => 18002#32
  | 5 => 18003#32
  | 6 => 18004#32
  | 7 => 18005#32
  | 8 => 18006#32
  | 9 => 18007#32
  | 10 => 18008#32
  | 11 => 18020#32
  | 12 => 18021#32
  | 13 => 18022#32
  | 14 => 18023#32
  | 15 => 18024#32
  | 16 => 18025#32
  | 17 => 18026#32
  | 18 => 18027#32
  | 19 => 18028#32
  | 20 => 18029#32
  | 21 => 18040#32
  | 22 => 18041#32
  | 23 => 18042#32
  | 24 => 18043#32
  | 25 => 18044#32
  | 26 => 18045#32
  | 27 => 18046#32
  | 28 => 18047#32
  | 29 => 18048#32
  | 30 => 18049#32
  | 31 => 18050#32
  | 32 => 18060#32
  | 33 => 18061#32
  | 34 => 18062#32
  | 35 => 18063#32
  | 36 => 18064#32
  | 37 => 18065#32
  | 38 => 18066#32
  | 39 => 18067#32
  | 40 => 18068#32
  | 41 => 18069#32
  | 42 => 18070#32
  | 43 => 18071#32
  | 44 => 18080#32
  | 45 => 18081#32
  | 46 => 18082#32
  | 47 => 18083#32
  | 48 => 18084#32
  | 49 => 18085#32
  | 50 => 18086#32
  | 51 => 18087#32
  | 52 => 18088#32
  | 53 => 18089#32
  | 54 => 18090#32
  | 55 => 18091#32
  | 56 => 18092#32
  | 57 => 18100#32
  | 58 => 18101#32
  | 59 => 18102#32
  | 60 => 18103#32
  | 61 => 18104#32
  | 62 => 18105#32
  | 63 => 18106#32
  | 64 => 18107#32
  | 65 => 18108#32
  | 66 => 18109#32
  | 67 => 18110#32
  | 68 => 18111#32
  | 69 => 18112#32
  | 70 => 18113#32
  | 71 => 18120#32
  | 72 => 18121#32
  | 73 => 18122#32
  | 74 => 18123#32
  | 75 => 18124#32
  | 76 => 18125#32
  | 77 => 18126#32
  | 78 => 18127#32
  | 79 => 18128#32
  | 80 => 18129#32
  | 81 => 18130#32
  | 82 => 18131#32
  | 83 => 18132#32
  | 84 => 18133#32
  | 85 => 18134#32
  | 86 => 18140#32
  | 87 => 18141#32
  | 88 => 18142#32
  | 89 => 18143#32
  | 90 => 18144#32
  | 91 => 18145#32
  | 92 => 18146#32
  | 93 => 18147#32
  | 94 => 18148#32
  | 95 => 18149#32
  | 96 => 18150#32
  | 97 => 18151#32
  | 98 => 18152#32
  | 99 => 18153#32
  | 100 => 18154#32
  | 101 => 18155#32
  | 102 => 18160#32
  | 103 => 18161#32
  | 104 => 18162#32
  | 105 => 18163#32
  | 106 => 18164#32
  | 107 => 18165#32
  | 108 => 18166#32
  | 109 => 18167#32
  | 110 => 18168#32
  | 111 => 18169#32
  | 112 => 18170#32
  | 113 => 18171#32
  | 114 => 18172#32
  | 115 => 18173#32
  | 116 => 18174#32
  | 117 => 18175#32
  | 118 => 18176#32
  | 119 => 18180#32
  | 120 => 18181#32
  | 121 => 18182#32
  | 122 => 18183#32
  | 123 => 18184#32
  | 124 => 18185#32
  | 125 => 18186#32
  | 126 => 18187#32
  | 127 => 18188#32
  | _ => 0#32

noncomputable abbrev lit0t0_78 (i : Nat) : BitVec 32 := match i % 128 with
  | 0 => 18189#32
  | 1 => 18190#32
  | 2 => 18191#32
  | 3 => 18192#32
  | 4 => 18193#32
  | 5 => 18194#32
  | 6 => 18195#32
  | 7 => 18196#32
  | 8 => 18197#32
  | 9 => 18200#32
  | 10 => 18201#32
  | 11 => 18202#32
  | 12 => 18203#32
  | 13 => 18204#32
  | 14 => 18205#32
  | 15 => 18206#32
  | 16 => 18207#32
  | 17 => 18208#32
  | 18 => 18209#32
  | 19 => 18210#32
  | 20 => 18211#32
  | 21 => 18212#32
  | 22 => 18213#32
  | 23 => 18214#32
  | 24 => 18215#32
  | 25 => 18216#32
  | 26 => 18217#32
  | 27 => 18218#32
  | 28 => 18220#32
  | 29 => 18221#32
  | 30 => 18222#32
  | 31 => 18223#32
  | 32 => 18224#32
  | 33 => 18225#32
  | 34 => 18226#32
  | 35 => 18227#32
  | 36 => 18228#32
  | 37 => 18229#32
  | 38 => 18230#32
  | 39 => 18231#32
  | 40 => 18232#32
  | 41 => 18233#32
  | 42 => 18234#32
  | 43 => 18235#32
  | 44 => 18236#32
  | 45 => 18237#32
  | 46 => 18238#32
  | 47 => 18239#32
  | 48 => 18240#32
  | 49 => 18241#32
  | 50 => 18260#32
  | 51 => 18261#32
  | 52 => 18262#32
  | 53 => 18280#32
  | 54 => 18281#32
  | 55 => 18282#32
  | 56 => 18283#32
  | 57 => 18300#32
  | 58 => 18301#32
  | 59 => 18302#32
  | 60 => 18303#32
  | 61 => 18304#32
  | 62 => 18320#32
  | 63 => 18321#32
  | 64 => 18322#32
  | 65 => 18323#32
  | 66 => 18324#32
  | 67 => 18325#32
  | 68 => 18340#32
  | 69 => 18341#32
  | 70 => 18342#32
  | 71 => 18343#32
  | 72 => 18344#32
  | 73 => 18345#32
  | 74 => 18346#32
  | 75 => 18360#32
  | 76 => 18361#32
  | 77 => 18362#32
  | 78 => 18363#32
  | 79 => 18364#32
  | 80 => 18365#32
  | 81 => 18366#32
  | 82 => 18367#32
  | 83 => 18380#32
  | 84 => 18381#32
  | 85 => 18382#32
  | 86 => 18383#32
  | 87 => 18384#32
  | 88 => 18385#32
  | 89 => 18386#32
  | 90 => 18387#32
  | 91 => 18388#32
  | 92 => 18400#32
  | 93 => 18401#32
  | 94 => 18402#32
  | 95 => 18403#32
  | 96 => 18404#32
  | 97 => 18405#32
  | 98 => 18406#32
  | 99 => 18407#32
  | 100 => 18408#32
  | 101 => 18409#32
  | 102 => 18420#32
  | 103 => 18421#32
  | 104 => 18422#32
  | 105 => 18423#32
  | 106 => 18424#32
  | 107 => 18425#32
  | 108 => 18426#32
  | 109 => 18427#32
  | 110 => 18428#32
  | 111 => 18429#32
  | 112 => 18430#32
  | 113 => 18440#32
  | 114 => 18441#32
  | 115 => 18442#32
  | 116 => 18443#32
  | 117 => 18444#32
  | 118 => 18445#32
  | 119 => 18446#32
  | 120 => 18447#32
  | 121 => 18448#32
  | 122 => 18449#32
  | 123 => 18450#32
  | 124 => 18451#32
  | 125 => 18460#32
  | 126 => 18461#32
  | 127 => 18462#32
  | _ => 0#32

noncomputable abbrev lit0t0_79 (i : Nat) : BitVec 32 := match i % 128 with
  | 0 => 18463#32
  | 1 => 18464#32
  | 2 => 18465#32
  | 3 => 18466#32
  | 4 => 18467#32
  | 5 => 18468#32
  | 6 => 18469#32
  | 7 => 18470#32
  | 8 => 18471#32
  | 9 => 18472#32
  | 10 => 18480#32
  | 11 => 18481#32
  | 12 => 18482#32
  | 13 => 18483#32
  | 14 => 18484#32
  | 15 => 18485#32
  | 16 => 18486#32
  | 17 => 18487#32
  | 18 => 18488#32
  | 19 => 18489#32
  | 20 => 18490#32
  | 21 => 18491#32
  | 22 => 18492#32
  | 23 => 18493#32
  | 24 => 18500#32
  | 25 => 18501#32
  | 26 => 18502#32
  | 27 => 18503#32
  | 28 => 18504#32
  | 29 => 18505#32
  | 30 => 18506#32
  | 31 => 18507#32
  | 32 => 18508#32
  | 33 => 18509#32
  | 34 => 18510#32
  | 35 => 18511#32
  | 36 => 18512#32
  | 37 => 18513#32
  | 38 => 18514#32
  | 39 => 18520#32
  | 40 => 18521#32
  | 41 => 18522#32
  | 42 => 18523#32
  | 43 => 18524#32
  | 44 => 18525#32
  | 45 => 18526#32
  | 46 => 18527#32
  | 47 => 18528#32
  | 48 => 18529#32
  | 49 => 18530#32
  | 50 => 18531#32
  | 51 => 18532#32
  | 52 => 18533#32
  | 53 => 18534#32
  | 54 => 18535#32
  | 55 => 18540#32
  | 56 => 18541#32
  | 57 => 18542#32
  | 58 => 18543#32
  | 59 => 18544#32
  | 60 => 18545#32
  | 61 => 18546#32
  | 62 => 18547#32
  | 63 => 18548#32
  | 64 => 18549#32
  | 65 => 18550#32
  | 66 => 18551#32
  | 67 => 18552#32
  | 68 => 18553#32
  | 69 => 18554#32
  | 70 => 18555#32
  | 71 => 18556#32
  | 72 => 18560#32
  | 73 => 18561#32
  | 74 => 18562#32
  | 75 => 18563#32
  | 76 => 18564#32
  | 77 => 18565#32
  | 78 => 18566#32
  | 79 => 18567#32
  | 80 => 18568#32
  | 81 => 18569#32
  | 82 => 18570#32
  | 83 => 18571#32
  | 84 => 18572#32
  | 85 => 18573#32
  | 86 => 18574#32
  | 87 => 18575#32
  | 88 => 18576#32
  | 89 => 18577#32
  | 90 => 18580#32
  | 91 => 18581#32
  | 92 => 18582#32
  | 93 => 18583#32
  | 94 => 18584#32
  | 95 => 18585#32
  | 96 => 18586#32
  | 97 => 18587#32
  | 98 => 18588#32
  | 99 => 18589#32
  | 100 => 18590#32
  | 101 => 18591#32
  | 102 => 18592#32
  | 103 => 18593#32
  | 104 => 18594#32
  | 105 => 18595#32
  | 106 => 18596#32
  | 107 => 18597#32
  | 108 => 18598#32
  | 109 => 18600#32
  | 110 => 18601#32
  | 111 => 18602#32
  | 112 => 18603#32
  | 113 => 18604#32
  | 114 => 18605#32
  | 115 => 18606#32
  | 116 => 18607#32
  | 117 => 18608#32
  | 118 => 18609#32
  | 119 => 18610#32
  | 120 => 18611#32
  | 121 => 18612#32
  | 122 => 18613#32
  | 123 => 18614#32
  | 124 => 18615#32
  | 125 => 18616#32
  | 126 => 18617#32
  | 127 => 18618#32
  | _ => 0#32

noncomputable abbrev lit0t0_80 (i : Nat) : BitVec 32 := match i % 128 with
  | 0 => 18619#32
  | 1 => 18620#32
  | 2 => 18621#32
  | 3 => 18640#32
  | 4 => 18641#32
  | 5 => 18642#32
  | 6 => 18660#32
  | 7 => 18661#32
  | 8 => 18662#32
  | 9 => 18663#32
  | 10 => 18680#32
  | 11 => 18681#32
  | 12 => 18682#32
  | 13 => 18683#32
  | 14 => 18684#32
  | 15 => 18700#32
  | 16 => 18701#32
  | 17 => 18702#32
  | 18 => 18703#32
  | 19 => 18704#32
  | 20 => 18705#32
  | 21 => 18720#32
  | 22 => 18721#32
  | 23 => 18722#32
  | 24 => 18723#32
  | 25 => 18724#32
  | 26 => 18725#32
  | 27 => 18726#32
  | 28 => 18740#32
  | 29 => 18741#32
  | 30 => 18742#32
  | 31 => 18743#32
  | 32 => 18744#32
  | 33 => 18745#32
  | 34 => 18746#32
  | 35 => 18747#32
  | 36 => 18760#32
  | 37 => 18761#32
  | 38 => 18762#32
  | 39 => 18763#32
  | 40 => 18764#32
  | 41 => 18765#32
  | 42 => 18766#32
  | 43 => 18767#32
  | 44 => 18768#32
  | 45 => 18780#32
  | 46 => 18781#32
  | 47 => 18782#32
  | 48 => 18783#32
  | 49 => 18784#32
  | 50 => 18785#32
  | 51 => 18786#32
  | 52 => 18787#32
  | 53 => 18788#32
  | 54 => 18789#32
  | 55 => 18800#32
  | 56 => 18801#32
  | 57 => 18802#32
  | 58 => 18803#32
  | 59 => 18804#32
  | 60 => 18805#32
  | 61 => 18806#32
  | 62 => 18807#32
  | 63 => 18808#32
  | 64 => 18809#32
  | 65 => 18810#32
  | 66 => 18820#32
  | 67 => 18821#32
  | 68 => 18822#32
  | 69 => 18823#32
  | 70 => 18824#32
  | 71 => 18825#32
  | 72 => 18826#32
  | 73 => 18827#32
  | 74 => 18828#32
  | 75 => 18829#32
  | 76 => 18830#32
  | 77 => 18831#32
  | 78 => 18840#32
  | 79 => 18841#32
  | 80 => 18842#32
  | 81 => 18843#32
  | 82 => 18844#32
  | 83 => 18845#32
  | 84 => 18846#32
  | 85 => 18847#32
  | 86 => 18848#32
  | 87 => 18849#32
  | 88 => 18850#32
  | 89 => 18851#32
  | 90 => 18852#32
  | 91 => 18860#32
  | 92 => 18861#32
  | 93 => 18862#32
  | 94 => 18863#32
  | 95 => 18864#32
  | 96 => 18865#32
  | 97 => 18866#32
  | 98 => 18867#32
  | 99 => 18868#32
  | 100 => 18869#32
  | 101 => 18870#32
  | 102 => 18871#32
  | 103 => 18872#32
  | 104 => 18873#32
  | 105 => 18880#32
  | 106 => 18881#32
  | 107 => 18882#32
  | 108 => 18883#32
  | 109 => 18884#32
  | 110 => 18885#32
  | 111 => 18886#32
  | 112 => 18887#32
  | 113 => 18888#32
  | 114 => 18889#32
  | 115 => 18890#32
  | 116 => 18891#32
  | 117 => 18892#32
  | 118 => 18893#32
  | 119 => 18894#32
  | 120 => 18900#32
  | 121 => 18901#32
  | 122 => 18902#32
  | 123 => 18903#32
  | 124 => 18904#32
  | 125 => 18905#32
  | 126 => 18906#32
  | 127 => 18907#32
  | _ => 0#32

noncomputable abbrev lit0t0_81 (i : Nat) : BitVec 32 := match i % 128 with
  | 0 => 18908#32
  | 1 => 18909#32
  | 2 => 18910#32
  | 3 => 18911#32
  | 4 => 18912#32
  | 5 => 18913#32
  | 6 => 18914#32
  | 7 => 18915#32
  | 8 => 18920#32
  | 9 => 18921#32
  | 10 => 18922#32
  | 11 => 18923#32
  | 12 => 18924#32
  | 13 => 18925#32
  | 14 => 18926#32
  | 15 => 18927#32
  | 16 => 18928#32
  | 17 => 18929#32
  | 18 => 18930#32
  | 19 => 18931#32
  | 20 => 18932#32
  | 21 => 18933#32
  | 22 => 18934#32
  | 23 => 18935#32
  | 24 => 18936#32
  | 25 => 18940#32
  | 26 => 18941#32
  | 27 => 18942#32
  | 28 => 18943#32
  | 29 => 18944#32
  | 30 => 18945#32
  | 31 => 18946#32
  | 32 => 18947#32
  | 33 => 18948#32
  | 34 => 18949#32
  | 35 => 18950#32
  | 36 => 18951#32
  | 37 => 18952#32
  | 38 => 18953#32
  | 39 => 18954#32
  | 40 => 18955#32
  | 41 => 18956#32
  | 42 => 18957#32
  | 43 => 18960#32
  | 44 => 18961#32
  | 45 => 18962#32
  | 46 => 18963#32
  | 47 => 18964#32
  | 48 => 18965#32
  | 49 => 18966#32
  | 50 => 18967#32
  | 51 => 18968#32
  | 52 => 18969#32
  | 53 => 18970#32
  | 54 => 18971#32
  | 55 => 18972#32
  | 56 => 18973#32
  | 57 => 18974#32
  | 58 => 18975#32
  | 59 => 18976#32
  | 60 => 18977#32
  | 61 => 18978#32
  | 62 => 18980#32
  | 63 => 18981#32
  | 64 => 18982#32
  | 65 => 18983#32
  | 66 => 18984#32
  | 67 => 18985#32
  | 68 => 18986#32
  | 69 => 18987#32
  | 70 => 18988#32
  | 71 => 18989#32
  | 72 => 18990#32
  | 73 => 18991#32
  | 74 => 18992#32
  | 75 => 18993#32
  | 76 => 18994#32
  | 77 => 18995#32
  | 78 => 18996#32
  | 79 => 18997#32
  | 80 => 18998#32
  | 81 => 18999#32
  | 82 => 19000#32
  | 83 => 19001#32
  | 84 => 19020#32
  | 85 => 19021#32
  | 86 => 19022#32
  | 87 => 19040#32
  | 88 => 19041#32
  | 89 => 19042#32
  | 90 => 19043#32
  | 91 => 19060#32
  | 92 => 19061#32
  | 93 => 19062#32
  | 94 => 19063#32
  | 95 => 19064#32
  | 96 => 19080#32
  | 97 => 19081#32
  | 98 => 19082#32
  | 99 => 19083#32
  | 100 => 19084#32
  | 101 => 19085#32
  | 102 => 19100#32
  | 103 => 19101#32
  | 104 => 19102#32
  | 105 => 19103#32
  | 106 => 19104#32
  | 107 => 19105#32
  | 108 => 19106#32
  | 109 => 19120#32
  | 110 => 19121#32
  | 111 => 19122#32
  | 112 => 19123#32
  | 113 => 19124#32
  | 114 => 19125#32
  | 115 => 19126#32
  | 116 => 19127#32
  | 117 => 19140#32
  | 118 => 19141#32
  | 119 => 19142#32
  | 120 => 19143#32
  | 121 => 19144#32
  | 122 => 19145#32
  | 123 => 19146#32
  | 124 => 19147#32
  | 125 => 19148#32
  | 126 => 19160#32
  | 127 => 19161#32
  | _ => 0#32

noncomputable abbrev lit0t0_82 (i : Nat) : BitVec 32 := match i % 128 with
  | 0 => 19162#32
  | 1 => 19163#32
  | 2 => 19164#32
  | 3 => 19165#32
  | 4 => 19166#32
  | 5 => 19167#32
  | 6 => 19168#32
  | 7 => 19169#32
  | 8 => 19180#32
  | 9 => 19181#32
  | 10 => 19182#32
  | 11 => 19183#32
  | 12 => 19184#32
  | 13 => 19185#32
  | 14 => 19186#32
  | 15 => 19187#32
  | 16 => 19188#32
  | 17 => 19189#32
  | 18 => 19190#32
  | 19 => 19200#32
  | 20 => 19201#32
  | 21 => 19202#32
  | 22 => 19203#32
  | 23 => 19204#32
  | 24 => 19205#32
  | 25 => 19206#32
  | 26 => 19207#32
  | 27 => 19208#32
  | 28 => 19209#32
  | 29 => 19210#32
  | 30 => 19211#32
  | 31 => 19220#32
  | 32 => 19221#32
  | 33 => 19222#32
  | 34 => 19223#32
  | 35 => 19224#32
  | 36 => 19225#32
  | 37 => 19226#32
  | 38 => 19227#32
  | 39 => 19228#32
  | 40 => 19229#32
  | 41 => 19230#32
  | 42 => 19231#32
  | 43 => 19232#32
  | 44 => 19240#32
  | 45 => 19241#32
  | 46 => 19242#32
  | 47 => 19243#32
  | 48 => 19244#32
  | 49 => 19245#32
  | 50 => 19246#32
  | 51 => 19247#32
  | 52 => 19248#32
  | 53 => 19249#32
  | 54 => 19250#32
  | 55 => 19251#32
  | 56 => 19252#32
  | 57 => 19253#32
  | 58 => 19260#32
  | 59 => 19261#32
  | 60 => 19262#32
  | 61 => 19263#32
  | 62 => 19264#32
  | 63 => 19265#32
  | 64 => 19266#32
  | 65 => 19267#32
  | 66 => 19268#32
  | 67 => 19269#32
  | 68 => 19270#32
  | 69 => 19271#32
  | 70 => 19272#32
  | 71 => 19273#32
  | 72 => 19274#32
  | 73 => 19280#32
  | 74 => 19281#32
  | 75 => 19282#32
  | 76 => 19283#32
  | 77 => 19284#32
  | 78 => 19285#32
  | 79 => 19286#32
  | 80 => 19287#32
  | 81 => 19288#32
  | 82 => 19289#32
  | 83 => 19290#32
  | 84 => 19291#32
  | 85 => 19292#32
  | 86 => 19293#32
  | 87 => 19294#32
  | 88 => 19295#32
  | 89 => 19300#32
  | 90 => 19301#32
  | 91 => 19302#32
  | 92 => 19303#32
  | 93 => 19304#32
  | 94 => 19305#32
  | 95 => 19306#32
  | 96 => 19307#32
  | 97 => 19308#32
  | 98 => 19309#32
  | 99 => 19310#32
  | 100 => 19311#32
  | 101 => 19312#32
  | 102 => 19313#32
  | 103 => 19314#32
  | 104 => 19315#32
  | 105 => 19316#32
  | 106 => 19320#32
  | 107 => 19321#32
  | 108 => 19322#32
  | 109 => 19323#32
  | 110 => 19324#32
  | 111 => 19325#32
  | 112 => 19326#32
  | 113 => 19327#32
  | 114 => 19328#32
  | 115 => 19329#32
  | 116 => 19330#32
  | 117 => 19331#32
  | 118 => 19332#32
  | 119 => 19333#32
  | 120 => 19334#32
  | 121 => 19335#32
  | 122 => 19336#32
  | 123 => 19337#32
  | 124 => 19340#32
  | 125 => 19341#32
  | 126 => 19342#32
  | 127 => 19343#32
  | _ => 0#32

noncomputable abbrev lit0t0_83 (i : Nat) : BitVec 32 := match i % 128 with
  | 0 => 19344#32
  | 1 => 19345#32
  | 2 => 19346#32
  | 3 => 19347#32
  | 4 => 19348#32
  | 5 => 19349#32
  | 6 => 19350#32
  | 7 => 19351#32
  | 8 => 19352#32
  | 9 => 19353#32
  | 10 => 19354#32
  | 11 => 19355#32
  | 12 => 19356#32
  | 13 => 19357#32
  | 14 => 19358#32
  | 15 => 19360#32
  | 16 => 19361#32
  | 17 => 19362#32
  | 18 => 19363#32
  | 19 => 19364#32
  | 20 => 19365#32
  | 21 => 19366#32
  | 22 => 19367#32
  | 23 => 19368#32
  | 24 => 19369#32
  | 25 => 19370#32
  | 26 => 19371#32
  | 27 => 19372#32
  | 28 => 19373#32
  | 29 => 19374#32
  | 30 => 19375#32
  | 31 => 19376#32
  | 32 => 19377#32
  | 33 => 19378#32
  | 34 => 19379#32
  | 35 => 19380#32
  | 36 => 19381#32
  | 37 => 19400#32
  | 38 => 19401#32
  | 39 => 19402#32
  | 40 => 19420#32
  | 41 => 19421#32
  | 42 => 19422#32
  | 43 => 19423#32
  | 44 => 19440#32
  | 45 => 19441#32
  | 46 => 19442#32
  | 47 => 19443#32
  | 48 => 19444#32
  | 49 => 19460#32
  | 50 => 19461#32
  | 51 => 19462#32
  | 52 => 19463#32
  | 53 => 19464#32
  | 54 => 19465#32
  | 55 => 19480#32
  | 56 => 19481#32
  | 57 => 19482#32
  | 58 => 19483#32
  | 59 => 19484#32
  | 60 => 19485#32
  | 61 => 19486#32
  | 62 => 19500#32
  | 63 => 19501#32
  | 64 => 19502#32
  | 65 => 19503#32
  | 66 => 19504#32
  | 67 => 19505#32
  | 68 => 19506#32
  | 69 => 19507#32
  | 70 => 19520#32
  | 71 => 19521#32
  | 72 => 19522#32
  | 73 => 19523#32
  | 74 => 19524#32
  | 75 => 19525#32
  | 76 => 19526#32
  | 77 => 19527#32
  | 78 => 19528#32
  | 79 => 19540#32
  | 80 => 19541#32
  | 81 => 19542#32
  | 82 => 19543#32
  | 83 => 19544#32
  | 84 => 19545#32
  | 85 => 19546#32
  | 86 => 19547#32
  | 87 => 19548#32
  | 88 => 19549#32
  | 89 => 19560#32
  | 90 => 19561#32
  | 91 => 19562#32
  | 92 => 19563#32
  | 93 => 19564#32
  | 94 => 19565#32
  | 95 => 19566#32
  | 96 => 19567#32
  | 97 => 19568#32
  | 98 => 19569#32
  | 99 => 19570#32
  | 100 => 19580#32
  | 101 => 19581#32
  | 102 => 19582#32
  | 103 => 19583#32
  | 104 => 19584#32
  | 105 => 19585#32
  | 106 => 19586#32
  | 107 => 19587#32
  | 108 => 19588#32
  | 109 => 19589#32
  | 110 => 19590#32
  | 111 => 19591#32
  | 112 => 19600#32
  | 113 => 19601#32
  | 114 => 19602#32
  | 115 => 19603#32
  | 116 => 19604#32
  | 117 => 19605#32
  | 118 => 19606#32
  | 119 => 19607#32
  | 120 => 19608#32
  | 121 => 19609#32
  | 122 => 19610#32
  | 123 => 19611#32
  | 124 => 19612#32
  | 125 => 19620#32
  | 126 => 19621#32
  | 127 => 19622#32
  | _ => 0#32

noncomputable abbrev lit0t0_84 (i : Nat) : BitVec 32 := match i % 128 with
  | 0 => 19623#32
  | 1 => 19624#32
  | 2 => 19625#32
  | 3 => 19626#32
  | 4 => 19627#32
  | 5 => 19628#32
  | 6 => 19629#32
  | 7 => 19630#32
  | 8 => 19631#32
  | 9 => 19632#32
  | 10 => 19633#32
  | 11 => 19640#32
  | 12 => 19641#32
  | 13 => 19642#32
  | 14 => 19643#32
  | 15 => 19644#32
  | 16 => 19645#32
  | 17 => 19646#32
  | 18 => 19647#32
  | 19 => 19648#32
  | 20 => 19649#32
  | 21 => 19650#32
  | 22 => 19651#32
  | 23 => 19652#32
  | 24 => 19653#32
  | 25 => 19654#32
  | 26 => 19660#32
  | 27 => 19661#32
  | 28 => 19662#32
  | 29 => 19663#32
  | 30 => 19664#32
  | 31 => 19665#32
  | 32 => 19666#32
  | 33 => 19667#32
  | 34 => 19668#32
  | 35 => 19669#32
  | 36 => 19670#32
  | 37 => 19671#32
  | 38 => 19672#32
  | 39 => 19673#32
  | 40 => 19674#32
  | 41 => 19675#32
  | 42 => 19680#32
  | 43 => 19681#32
  | 44 => 19682#32
  | 45 => 19683#32
  | 46 => 19684#32
  | 47 => 19685#32
  | 48 => 19686#32
  | 49 => 19687#32
  | 50 => 19688#32
  | 51 => 19689#32
  | 52 => 19690#32
  | 53 => 19691#32
  | 54 => 19692#32
  | 55 => 19693#32
  | 56 => 19694#32
  | 57 => 19695#32
  | 58 => 19696#32
  | 59 => 19700#32
  | 60 => 19701#32
  | 61 => 19702#32
  | 62 => 19703#32
  | 63 => 19704#32
  | 64 => 19705#32
  | 65 => 19706#32
  | 66 => 19707#32
  | 67 => 19708#32
  | 68 => 19709#32
  | 69 => 19710#32
  | 70 => 19711#32
  | 71 => 19712#32
  | 72 => 19713#32
  | 73 => 19714#32
  | 74 => 19715#32
  | 75 => 19716#32
  | 76 => 19717#32
  | 77 => 19720#32
  | 78 => 19721#32
  | 79 => 19722#32
  | 80 => 19723#32
  | 81 => 19724#32
  | 82 => 19725#32
  | 83 => 19726#32
  | 84 => 19727#32
  | 85 => 19728#32
  | 86 => 19729#32
  | 87 => 19730#32
  | 88 => 19731#32
  | 89 => 19732#32
  | 90 => 19733#32
  | 91 => 19734#32
  | 92 => 19735#32
  | 93 => 19736#32
  | 94 => 19737#32
  | 95 => 19738#32
  | 96 => 19740#32
  | 97 => 19741#32
  | 98 => 19742#32
  | 99 => 19743#32
  | 100 => 19744#32
  | 101 => 19745#32
  | 102 => 19746#32
  | 103 => 19747#32
  | 104 => 19748#32
  | 105 => 19749#32
  | 106 => 19750#32
  | 107 => 19751#32
  | 108 => 19752#32
  | 109 => 19753#32
  | 110 => 19754#32
  | 111 => 19755#32
  | 112 => 19756#32
  | 113 => 19757#32
  | 114 => 19758#32
  | 115 => 19759#32
  | 116 => 19760#32
  | 117 => 19761#32
  | 118 => 19780#32
  | 119 => 19781#32
  | 120 => 19782#32
  | 121 => 19800#32
  | 122 => 19801#32
  | 123 => 19802#32
  | 124 => 19803#32
  | 125 => 19820#32
  | 126 => 19821#32
  | 127 => 19822#32
  | _ => 0#32

noncomputable abbrev lit0t0_85 (i : Nat) : BitVec 32 := match i % 128 with
  | 0 => 19823#32
  | 1 => 19824#32
  | 2 => 19840#32
  | 3 => 19841#32
  | 4 => 19842#32
  | 5 => 19843#32
  | 6 => 19844#32
  | 7 => 19845#32
  | 8 => 19860#32
  | 9 => 19861#32
  | 10 => 19862#32
  | 11 => 19863#32
  | 12 => 19864#32
  | 13 => 19865#32
  | 14 => 19866#32
  | 15 => 19880#32
  | 16 => 19881#32
  | 17 => 19882#32
  | 18 => 19883#32
  | 19 => 19884#32
  | 20 => 19885#32
  | 21 => 19886#32
  | 22 => 19887#32
  | 23 => 19900#32
  | 24 => 19901#32
  | 25 => 19902#32
  | 26 => 19903#32
  | 27 => 19904#32
  | 28 => 19905#32
  | 29 => 19906#32
  | 30 => 19907#32
  | 31 => 19908#32
  | 32 => 19920#32
  | 33 => 19921#32
  | 34 => 19922#32
  | 35 => 19923#32
  | 36 => 19924#32
  | 37 => 19925#32
  | 38 => 19926#32
  | 39 => 19927#32
  | 40 => 19928#32
  | 41 => 19929#32
  | 42 => 19940#32
  | 43 => 19941#32
  | 44 => 19942#32
  | 45 => 19943#32
  | 46 => 19944#32
  | 47 => 19945#32
  | 48 => 19946#32
  | 49 => 19947#32
  | 50 => 19948#32
  | 51 => 19949#32
  | 52 => 19950#32
  | 53 => 19960#32
  | 54 => 19961#32
  | 55 => 19962#32
  | 56 => 19963#32
  | 57 => 19964#32
  | 58 => 19965#32
  | 59 => 19966#32
  | 60 => 19967#32
  | 61 => 19968#32
  | 62 => 19969#32
  | 63 => 19970#32
  | 64 => 19971#32
  | 65 => 19980#32
  | 66 => 19981#32
  | 67 => 19982#32
  | 68 => 19983#32
  | 69 => 19984#32
  | 70 => 19985#32
  | 71 => 19986#32
  | 72 => 19987#32
  | 73 => 19988#32
  | 74 => 19989#32
  | 75 => 19990#32
  | 76 => 19991#32
  | 77 => 19992#32
  | _ => 0#32

noncomputable abbrev lit0t (i : Nat) : BitVec 32 := match i / 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | 16 => lit0t0_16 i
  | 17 => lit0t0_17 i
  | 18 => lit0t0_18 i
  | 19 => lit0t0_19 i
  | 20 => lit0t0_20 i
  | 21 => lit0t0_21 i
  | 22 => lit0t0_22 i
  | 23 => lit0t0_23 i
  | 24 => lit0t0_24 i
  | 25 => lit0t0_25 i
  | 26 => lit0t0_26 i
  | 27 => lit0t0_27 i
  | 28 => lit0t0_28 i
  | 29 => lit0t0_29 i
  | 30 => lit0t0_30 i
  | 31 => lit0t0_31 i
  | 32 => lit0t0_32 i
  | 33 => lit0t0_33 i
  | 34 => lit0t0_34 i
  | 35 => lit0t0_35 i
  | 36 => lit0t0_36 i
  | 37 => lit0t0_37 i
  | 38 => lit0t0_38 i
  | 39 => lit0t0_39 i
  | 40 => lit0t0_40 i
  | 41 => lit0t0_41 i
  | 42 => lit0t0_42 i
  | 43 => lit0t0_43 i
  | 44 => lit0t0_44 i
  | 45 => lit0t0_45 i
  | 46 => lit0t0_46 i
  | 47 => lit0t0_47 i
  | 48 => lit0t0_48 i
  | 49 => lit0t0_49 i
  | 50 => lit0t0_50 i
  | 51 => lit0t0_51 i
  | 52 => lit0t0_52 i
  | 53 => lit0t0_53 i
  | 54 => lit0t0_54 i
  | 55 => lit0t0_55 i
  | 56 => lit0t0_56 i
  | 57 => lit0t0_57 i
  | 58 => lit0t0_58 i
  | 59 => lit0t0_59 i
  | 60 => lit0t0_60 i
  | 61 => lit0t0_61 i
  | 62 => lit0t0_62 i
  | 63 => lit0t0_63 i
  | 64 => lit0t0_64 i
  | 65 => lit0t0_65 i
  | 66 => lit0t0_66 i
  | 67 => lit0t0_67 i
  | 68 => lit0t0_68 i
  | 69 => lit0t0_69 i
  | 70 => lit0t0_70 i
  | 71 => lit0t0_71 i
  | 72 => lit0t0_72 i
  | 73 => lit0t0_73 i
  | 74 => lit0t0_74 i
  | 75 => lit0t0_75 i
  | 76 => lit0t0_76 i
  | 77 => lit0t0_77 i
  | 78 => lit0t0_78 i
  | 79 => lit0t0_79 i
  | 80 => lit0t0_80 i
  | 81 => lit0t0_81 i
  | 82 => lit0t0_82 i
  | 83 => lit0t0_83 i
  | 84 => lit0t0_84 i
  | 85 => lit0t0_85 i
  | _ => 0#32

noncomputable abbrev lit0 : Fin 10958 → BitVec 32 := fun ⟨i, _⟩ => lit0t i

def fn {F : FTy → Type} [FloatOps F] (main_arg0 : FVec F S2048x10958 .f32) (main_arg1 : IVec S10958 32) (main_arg2 : IVec S10958 32) : IVec S_ 1 :=
  let main_c : IVec S10958 32 := fun i => lit0 (S10958.rowMajor i)
  let main_v0 : IVec S10958 1 := cmpi .eq main_arg1 main_c
  let main_c_0 : IVec S_ 1 := constantI S_ 1 1#1
  let main_v1 : IVec S_ 1 := (fun x v => Host.reduce IntOp.andi x v reducesTo_S10958_S_d0 h_S_) main_v0 main_c_0
  let main_v2 : IVec S10958 32 := iotaInDim S10958 32 0
  let main_c_1 : IVec S_ 32 := constantI S_ 32 1#32
  let main_v3 : IVec S10958 32 := broadcastInDim S10958 ![] bcast_S_S10958 main_c_1
  let main_v4 : IVec S10958 32 := addi main_v3 main_v2
  let main_v5 : IVec S10958 1 := cmpi .eq main_arg2 main_v4
  let main_c_2 : IVec S_ 1 := constantI S_ 1 1#1
  let main_v6 : IVec S_ 1 := (fun x v => Host.reduce IntOp.andi x v reducesTo_S10958_S_d0 h_S_) main_v5 main_c_2
  let main_v7 : IVec S_ 1 := andi main_v1 main_v6
  main_v7
-- ==== Kernel.lean ====
abbrev S2048x10958 : Shape := ⟨2, ![2048, 10958]⟩
abbrev S10958 : Shape := ⟨1, ![10958]⟩
abbrev S1254x114 : Shape := ⟨2, ![1254, 114]⟩
abbrev S926x88 : Shape := ⟨2, ![926, 88]⟩
abbrev S114x1254 : Shape := ⟨2, ![114, 1254]⟩
abbrev S88x926 : Shape := ⟨2, ![88, 926]⟩
abbrev S2048x10959 : Shape := ⟨2, ![2048, 10959]⟩
abbrev S64x10958 : Shape := ⟨2, ![64, 10958]⟩
abbrev S64x10959 : Shape := ⟨2, ![64, 10959]⟩
abbrev S64x1 : Shape := ⟨2, ![64, 1]⟩
abbrev S64x1254 : Shape := ⟨2, ![64, 1254]⟩
abbrev S64x114 : Shape := ⟨2, ![64, 114]⟩
abbrev S64x926 : Shape := ⟨2, ![64, 926]⟩
abbrev S64x88 : Shape := ⟨2, ![64, 88]⟩

abbrev nBuf : Space → Nat
  | .hbm => 8
  | .vmem => 8
  | .smem => 0
  | _ => 0

abbrev bufTy : (tb : Table) → Fin (tcTables nBuf tb) → BufTy
  | .hbm, ⟨0, _⟩ => ⟨S2048x10958, .f32⟩
  | .hbm, ⟨1, _⟩ => ⟨S10958, .i32⟩
  | .hbm, ⟨2, _⟩ => ⟨S10958, .i32⟩
  | .hbm, ⟨3, _⟩ => ⟨S1254x114, .f32⟩
  | .hbm, ⟨4, _⟩ => ⟨S926x88, .f32⟩
  | .hbm, ⟨5, _⟩ => ⟨S114x1254, .f32⟩
  | .hbm, ⟨6, _⟩ => ⟨S88x926, .f32⟩
  | .hbm, ⟨7, _⟩ => ⟨S2048x10959, .f32⟩
  | .local _ .vmem, ⟨0, _⟩ => ⟨S64x10958, .f32⟩
  | .local _ .vmem, ⟨1, _⟩ => ⟨S64x10958, .f32⟩
  | .local _ .vmem, ⟨2, _⟩ => ⟨S1254x114, .f32⟩
  | .local _ .vmem, ⟨3, _⟩ => ⟨S114x1254, .f32⟩
  | .local _ .vmem, ⟨4, _⟩ => ⟨S926x88, .f32⟩
  | .local _ .vmem, ⟨5, _⟩ => ⟨S88x926, .f32⟩
  | .local _ .vmem, ⟨6, _⟩ => ⟨S64x10959, .f32⟩
  | .local _ .vmem, ⟨7, _⟩ => ⟨S64x10959, .f32⟩
  | _, _ => ⟨S2048x10958, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x10958 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1254x114 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S114x1254 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S926x88 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S88x926 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x10959 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2048x10958 : Shape := ⟨2, ![2048, 10958]⟩
abbrev S10958 : Shape := ⟨1, ![10958]⟩
abbrev S_ : Shape := ⟨0, ![]⟩
abbrev S2048x20000 : Shape := ⟨2, ![2048, 20000]⟩
abbrev S10958x1 : Shape := ⟨2, ![10958, 1]⟩
abbrev S2048x1000x20 : Shape := ⟨3, ![2048, 1000, 20]⟩
abbrev S2048x1000 : Shape := ⟨2, ![2048, 1000]⟩
abbrev S2048x1000x1 : Shape := ⟨3, ![2048, 1000, 1]⟩
abbrev S1 : Shape := ⟨1, ![1]⟩
abbrev S1x1 : Shape := ⟨2, ![1, 1]⟩
abbrev S2048x10959 : Shape := ⟨2, ![2048, 10959]⟩

abbrev nBuf : Space → Nat
  | .hbm => 65
  | .vmem => 0
  | .smem => 0
  | _ => 0

abbrev bufTy : (tb : Table) → Fin (tcTables nBuf tb) → BufTy
  | .hbm, ⟨0, _⟩ => ⟨S2048x10958, .f32⟩
  | .hbm, ⟨1, _⟩ => ⟨S10958, .i32⟩
  | .hbm, ⟨2, _⟩ => ⟨S10958, .i32⟩
  | .hbm, ⟨3, _⟩ => ⟨S_, .f32⟩
  | .hbm, ⟨4, _⟩ => ⟨S2048x20000, .f32⟩
  | .hbm, ⟨5, _⟩ => ⟨S_, .i32⟩
  | .hbm, ⟨6, _⟩ => ⟨S10958, .i32⟩
  | .hbm, ⟨7, _⟩ => ⟨S10958, .i1⟩
  | .hbm, ⟨8, _⟩ => ⟨S_, .i32⟩
  | .hbm, ⟨9, _⟩ => ⟨S10958, .i32⟩
  | .hbm, ⟨10, _⟩ => ⟨S10958, .i32⟩
  | .hbm, ⟨11, _⟩ => ⟨S10958, .i32⟩
  | .hbm, ⟨12, _⟩ => ⟨S10958x1, .i32⟩
  | .hbm, ⟨13, _⟩ => ⟨S2048x20000, .f32⟩
  | .hbm, ⟨14, _⟩ => ⟨S2048x1000x20, .f32⟩
  | .hbm, ⟨15, _⟩ => ⟨S_, .f32⟩
  | .hbm, ⟨16, _⟩ => ⟨S2048x1000, .f32⟩
  | .hbm, ⟨17, _⟩ => ⟨S_, .f32⟩
  | .hbm, ⟨18, _⟩ => ⟨S2048x1000, .f32⟩
  | .hbm, ⟨19, _⟩ => ⟨S2048x1000, .f32⟩
  | .hbm, ⟨20, _⟩ => ⟨S2048x1000x1, .f32⟩
  | .hbm, ⟨21, _⟩ => ⟨S2048x1000x20, .f32⟩
  | .hbm, ⟨22, _⟩ => ⟨S2048x1000x20, .f32⟩
  | .hbm, ⟨23, _⟩ => ⟨S2048x1000x20, .f32⟩
  | .hbm, ⟨24, _⟩ => ⟨S_, .f32⟩
  | .hbm, ⟨25, _⟩ => ⟨S2048x1000, .f32⟩
  | .hbm, ⟨26, _⟩ => ⟨S2048x1000x1, .f32⟩
  | .hbm, ⟨27, _⟩ => ⟨S2048x1000x1, .f32⟩
  | .hbm, ⟨28, _⟩ => ⟨S2048x1000x20, .f32⟩
  | .hbm, ⟨29, _⟩ => ⟨S2048x1000x20, .f32⟩
  | .hbm, ⟨30, _⟩ => ⟨S2048x20000, .f32⟩
  | .hbm, ⟨31, _⟩ => ⟨S_, .i32⟩
  | .hbm, ⟨32, _⟩ => ⟨S10958, .i32⟩
  | .hbm, ⟨33, _⟩ => ⟨S10958, .i1⟩
  | .hbm, ⟨34, _⟩ => ⟨S_, .i32⟩
  | .hbm, ⟨35, _⟩ => ⟨S10958, .i32⟩
  | .hbm, ⟨36, _⟩ => ⟨S10958, .i32⟩
  | .hbm, ⟨37, _⟩ => ⟨S10958, .i32⟩
  | .hbm, ⟨38, _⟩ => ⟨S10958x1, .i32⟩
  | .hbm, ⟨39, _⟩ => ⟨S1, .i32⟩
  | .hbm, ⟨40, _⟩ => ⟨S_, .i32⟩
  | .hbm, ⟨41, _⟩ => ⟨S10958x1, .i32⟩
  | .hbm, ⟨42, _⟩ => ⟨S10958x1, .i1⟩
  | .hbm, ⟨43, _⟩ => ⟨S1x1, .i32⟩
  | .hbm, ⟨44, _⟩ => ⟨S10958x1, .i32⟩
  | .hbm, ⟨45, _⟩ => ⟨S10958x1, .i1⟩
  | .hbm, ⟨46, _⟩ => ⟨S10958x1, .i1⟩
  | .hbm, ⟨47, _⟩ => ⟨S_, .i1⟩
  | .hbm, ⟨48, _⟩ => ⟨S10958, .i1⟩
  | .hbm, ⟨49, _⟩ => ⟨S2048x10958, .f32⟩
  | .hbm, ⟨50, _⟩ => ⟨S2048x10958, .i1⟩
  | .hbm, ⟨51, _⟩ => ⟨S_, .f32⟩
  | .hbm, ⟨52, _⟩ => ⟨S2048x10958, .f32⟩
  | .hbm, ⟨53, _⟩ => ⟨S2048x10958, .f32⟩
  | .hbm, ⟨54, _⟩ => ⟨S_, .f32⟩
  | .hbm, ⟨55, _⟩ => ⟨S2048x10959, .f32⟩
  | .hbm, ⟨56, _⟩ => ⟨S_, .i32⟩
  | .hbm, ⟨57, _⟩ => ⟨S10958, .i32⟩
  | .hbm, ⟨58, _⟩ => ⟨S10958, .i1⟩
  | .hbm, ⟨59, _⟩ => ⟨S_, .i32⟩
  | .hbm, ⟨60, _⟩ => ⟨S10958, .i32⟩
  | .hbm, ⟨61, _⟩ => ⟨S10958, .i32⟩
  | .hbm, ⟨62, _⟩ => ⟨S10958, .i32⟩
  | .hbm, ⟨63, _⟩ => ⟨S10958x1, .i32⟩
  | .hbm, ⟨64, _⟩ => ⟨S2048x10959, .f32⟩
  | _, _ => ⟨S2048x10958, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_cst_1 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_v9 : Ref sig .tc := ⟨.hbm, 29, rfl⟩
abbrev main_v10 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v11 : Ref sig .tc := ⟨.hbm, 53, rfl⟩
abbrev main_cst_1 : Ref sig .tc := ⟨.hbm, 54, rfl⟩
abbrev main_v12 : Ref sig .tc := ⟨.hbm, 55, rfl⟩
abbrev main_c_2 : Ref sig .tc := ⟨.hbm, 56, rfl⟩
abbrev main_v13 : Ref sig .tc := ⟨.hbm, 57, rfl⟩
abbrev main_v14 : Ref sig .tc := ⟨.hbm, 58, rfl⟩
abbrev main_c_3 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩

abbrev nD : Nat := 1
abbrev τ : Topo := Topo.v7x

variable {F : FTy → Type} [FloatOps F]
-- ==== Proof.Tree.lean ====
/- The tree's arithmetic: node `s` of the thousand inner nodes has `s % 19 + 2` children, and the children of all nodes
   follow each other, so that the children of node `s` are the columns from `start s` on. Everything repeats after 19 nodes,
   which have 209 children together. -/
module

public import Mathlib.Order.Monotone.Basic
public import Idealize.ShloMosaic.Lib.Pointwise

@[expose] public section

namespace Cert.Tree

/-- How many children node `s` has. -/
def cnt (s : ℕ) : ℕ := s % 19 + 2

/-- The column of the first child of node `s`. -/
def start (s : ℕ) : ℕ := s / 19 * 209 + s % 19 * (s % 19 + 3) / 2

/-- Column `k` holds a child of node `s`. -/
def inSeg (k s : ℕ) : Bool := Nat.ble (start s) k && Nat.blt k (start s + cnt s)

/-- The children of node `s + 1` follow those of node `s`. -/
theorem start_succ (s : ℕ) : start (s + 1) = start s + cnt s := by
  have key : ∀ r < 18, (r + 1) * (r + 1 + 3) / 2 = r * (r + 3) / 2 + (r + 2) := by decide
  unfold start cnt
  by_cases h : s % 19 = 18
  · have h1 : (s + 1) % 19 = 0 := by omega
    have h2 : (s + 1) / 19 = s / 19 + 1 := by omega
    rw [h1, h2, h]; omega
  · have h1 : (s + 1) % 19 = s % 19 + 1 := by omega
    have h2 : (s + 1) / 19 = s / 19 := by omega
    have := key (s % 19) (by omega)
    rw [h1, h2, this]; omega

/-- Column `k` lies between the first child of node `s` and the first of the next node. -/
theorem inSeg_iff (k s : ℕ) : inSeg k s = true ↔ start s ≤ k ∧ k < start s + cnt s := by
  simp [inSeg, Nat.blt_eq]

/-- Later nodes have later children. -/
theorem start_mono : Monotone start :=
  monotone_nat_of_le_succ fun s => by rw [start_succ]; omega

/-- A column holds a child of one node only. -/
theorem inSeg_unique {k s s' : ℕ} (h : inSeg k s = true) (h' : inSeg k s' = true) : s = s' := by
  rw [inSeg_iff, ← start_succ] at h h'
  by_contra hne
  rcases Nat.lt_or_gt_of_ne hne with hlt | hlt
  · have := start_mono (show s + 1 ≤ s' from hlt); omega
  · have := start_mono (show s' + 1 ≤ s from hlt); omega

/-- The node of which column `k` holds a child. -/
def seg (k : ℕ) : ℕ := k / 209 * 19 + ((List.range 18).filter fun t => Nat.ble ((t + 1) * (t + 4) / 2) (k % 209)).length

/-- Every column is a child of the node `seg k`. -/
theorem inSeg_seg (k : ℕ) : inSeg k (seg k) = true := by
  have key : ∀ r < 209, (((List.range 18).filter fun t => Nat.ble ((t + 1) * (t + 4) / 2) r).length < 19 ∧
      inSeg r ((List.range 18).filter fun t => Nat.ble ((t + 1) * (t + 4) / 2) r).length = true) := by
    decide +kernel
  obtain ⟨h1, h2⟩ := key (k % 209) (Nat.mod_lt _ (by norm_num))
  rw [inSeg_iff] at h2 ⊢
  unfold seg
  generalize ((List.range 18).filter fun t => Nat.ble ((t + 1) * (t + 4) / 2) (k % 209)).length = j at h1 h2
  unfold start cnt at h2 ⊢
  have e1 : (k / 209 * 19 + j) / 19 = k / 209 := by omega
  have e2 : (k / 209 * 19 + j) % 19 = j := by omega
  have e3 : j / 19 = 0 := by omega
  have e4 : j % 19 = j := by omega
  rw [e1, e2]; rw [e3, e4] at h2
  have := Nat.div_add_mod k 209
  omega

/-- Column `k` is a child of `s` exactly when `seg k` is `s`. -/
theorem inSeg_iff_seg (k s : ℕ) : inSeg k s = true ↔ seg k = s :=
  ⟨fun h => inSeg_unique (inSeg_seg k) h, fun h => h ▸ inSeg_seg k⟩

/-- The columns repeat after `6 * 209` of them, which hold the children of `6 * 19` nodes. -/
theorem start_group (g s : ℕ) : start (g * 114 + s) = g * 1254 + start s := by
  unfold start
  have e1 : (g * 114 + s) / 19 = g * 6 + s / 19 := by omega
  have e2 : (g * 114 + s) % 19 = s % 19 := by omega
  rw [e1, e2]; omega

/-- The counts repeat every 114 nodes. -/
theorem cnt_group (g s : ℕ) : cnt (g * 114 + s) = cnt s := by unfold cnt; omega

/-- A shift by 1254 columns is a shift by 114 nodes. -/
theorem seg_group (g k : ℕ) : seg (g * 1254 + k) = g * 114 + seg k := by
  rw [← inSeg_iff_seg, inSeg_iff, start_group, cnt_group]
  have := (inSeg_iff _ _).1 (inSeg_seg k)
  omega

end Cert.Tree
-- ==== Proof.Digits.lean ====
/- A long table of words is printed as a tree of matches on the index's digits. `arms` is one such match, its arms given by
   a function, and `tree` a nest of three: a printed table is such a nest by unfolding alone, whatever the index, and
   `tree_eq` reads the nest at an index. -/
module

public import proofs.«01_k».proof.Proof.Tree

@[expose] public section

namespace Cert.Digits

/-- The last `n` arms of the match on `x` whose arm at `0`, …, `tot - 1` is the value of `v` there, and the word `0`
    elsewhere. -/
def armsFrom (tot : ℕ) (v : ℕ → BitVec 32) (x : ℕ) (n : ℕ) : BitVec 32 :=
  Nat.rec (motive := fun _ => BitVec 32) 0#32
    (fun n ih => @dite (BitVec 32) (x = Nat.sub tot (Nat.succ n)) (instDecidableEqNat x (Nat.sub tot (Nat.succ n)))
      (@Eq.ndrec_symm ℕ (Nat.sub tot (Nat.succ n)) (fun _ => BitVec 32) (v (Nat.sub tot (Nat.succ n))) x) fun _ => ih) n

/-- The match on `x` whose arm at `0`, …, `tot - 1` is the value of `v` there, and the word `0` elsewhere. -/
def arms (tot : ℕ) (v : ℕ → BitVec 32) (x : ℕ) : BitVec 32 := armsFrom tot v x tot

/-- How many of a digit's 128 values begin an entry, when `m` remain. -/
def len (m : ℕ) : ℕ := Nat.sub 128 (Nat.sub 128 m)

/-- The tree of matches over the three digits of `i` for the table of `n` words whose `i`-th word is `w i`. -/
def tree (n : ℕ) (w : ℕ → BitVec 32) (i : ℕ) : BitVec 32 :=
  arms (Nat.div (Nat.add n 16383) 16384) (fun a =>
    arms (len (Nat.div (Nat.add (Nat.sub n (Nat.mul 16384 a)) 127) 128)) (fun b =>
      arms (len (Nat.sub n (Nat.add (Nat.mul 16384 a) (Nat.mul 128 b)))) (fun c =>
        w (Nat.add (Nat.add (Nat.mul 16384 a) (Nat.mul 128 b)) c)) (i % 128)) (i / 128 % 128)) (i / 16384)

/-- Read from an arm on that is not behind `x`, the match holds the value of `v` at `x`. -/
theorem armsFrom_eq (tot : ℕ) (v : ℕ → BitVec 32) (x n : ℕ) (hx : x < tot) (hn : n ≤ tot) (h : tot - n ≤ x) :
    armsFrom tot v x n = v x := by
  induction n with
  | zero => omega
  | succ n ih =>
    by_cases e : x = tot - (n + 1)
    · subst e
      exact dif_pos rfl
    · exact (dif_neg (c := x = Nat.sub tot (Nat.succ n)) e).trans (ih (by omega) (by omega))

/-- A match at a number that has an arm. -/
theorem arms_eq {tot : ℕ} (v : ℕ → BitVec 32) {x : ℕ} (hx : x < tot) : arms tot v x = v x :=
  armsFrom_eq tot v x tot hx le_rfl (by omega)

/-- A digit below 128 and below what remains is one of those that begin an entry. -/
theorem lt_len {x m : ℕ} (h : x < 128) (hm : x < m) : x < len m :=
  show x < 128 - (128 - m) by omega

/-- The tree at an index of the table is the table's word there. -/
theorem tree_eq {n : ℕ} (w : ℕ → BitVec 32) {i : ℕ} (h : i < n) : tree n w i = w i := by
  have h0 : i / 16384 < (n + 16383) / 16384 := by omega
  have h1 : i / 128 % 128 < (n - 16384 * (i / 16384) + 127) / 128 := by omega
  have h2 : i % 128 < n - (16384 * (i / 16384) + 128 * (i / 128 % 128)) := by omega
  exact (arms_eq _ h0).trans ((arms_eq _ (lt_len (Nat.mod_lt _ (by norm_num)) h1)).trans
    ((arms_eq _ (lt_len (Nat.mod_lt _ (by norm_num)) h2)).trans
      (congrArg w (show 16384 * (i / 16384) + 128 * (i / 128 % 128) + i % 128 = i by omega))))

/-- The word of the one-hot table whose rows are columns of scores and whose columns are nodes, `w` nodes wide: one where
    the column holds a child of the node, zero elsewhere. -/
def down (w i : ℕ) : BitVec 32 := cond (Tree.inSeg (Nat.div i w) (Nat.mod i w)) 0x3F800000#32 0x00000000#32

end Cert.Digits
-- ==== Proof.Table0.lean ====
/- The words of the kernel's constant `lit0`. -/
module

public import proofs.«01_k».proof.KernelIdeal.P06
public import proofs.«01_k».proof.Proof.Digits

@[expose] public section

namespace Cert.Tables

open Cert.KernelIdeal Cert.Digits

set_option maxRecDepth 1000000 in
set_option maxHeartbeats 0 in
set_option smartUnfolding false in
/-- The printed digit tree of `lit0` is the tree of its words, by unfolding. -/
theorem lit0t_eq (i : ℕ) : lit0t i = tree 142956 (down 114) i := by with_unfolding_all exact rfl

/-- The words of `lit0`. -/
theorem lit0_eq (i : Fin 142956) : lit0 i = down 114 i :=
  (lit0t_eq i).trans (tree_eq _ i.isLt)

end Cert.Tables
-- ==== Proof.Table1.lean ====
/- The words of the kernel's constant `lit1`. -/
module

public import proofs.«01_k».proof.KernelIdeal
public import proofs.«01_k».proof.Proof.Digits

@[expose] public section

namespace Cert.Tables

open Cert.KernelIdeal Cert.Digits

set_option maxRecDepth 1000000 in
set_option maxHeartbeats 0 in
set_option smartUnfolding false in
/-- The printed digit tree of `lit1` is the tree of its words, by unfolding. -/
theorem lit1t_eq (i : ℕ) : lit1t i = tree 81488 (down 88) i := by with_unfolding_all exact rfl

/-- The words of `lit1`. -/
theorem lit1_eq (i : Fin 81488) : lit1 i = down 88 i :=
  (lit1t_eq i).trans (tree_eq _ i.isLt)

end Cert.Tables
-- ==== Proof.SegMath.lean ====
/- The log-softmax of a node's children, over the extended reals. The greatest score may be subtracted first or not
   (`shift`); and a node's sum over its children may be picked out of a group of columns by a one-hot table (`group`). -/
module

public import Idealize.ShloMosaic.Lib.Pointwise
public import proofs.«01_k».proof.Proof.Tree

@[expose] public section

noncomputable section

namespace Cert.SegMath

open Idealize.ShloMosaic Cert.Tree

/-- A finite sum of reals, read among the extended reals. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The exponential of a score below some real number is a real number. -/
theorem exp_real {y : EReal} {r : ℝ} (h : y ≤ r) :
    ∃ e : ℝ, 0 ≤ e ∧ Ideal.exp y = e ∧ ∀ m : ℝ, Ideal.exp (y - m) = ((e * Real.exp (-m) : ℝ) : EReal) := by
  induction y with
  | bot => exact ⟨0, le_rfl, by simp, fun m => by simp⟩
  | coe a =>
    refine ⟨Real.exp a, (Real.exp_pos a).le, by simp, fun m => ?_⟩
    rw [← EReal.coe_sub, Ideal.exp_coe, sub_eq_add_neg, Real.exp_add]
  | top => exact absurd h (by simp)

/-- Subtracting the greatest score `M` from every score changes nothing in the log-softmax. -/
theorem shift {ι : Type*} [Fintype ι] (y : ι → EReal) (M : EReal) (hle : ∀ c, y c ≤ M) (hex : ∃ c, y c = M) (c : ι) :
    y c - M - Ideal.log (∑ c', Ideal.exp (y c' - M)) = y c - Ideal.log (∑ c', Ideal.exp (y c')) := by
  obtain ⟨c₀, h₀⟩ := hex
  induction M with
  | bot =>
    have : y c = ⊥ := le_bot_iff.mp (hle c)
    simp [this, sub_eq_add_neg]
  | top =>
    have hinf : (∑ c', Ideal.exp (y c')) = ⊤ := by
      have h1 : Ideal.exp (y c₀) ≤ ∑ c', Ideal.exp (y c') :=
        Finset.single_le_sum (f := fun c' => Ideal.exp (y c')) (fun i _ => by
          induction y i with
          | bot => simp
          | coe a => simpa using (Real.exp_pos a).le
          | top => simp) (Finset.mem_univ c₀)
      rw [h₀, Ideal.exp_top] at h1
      exact top_le_iff.mp h1
    rw [hinf]
    simp [sub_eq_add_neg]
  | coe M =>
    choose e he0 he hem using fun c' => exp_real (hle c')
    have h1 : (∑ c', Ideal.exp (y c')) = ((∑ c', e c' : ℝ) : EReal) := by
      rw [← sum_coe]; exact Finset.sum_congr rfl fun c' _ => he c'
    have h2 : (∑ c', Ideal.exp (y c' - (M : EReal))) = (((∑ c', e c') * Real.exp (-M) : ℝ) : EReal) := by
      rw [Finset.sum_mul, ← sum_coe]; exact Finset.sum_congr rfl fun c' _ => hem c' M
    have hpos : 0 < ∑ c', e c' := by
      have h3 : e c₀ = Real.exp M := by
        have := he c₀
        rw [h₀, Ideal.exp_coe] at this
        exact (EReal.coe_eq_coe_iff.mp this).symm
      have h4 : e c₀ ≤ ∑ c', e c' := Finset.single_le_sum (f := e) (fun i _ => he0 i) (Finset.mem_univ c₀)
      have := Real.exp_pos M
      linarith
    have hpos' : 0 < (∑ c', e c') * Real.exp (-M) := mul_pos hpos (Real.exp_pos _)
    rw [h1, h2, Ideal.log_coe, Ideal.log_coe, if_neg hpos.not_ge, if_neg hpos'.not_ge,
      Real.log_mul hpos.ne' (Real.exp_pos _).ne', Real.log_exp]
    have hy := hle c
    generalize y c = z at hy ⊢
    induction z with
    | bot => simp [sub_eq_add_neg]
    | coe a =>
      rw [← EReal.coe_sub, ← EReal.coe_sub, ← EReal.coe_sub]
      exact congrArg _ (by ring)
    | top => exact absurd hy (by simp)

/-- The greatest of finitely many scores, as a fold: no score is above it, and one is equal to it. -/
theorem fold_max {ι : Type*} [Fintype ι] [Nonempty ι] (y : ι → EReal) :
    (∀ c, y c ≤ Finset.univ.fold max ⊥ y) ∧ ∃ c, y c = Finset.univ.fold max ⊥ y := by
  have h : Finset.univ.fold max ⊥ y = Finset.univ.sup y := rfl
  rw [h]
  refine ⟨fun c => Finset.le_sup (Finset.mem_univ c), ?_⟩
  obtain ⟨c, _, hc⟩ := Finset.exists_mem_eq_sup Finset.univ Finset.univ_nonempty y
  exact ⟨c, hc.symm⟩

/-- The logarithm of the sum of the exponentials of the scores `x` of node `n`'s children. -/
def lse (x : ℕ → EReal) (n : ℕ) : EReal :=
  Ideal.log (∑ c : Fin 20, if c.val < cnt n then Ideal.exp (x (start n + c.val)) else 0)

/-- The log-softmax at column `k` of the scores `x`. -/
def val (x : ℕ → EReal) (k : ℕ) : EReal := x k - lse x (seg k)

/-- Scores of the 10958 columns, read at any number. -/
def ext (f : Fin 10958 → EReal) (k : ℕ) : EReal := if h : k < 10958 then f ⟨k, h⟩ else 0

/-- Inside its domain the extension is the function. -/
theorem ext_eq (f : Fin 10958 → EReal) {k : ℕ} (h : k < 10958) : ext f k = f ⟨k, h⟩ := dif_pos h

/-- The result's row of the scores `f`: zero in column 0, then the log-softmax of every column of scores. -/
def out (f : Fin 10958 → EReal) (j : ℕ) : EReal := if j = 0 then 0 else val (ext f) (j - 1)

/-- An entry of a one-hot table. -/
def ind (b : Bool) : EReal := cond b 1 0

/-- The sum of `f` over a node's children, out of the sum over all columns against the node's one-hot column. -/
theorem sum_seg (f : ℕ → EReal) {w n : ℕ} (h : start n + cnt n ≤ w) :
    ∑ k : Fin w, f k.val * ind (inSeg k.val n) = ∑ c : Fin 20, if c.val < cnt n then f (start n + c.val) else 0 := by
  have hc : cnt n ≤ 20 := by unfold cnt; omega
  rw [Fin.sum_univ_eq_sum_range (fun k => f k * ind (inSeg k n)) w,
    Fin.sum_univ_eq_sum_range (fun c => if c < cnt n then f (start n + c) else 0) 20, ← Finset.sum_filter]
  have h1 : (Finset.range 20).filter (fun c => c < cnt n) = Finset.range (cnt n) := by
    ext c; simp only [Finset.mem_filter, Finset.mem_range]; omega
  have h2 : ∀ k ∈ Finset.range w, f k * ind (inSeg k n) = if k ∈ Finset.Ico (start n) (start n + cnt n) then f k else 0 := by
    intro k _
    by_cases e : inSeg k n = true
    · rw [e, if_pos (Finset.mem_Ico.mpr ((inSeg_iff k n).mp e))]
      exact mul_one _
    · rw [if_neg fun e' => e ((inSeg_iff k n).mpr (Finset.mem_Ico.mp e')), (Bool.not_eq_true _).mp e]
      exact mul_zero _
  have h3 : (Finset.range w).filter (fun k => k ∈ Finset.Ico (start n) (start n + cnt n)) = Finset.Ico (start n) (start n + cnt n) := by
    ext k; simp only [Finset.mem_filter, Finset.mem_range, Finset.mem_Ico]; omega
  rw [h1, Finset.sum_congr rfl h2, ← Finset.sum_filter, h3, Finset.sum_Ico_eq_sum_range, Nat.add_sub_cancel_left]

/-- What the two one-hot products of a group of `w` columns with `p` nodes, the `g`-th of its kind, leave at column `k`
    of the group: the logarithm of the sum over the children of `k`'s node. -/
theorem group {w p : ℕ} (g : ℕ) (hw : start p = w) (x : ℕ → EReal) (k : Fin w) :
    ∑ s : Fin p, Ideal.log (∑ k' : Fin w, Ideal.exp (x (g * 1254 + k'.val)) * ind (inSeg k'.val s.val)) * ind (inSeg k.val s.val)
      = lse x (seg (g * 1254 + k.val)) := by
  have hk := (inSeg_iff _ _).mp (inSeg_seg k.val)
  have hs : seg k.val < p := by
    by_contra hn
    have := start_mono (Nat.le_of_not_lt hn)
    have := k.isLt
    omega
  rw [Finset.sum_eq_single (⟨seg k.val, hs⟩ : Fin p) (fun s _ hne => ?_) fun h => absurd (Finset.mem_univ _) h]
  · have hb : start (seg k.val) + cnt (seg k.val) ≤ w := by
      rw [← start_succ]; exact (start_mono hs).trans hw.le
    rw [inSeg_seg, sum_seg (fun k' => Ideal.exp (x (g * 1254 + k'))) hb, seg_group, lse, start_group, cnt_group]
    simp only [Nat.add_assoc]
    exact mul_one _
  · have : inSeg k.val s.val = false := by
      by_contra h
      exact hne (Fin.ext ((inSeg_iff_seg _ _).mp ((Bool.not_eq_false _).mp h)).symm)
    rw [this]
    exact mul_zero _

end Cert.SegMath

end
-- ==== Proof.KernelBody.lean ====
/- What the kernel's body stores at an index of its block: zero in column 0, then the log-softmax of the block's scores,
   provided the four tables it is given are one-hot. -/
module

public import proofs.«01_k».proof.Proof.Gen.KernelIdeal.Skeleton
public import proofs.«01_k».proof.Proof.SegMath

@[expose] public section

noncomputable section

namespace Cert.KernelVal

open Cert.KernelIdeal Cert.KernelIdeal.Gen Idealize.ShloMosaic Cert.SegMath Cert.Tree

set_option maxHeartbeats 1000000 in
/-- The stored concatenation behind its zero column, piece by piece: `f` holds what every piece has at its place. -/
theorem cat (f : ℕ → EReal) (z : FVec Ideal S64x1 .f32) (a0 a1 a2 a3 a4 a5 a6 a7 : FVec Ideal S64x1254 .f32)
    (b : FVec Ideal S64x926 .f32) (r : Fin 64) (j : Fin 10959) (hz : ∀ k, z (ix2 r k) = f 0)
    (h0 : ∀ k, a0 (ix2 r k) = f (1 + (0 * 1254 + k.val))) (h1 : ∀ k, a1 (ix2 r k) = f (1 + (1 * 1254 + k.val)))
    (h2 : ∀ k, a2 (ix2 r k) = f (1 + (2 * 1254 + k.val))) (h3 : ∀ k, a3 (ix2 r k) = f (1 + (3 * 1254 + k.val)))
    (h4 : ∀ k, a4 (ix2 r k) = f (1 + (4 * 1254 + k.val))) (h5 : ∀ k, a5 (ix2 r k) = f (1 + (5 * 1254 + k.val)))
    (h6 : ∀ k, a6 (ix2 r k) = f (1 + (6 * 1254 + k.val))) (h7 : ∀ k, a7 (ix2 r k) = f (1 + (7 * 1254 + k.val)))
    (hb : ∀ k, b (ix2 r k) = f (1 + (8 * 1254 + k.val))) :
    concatenate S64x10959 1 [⟨S64x1, z⟩, ⟨S64x1254, a0⟩, ⟨S64x1254, a1⟩, ⟨S64x1254, a2⟩, ⟨S64x1254, a3⟩, ⟨S64x1254, a4⟩,
      ⟨S64x1254, a5⟩, ⟨S64x1254, a6⟩, ⟨S64x1254, a7⟩, ⟨S64x926, b⟩]
      concatenates_S64x1_S64x1254_S64x1254_S64x1254_S64x1254_S64x1254_S64x1254_S64x1254_S64x1254_S64x926_S64x10959_d1 (ix2 r j)
      = f j.val := by
  pointwise
  simp only [hz, h0, h1, h2, h3, h4, h5, h6, h7, hb]
  split_ifs <;> exact congrArg f (by omega)

/-- A group of 1254 columns: its scores less the two one-hot products are their log-softmax. -/
theorem grp (g : ℕ) {o : ℕ} (ho : o = g * 1254) (h : S64x10958.Slices ![0, o] S64x1254) (v0 : FVec Ideal S64x10958 .f32)
    (v2 : FVec Ideal S1254x114 .f32) (v3 : FVec Ideal S114x1254 .f32)
    (h2 : ∀ k s, v2 (ix2 k s) = ind (inSeg k.val s.val)) (h3 : ∀ s k, v3 (ix2 s k) = ind (inSeg k.val s.val))
    (r : Fin 64) (k : Fin 1254) :
    subf (extractStridedSlice S64x1254 ![0, o] v0 h) (matmul dot_S64x114_S114x1254_S64x1254_1_0_0_1_n_n none
      (log (matmul dot_S64x1254_S1254x114_S64x114_1_0_0_1_n_n none (extractStridedSlice S64x1254 ![0, o] (exp v0) h) v2
        (constant S64x114 .f32 0x00000000#32))) v3 (constant S64x1254 .f32 0x00000000#32)) (ix2 r k)
      = out (fun k => v0 (ix2 r k)) (1 + (g * 1254 + k.val)) := by
  pointwise
  subst ho
  have hb : g * 1254 + 1254 ≤ 10958 := h.2 1
  have hx : ∀ k : Fin 1254, v0 (ix2 r ⟨g * 1254 + k.val, by omega⟩) = ext (fun k => v0 (ix2 r k)) (g * 1254 + k.val) :=
    fun k => (ext_eq (fun k => v0 (ix2 r k)) (by omega)).symm
  simp only [h2, h3, hx]
  rw [group g (by rfl), out, if_neg (by omega), val, Nat.add_sub_cancel_left]

/-- The last group, of 926 columns. -/
theorem grp_last (h : S64x10958.Slices ![0, 10032] S64x926) (v0 : FVec Ideal S64x10958 .f32)
    (v2 : FVec Ideal S926x88 .f32) (v3 : FVec Ideal S88x926 .f32)
    (h2 : ∀ k s, v2 (ix2 k s) = ind (inSeg k.val s.val)) (h3 : ∀ s k, v3 (ix2 s k) = ind (inSeg k.val s.val))
    (r : Fin 64) (k : Fin 926) :
    subf (extractStridedSlice S64x926 ![0, 10032] v0 h) (matmul dot_S64x88_S88x926_S64x926_1_0_0_1_n_n none
      (log (matmul dot_S64x926_S926x88_S64x88_1_0_0_1_n_n none (extractStridedSlice S64x926 ![0, 10032] (exp v0) h) v2
        (constant S64x88 .f32 0x00000000#32))) v3 (constant S64x926 .f32 0x00000000#32)) (ix2 r k)
      = out (fun k => v0 (ix2 r k)) (1 + (8 * 1254 + k.val)) := by
  pointwise
  have hx : ∀ k : Fin 926, v0 (ix2 r ⟨10032 + k.val, by omega⟩) = ext (fun k => v0 (ix2 r k)) (8 * 1254 + k.val) :=
    fun k => (ext_eq (fun k => v0 (ix2 r k)) (by omega)).symm
  simp only [h2, h3, hx]
  rw [group 8 (by rfl), out, if_neg (by omega), val, Nat.add_sub_cancel_left]

/-- What the body stores, at an index of the block. -/
theorem stored (v0 : FVec Ideal S64x10958 .f32) (v2 : FVec Ideal S1254x114 .f32) (v3 : FVec Ideal S114x1254 .f32)
    (v53 : FVec Ideal S926x88 .f32) (v54 : FVec Ideal S88x926 .f32)
    (h2 : ∀ k s, v2 (ix2 k s) = ind (inSeg k.val s.val)) (h3 : ∀ s k, v3 (ix2 s k) = ind (inSeg k.val s.val))
    (h53 : ∀ k s, v53 (ix2 k s) = ind (inSeg k.val s.val)) (h54 : ∀ s k, v54 (ix2 s k) = ind (inSeg k.val s.val))
    (r : Fin 64) (j : Fin 10959) :
    k0_pay1 (F := Ideal) v0 (k0_pay2 v0) v2 (k0_pay3 (F := Ideal) v3) (k0_pay4 (F := Ideal)) (k0_pay5 v0 v2 v3) (k0_pay6 v0 v2 v3)
      (k0_pay7 v0 v2 v3) (k0_pay8 v0 v2 v3) (k0_pay9 v0 v2 v3) (k0_pay10 v0 v2 v3) v53 v54 (ix2 r j)
      = out (fun k => v0 (ix2 r k)) j.val :=
  have c3 : k0_pay3 (F := Ideal) v3 = v3 := shapeCast_id v3 _
  have c54 : shapeCast S88x926 v54 shapeCasts_S88x926_S88x926 = v54 := shapeCast_id v54 _
  have h3' : ∀ (s : Fin 114) (k : Fin 1254), k0_pay3 (F := Ideal) v3 (ix2 s k) = ind (inSeg k.val s.val) :=
    fun s k => (congrFun c3 (ix2 s k)).trans (h3 s k)
  have h54' : ∀ (s : Fin 88) (k : Fin 926), shapeCast S88x926 v54 shapeCasts_S88x926_S88x926 (ix2 s k) = ind (inSeg k.val s.val) :=
    fun s k => (congrFun c54 (ix2 s k)).trans (h54 s k)
  cat (out fun k => v0 (ix2 r k)) _ _ _ _ _ _ _ _ _ _ r j (fun k => Ideal.ofBits_zero_f32)
    (grp 0 rfl _ v0 v2 _ h2 h3' r) (grp 1 rfl _ v0 v2 _ h2 h3' r) (grp 2 rfl _ v0 v2 _ h2 h3' r)
    (grp 3 rfl _ v0 v2 _ h2 h3' r) (grp 4 rfl _ v0 v2 _ h2 h3' r) (grp 5 rfl _ v0 v2 _ h2 h3' r)
    (grp 6 rfl _ v0 v2 _ h2 h3' r) (grp 7 rfl _ v0 v2 _ h2 h3' r) (grp_last _ v0 v53 _ h53 h54' r)

end Cert.KernelVal

end
-- ==== Proof.KernelVal.lean ====
/- The kernel's result after its run: every row is the log-softmax of its row of scores. -/
module

public import proofs.«01_k».proof.Proof.KernelBody
public import proofs.«01_k».proof.Proof.Digits
public import proofs.«01_k».proof.Proof.Gen.KernelIdeal.Frame
public import Idealize.ShloMosaic.Lib.Pipeline.ValueKit

@[expose] public section

set_option maxRecDepth 16384

noncomputable section

namespace Cert.KernelVal

open Cert.KernelIdeal Cert.KernelIdeal.Gen Idealize.ShloMosaic Idealize.ShloMosaic.TcCoe Idealize.SL.Sem Cert.SegMath Cert.Tree Cert.Digits
open Idealize.ShloMosaic.Pipeline (Dat)

variable (m : (ℓ : Loc nD τ sig) → Buf (Elt Ideal) ℓ)

/-- The index maps: the scores and the result move one block of rows per grid point, the tables stay. -/
theorem idx : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![t.val, 0] :=
  (by decide +kernel : ∀ t : Fin grid0.N, _)

/-- The whole result of the scores `X`. -/
def res (X : FVec Ideal S2048x10958 .f32) : FVec Ideal S2048x10959 .f32 :=
  fun i => out (fun k => X (ix2 (i 0) k)) (i 1).val

/-- The array of a table's words, read as extended reals. -/
def words {a b : ℕ} (lit : Fin (⟨2, ![a, b]⟩ : Shape).numel → BitVec 32) : FVec Ideal ⟨2, ![a, b]⟩ .f32 :=
  fun i => FloatOps.ofBits (F := Ideal) .f32 (lit ((⟨2, ![a, b]⟩ : Shape).rowMajor i))

/-- A one-hot table's array: one where the row's column of scores holds a child of the column's node, else zero. -/
theorem words_at {a b : ℕ} (lit : Fin (⟨2, ![a, b]⟩ : Shape).numel → BitVec 32) (hl : ∀ i, lit i = down b i.val) (p : Fin a) (q : Fin b) :
    words lit (ix2 p q) = ind (inSeg p.val q.val) := by
  have h1 : Nat.div (p.val * b + q.val) b = p.val := by
    show (p.val * b + q.val) / b = _
    rw [Nat.add_comm, Nat.add_mul_div_right _ _ (Nat.zero_lt_of_lt q.isLt), Nat.div_eq_of_lt q.isLt, Nat.zero_add]
  have h2 : Nat.mod (p.val * b + q.val) b = q.val := by
    show (p.val * b + q.val) % b = _
    rw [Nat.add_comm, Nat.add_mul_mod_self_right, Nat.mod_eq_of_lt q.isLt]
  have h3 : ((⟨2, ![a, b]⟩ : Shape).rowMajor (ix2 p q)).val = p.val * b + q.val := Shape.rowMajor_val_two _
  unfold words
  rw [hl, h3, down, h1, h2]
  cases inSeg p.val q.val
  · exact Ideal.ofBits_zero_f32
  · exact Ideal.ofBits_one_f32

/-- The run finds the words of `lit0` in `main_cst`. -/
theorem V_cst (c : Dev nD) : V m c main_cst = words (a := 1254) (b := 114) lit0 := by
  unfold_abbrev_sides
  after_results
  rfl

/-- The run finds their transpose in `main_v0`. -/
theorem V_v0 (c : Dev nD) (s : Fin 114) (k : Fin 1254) : V m c main_v0 (ix2 s k) = words (a := 1254) (b := 114) lit0 (ix2 k s) := by
  have h : V m c main_v0 = transpose S114x1254 [1, 0] (words (a := 1254) (b := 114) lit0) transposes_S1254x114_S114x1254_1_0 := by
    unfold_abbrev_sides
    after_results
    rfl
  rw [h]
  pointwise

/-- Window 1's block is its whole table. -/
theorem table1 (hl : ∀ i, lit0 i = down 114 i) (c : Dev nD) (t : Fin cfg0.N) (k : Fin 1254) (s : Fin 114) :
    iblk m c 1 t (ix2 k s) = ind (inSeg k.val s.val) := by
  have e : (win0_1.blk t).view.emb (ix2 k s) = ix2 k s := by blk_ext [idx t]
  have h : iblk m c 1 t (ix2 k s) = V m c main_cst ((win0_1.blk t).view.emb (ix2 k s)) := rfl
  rw [h, V_cst, e]
  exact words_at (a := 1254) (b := 114) lit0 hl k s

/-- Window 2's block is its whole table, transposed. -/
theorem table2 (hl : ∀ i, lit0 i = down 114 i) (c : Dev nD) (t : Fin cfg0.N) (s : Fin 114) (k : Fin 1254) :
    iblk m c 2 t (ix2 s k) = ind (inSeg k.val s.val) := by
  have e : (win0_2.blk t).view.emb (ix2 s k) = ix2 s k := by blk_ext [idx t]
  have h : iblk m c 2 t (ix2 s k) = V m c main_v0 ((win0_2.blk t).view.emb (ix2 s k)) := rfl
  rw [h, e, V_v0]
  exact words_at (a := 1254) (b := 114) lit0 hl k s

/-- The run finds the words of `lit1` in `main_cst_0`. -/
theorem V_cst_0 (c : Dev nD) : V m c main_cst_0 = words (a := 926) (b := 88) lit1 := by
  unfold_abbrev_sides
  after_results
  rfl

/-- The run finds their transpose in `main_v1`. -/
theorem V_v1 (c : Dev nD) (s : Fin 88) (k : Fin 926) : V m c main_v1 (ix2 s k) = words (a := 926) (b := 88) lit1 (ix2 k s) := by
  have h : V m c main_v1 = transpose S88x926 [1, 0] (words (a := 926) (b := 88) lit1) transposes_S926x88_S88x926_1_0 := by
    unfold_abbrev_sides
    after_results
    rfl
  rw [h]
  pointwise

/-- Window 3's block is its whole table. -/
theorem table3 (hl : ∀ i, lit1 i = down 88 i) (c : Dev nD) (t : Fin cfg0.N) (k : Fin 926) (s : Fin 88) :
    iblk m c 3 t (ix2 k s) = ind (inSeg k.val s.val) := by
  have e : (win0_3.blk t).view.emb (ix2 k s) = ix2 k s := by blk_ext [idx t]
  have h : iblk m c 3 t (ix2 k s) = V m c main_cst_0 ((win0_3.blk t).view.emb (ix2 k s)) := rfl
  rw [h, V_cst_0, e]
  exact words_at (a := 926) (b := 88) lit1 hl k s

/-- Window 4's block is its whole table, transposed. -/
theorem table4 (hl : ∀ i, lit1 i = down 88 i) (c : Dev nD) (t : Fin cfg0.N) (s : Fin 88) (k : Fin 926) :
    iblk m c 4 t (ix2 s k) = ind (inSeg k.val s.val) := by
  have e : (win0_4.blk t).view.emb (ix2 s k) = ix2 s k := by blk_ext [idx t]
  have h : iblk m c 4 t (ix2 s k) = V m c main_v1 ((win0_4.blk t).view.emb (ix2 s k)) := rfl
  rw [h, e, V_v1]
  exact words_at (a := 926) (b := 88) lit1 hl k s

/-- The result array after the run. -/
theorem final (hl0 : ∀ i, lit0 i = down 114 i) (hl1 : ∀ i, lit1 i = down 88 i) (c : Dev nD) :
    (dats m 0 c).arrAt 5 (cfgs 0).N = res (m ((c : Thread nD τ).loc main_arg0)) := by
  refine (dats m 0 c).arrAt_eq_of_covers 5 _ (by decide +kernel) fun t _ y => ?_
  blk_simp
  rw [after0_5]
  frame_out
  idx_vars y
  refine (stored (iblk m c 0 t) _ _ _ _ (table1 m hl0 c t) (table2 m hl0 c t) (table3 m hl1 c t) (table4 m hl1 c t) _ _).trans ?_
  have e1 : (((cfg0.win 5).blk t).view.emb (ix2 y0 y1) 1).val = y1.val := by
    blk_simp [idx t]
  have e0 : ∀ k : Fin 10958, iblk m c 0 t (ix2 y0 k)
      = m ((c : Thread nD τ).loc main_arg0) (ix2 (((cfg0.win 5).blk t).view.emb (ix2 y0 y1) 0) k) := by
    intro k
    blk_ext [iblk, V, idx t]
  have e2 : (fun k : Fin 10958 => iblk m c 0 t (ix2 y0 k))
      = fun k => m ((c : Thread nD τ).loc main_arg0) (ix2 (((cfg0.win 5).blk t).view.emb (ix2 y0 y1) 0) k) := funext e0
  exact congrArg₂ out e2 e1.symm

end Cert.KernelVal

end
-- ==== Proof.PreTable.lean ====
/- The table of places the precondition compares with. -/
module

public import proofs.«01_k».proof.Pre_tree
public import proofs.«01_k».proof.Proof.Tree

@[expose] public section

noncomputable section

namespace Cert.PreTree

open Cert.Pre_tree Idealize.ShloMosaic Cert.Tree

/-- The place of column `k`'s child among the 20 places of every node. -/
def flat (k : ℕ) : ℕ := seg k * 20 + (k - start (seg k))

/-- The words of the table from `a` on are those of `flat`, for `n` of them. -/
def agrees (a n : ℕ) : Bool := Nat.rec true (fun i b => and (Nat.beq (lit0t (Nat.add a i)).toNat (flat (Nat.add a i))) b) n

/-- Where the two were found to agree, they do. -/
theorem agrees_at {a n : ℕ} (h : agrees a n = true) {k : ℕ} (h1 : a ≤ k) (h2 : k < a + n) : (lit0t k).toNat = flat k := by
  induction n with
  | zero => omega
  | succ n ih =>
    have h' : and (Nat.beq (lit0t (Nat.add a n)).toNat (flat (Nat.add a n))) (agrees a n) = true := h
    rw [Bool.and_eq_true] at h'
    by_cases e : k = a + n
    · subst e; exact Nat.eq_of_beq_eq_true h'.1
    · exact ih h'.2 (by omega)

/-- All 10958 words of the table, evaluated. -/
theorem table : agrees 0 10958 = true := by decide +kernel

/-- The table's words. -/
theorem lit0_eq (i : Fin 10958) : (lit0 i).toNat = flat i.val :=
  agrees_at table (Nat.zero_le _) (by omega)

end Cert.PreTree

end
-- ==== Proof.PreTree.lean ====
/- What the precondition says: the two index arrays are the tree's. -/
module

public import proofs.«01_k».proof.Proof.Gen.Pre_tree
public import proofs.«01_k».proof.Proof.PreTable
public import Idealize.ShloMosaic.Lib.Pointwise
public import Idealize.ShloMosaic.Lib.ReduceAll
public import Idealize.ShloMosaic.PureOps.Ideal

@[expose] public section

noncomputable section

namespace Cert.PreTree

open Cert.Pre_tree Cert.Pre_tree.Gen Idealize.ShloMosaic Cert.Tree

/-- Two words found equal are equal. -/
theorem eq_of_cmpi {x y : BitVec 32} (h : IntOp.cmpi .eq x y = 1#1) : x = y := by
  by_contra hne
  have h' : BitVec.ofBool (x == y) = 1#1 := h
  rw [beq_false_of_ne hne] at h'
  exact absurd h' (by decide)

/-- Under the precondition the first index array holds the places of the children, the second counts from 1 on. -/
theorem read (x : FVec Ideal S2048x10958 .f32) (a b : IVec S10958 32) (h : fn (F := Ideal) x a b = fun _ => 1#1) (k : Fin 10958) :
    (a (ix1 k)).toNat = flat k.val ∧ (b (ix1 k)).toNat = k.val + 1 := by
  have h0 := congrFun h (fun a => a.elim0)
  simp only [fn] at h0
  obtain ⟨h1, h2⟩ := IntOp.andi_eq_one.1 h0
  have e1 := Host.reduce_andi_all _ _ _ _ _ h1 (ix1 k)
  have e2 := Host.reduce_andi_all _ _ _ _ _ h2 (ix1 k)
  pointwise at e1 e2
  have w1 := eq_of_cmpi e1
  have w2 := eq_of_cmpi e2
  have hk : (S10958.rowMajor (ix1 k)).val = k.val := Shape.rowMajor_val_one _
  rw [w1, w2]
  refine ⟨(lit0_eq _).trans (congrArg flat hk), ?_⟩
  show (1#32 + BitVec.ofNat 32 k.val).toNat = _
  rw [BitVec.toNat_add, BitVec.toNat_ofNat, BitVec.toNat_ofNat]
  omega

end Cert.PreTree

end
-- ==== Proof.Columns.lean ====
module

public import proofs.«01_k».proof.Proof.Gen.ReferenceIdeal
public import proofs.«01_k».proof.Proof.PreTree
public import Idealize.ShloMosaic.Lib.Routing.OpsPair
public import Idealize.ShloMosaic.Lib.Routing.OpsSet
public import Idealize.ShloMosaic.Lib.ReduceAll
public import Idealize.ShloMosaic.Lib.Pointwise

@[expose] public section

namespace Cert.Columns

open Cert.ReferenceIdeal Idealize.ShloMosaic

/-- The shape of a table of `R` rows and `C` columns. -/
abbrev T (R C : Nat) : Shape := ⟨2, ![R, C]⟩

/-- A scatter of columns writes update column `k` at row `r` into the same row. -/
theorem row {R C n : Nat} (d : ScatterDims (T R C) (T n 1) (T R n)) (h1 : d.updateWindowDims = [0]) (h2 : d.insertedWindowDims = [1])
    (h3 : d.scatterDimsToOperandDims = [1]) (h4 : d.indexVectorDim = 1) (I : IVec (T n 1) 32) (r : Fin R) (k : Fin n) :
    d.start (ix2 r k) I 0 + (d.window (ix2 r k) 0 : Int) = r.val := by
  obtain ⟨a, b, c, e, wf⟩ := d
  simp only at h1 h2 h3 h4
  subst h1 h2 h3 h4
  show (0 : Int) + (r.val : Int) = _
  omega

/-- … and into the column that the index array names at `k`. -/
theorem col {R C n : Nat} (d : ScatterDims (T R C) (T n 1) (T R n)) (h1 : d.updateWindowDims = [0]) (h2 : d.insertedWindowDims = [1])
    (h3 : d.scatterDimsToOperandDims = [1]) (h4 : d.indexVectorDim = 1) (I : IVec (T n 1) 32) (r : Fin R) (k : Fin n) :
    d.start (ix2 r k) I 1 + (d.window (ix2 r k) 1 : Int) = (I (ix2 k 0)).toInt := by
  obtain ⟨a, b, c, e, wf⟩ := d
  simp only at h1 h2 h3 h4
  subst h1 h2 h3 h4
  have e : (⟨[0], [1], [1], 1, wf⟩ : ScatterDims (T R C) (T n 1) (T R n)).siIdx (ix2 r k) ⟨0, Nat.zero_lt_one⟩ = ix2 k 0 := by
    funext b
    match b with
    | ⟨0, _⟩ => rfl
    | ⟨1, _⟩ => rfl
  show (I (ScatterDims.siIdx _ (ix2 r k) ⟨0, _⟩)).toInt + ((0 : Nat) : Int) = _
  rw [e]
  simp

/-- Where a scatter of columns places update column `k`. -/
theorem place {R C n : Nat} (d : ScatterDims (T R C) (T n 1) (T R n)) (h1 : d.updateWindowDims = [0]) (h2 : d.insertedWindowDims = [1])
    (h3 : d.scatterDimsToOperandDims = [1]) (h4 : d.indexVectorDim = 1) (I : IVec (T n 1) 32) (p : ℕ → ℕ)
    (hI : ∀ k : Fin n, (I (ix2 k 0)).toInt = p k.val) (r r' : Fin R) (k : Fin n) (c : Fin C) :
    d.resultIdx? (ix2 r' k) I = some (ix2 r c) ↔ r' = r ∧ p k.val = c.val := by
  rw [Routing.resultIdx?_eq_some]
  constructor
  · intro h
    have h0 := (row d h1 h2 h3 h4 I r' k).symm.trans (h 0)
    have h1 := ((col d h1 h2 h3 h4 I r' k).symm.trans (h 1))
    rw [hI] at h1
    exact ⟨Fin.ext (by exact_mod_cast h0), by exact_mod_cast h1⟩
  · rintro ⟨rfl, e⟩ a
    match a with
    | ⟨0, _⟩ => exact row d h1 h2 h3 h4 I r' k
    | ⟨1, _⟩ => exact (col d h1 h2 h3 h4 I r' k).trans ((hI k).trans (by exact_mod_cast e))

/-- A scatter of columns to distinct places: the column named by update `k` holds update `k`. -/
theorem hit {α : Type} {R C n : Nat} (d : ScatterDims (T R C) (T n 1) (T R n)) (h1 : d.updateWindowDims = [0]) (h2 : d.insertedWindowDims = [1])
    (h3 : d.scatterDimsToOperandDims = [1]) (h4 : d.indexVectorDim = 1) (I : IVec (T n 1) 32) (p : ℕ → ℕ)
    (hI : ∀ k : Fin n, (I (ix2 k 0)).toInt = p k.val) (inj : ∀ k k' : Fin n, p k.val = p k'.val → k = k')
    (x : (T R C).Idx → α) (u : (T R n).Idx → α) (r : Fin R) (c : Fin C) (k : Fin n) (hk : p k.val = c.val) :
    Host.scatter d (fun _ b => b) x I u (ix2 r c) = u (ix2 r k) := by
  refine Routing.scatter_set_hit d x I u (ix2 r c) _ (fun j hj => ?_) (ix2 r k) ((place d h1 h2 h3 h4 I p hI r r k c).2 ⟨rfl, hk⟩)
  rw [eq_ix2 j] at hj ⊢
  obtain ⟨e1, e2⟩ := (place d h1 h2 h3 h4 I p hI r (j 0) (j 1) c).1 hj
  exact congrArg u (congrArg₂ ix2 e1 (inj (j 1) k (e2.trans hk.symm)))

/-- A column that no update names keeps what it held. -/
theorem miss {α : Type} {R C n : Nat} (d : ScatterDims (T R C) (T n 1) (T R n)) (h1 : d.updateWindowDims = [0]) (h2 : d.insertedWindowDims = [1])
    (h3 : d.scatterDimsToOperandDims = [1]) (h4 : d.indexVectorDim = 1) (I : IVec (T n 1) 32) (p : ℕ → ℕ)
    (hI : ∀ k : Fin n, (I (ix2 k 0)).toInt = p k.val)
    (x : (T R C).Idx → α) (u : (T R n).Idx → α) (r : Fin R) (c : Fin C) (hk : ∀ k : Fin n, p k.val ≠ c.val) :
    Host.scatter d (fun _ b => b) x I u (ix2 r c) = x (ix2 r c) := by
  refine Routing.scatter_set_miss d x I u (ix2 r c) fun j hj => ?_
  rw [eq_ix2 j] at hj
  exact hk (j 1) ((place d h1 h2 h3 h4 I p hI r (j 0) (j 1) c).1 hj).2

/-- A gather of columns: result column `k` is the column that the index array names at `k`. -/
theorem take {α : Type} {R C n : Nat} (d : GatherDims (T R C) (T n 1) (T R n)) (h1 : d.offsetDims = [0]) (h2 : d.collapsedSliceDims = [1])
    (h3 : d.operandBatchingDims = []) (h4 : d.startIndicesBatchingDims = []) (h5 : d.startIndexMap = [1]) (h6 : d.indexVectorDim = 1)
    (h7 : d.sliceSizes = ![R, 1]) (I : IVec (T n 1) 32) (x : (T R C).Idx → α) (r : Fin R) (k : Fin n) (c : Fin C)
    (hc : (I (ix2 k 0)).toInt = c.val) : Host.gather d x I (ix2 r k) = x (ix2 r c) := by
  obtain ⟨a1, a2, a3, a4, a5, a6, a7, wf⟩ := d
  simp only at h1 h2 h3 h4 h5 h6 h7
  subst h1 h2 h3 h4 h5 h6 h7
  have e : (⟨[0], [1], [], [], [1], 1, ![R, 1], wf⟩ : GatherDims (T R C) (T n 1) (T R n)).siIdx (ix2 r k) ⟨0, Nat.zero_lt_one⟩ = ix2 k 0 := by
    funext b
    match b with
    | ⟨0, _⟩ => rfl
    | ⟨1, _⟩ => rfl
  refine congrArg x (funext fun a => Fin.ext ?_)
  match a with
  | ⟨0, _⟩ => show 0 + 0 + r.val = r.val; omega
  | ⟨1, _⟩ =>
    show min (I (GatherDims.siIdx _ (ix2 r k) ⟨0, _⟩)).toInt.toNat (C - 1) + 0 + 0 = c.val
    rw [e, hc]
    have := c.isLt
    omega

end Cert.Columns

end
-- ==== Proof.RefVal.lean ====
module

public import proofs.«01_k».proof.Proof.Columns
public import proofs.«01_k».proof.Proof.SegMath
public import proofs.«01_k».proof.Proof.Gen.ReferenceIdeal.Run

@[expose] public section

noncomputable section

namespace Cert.RefVal

open Cert.ReferenceIdeal Cert.ReferenceIdeal.Gen Idealize.ShloMosaic Idealize.ShloMosaic.TcCoe Cert.Tree Cert.SegMath Cert.PreTree

/-- An index array as the reference reads it: a negative entry counts from the end `n`. -/
def wrapped (n : BitVec 32) (a : IVec S10958 32) : IVec S10958x1 32 :=
  broadcastInDim S10958x1 ![0] bcast_S10958_S10958x1_0 (select (cmpi .slt a (broadcastInDim S10958 ![] bcast_S_S10958 (constantI S_ 32 0#32)))
    (addi a (broadcastInDim S10958 ![] bcast_S_S10958 (constantI S_ 32 n))) a)

/-- The scores laid out in rows of 20 per node, `−∞` in the places without a child. -/
def padded (I : IVec S10958x1 32) (x : FVec Ideal S2048x10958 .f32) : FVec Ideal S2048x1000x20 .f32 :=
  shapeCast S2048x1000x20 (Host.scatter scatter_S2048x20000_S10958x1_S2048x10958_0_1_1_1 (fun _ b => b)
    (broadcastInDim S2048x20000 ![] bcast_S_S2048x20000 (constant S_ .f32 0xFF800000#32)) I x) shapeCasts_S2048x20000_S2048x1000x20

/-- The largest score of each node. -/
def largest (Y : FVec Ideal S2048x1000x20 .f32) : FVec Ideal S2048x1000 .f32 :=
  Host.reduce FloatOps.maximumf Y (constant S_ .f32 0xFF800000#32) reducesTo_S2048x1000x20_S2048x1000_d2 h_S_

/-- A table with no entry below `−∞`. -/
def bounded (M : FVec Ideal S2048x1000 .f32) : FVec Ideal S2048x1000 .f32 :=
  maximumf (broadcastInDim S2048x1000 ![] bcast_S_S2048x1000 (constant S_ .f32 0xFF800000#32)) M

/-- The scores less the largest of their node. -/
def shifted (Y : FVec Ideal S2048x1000x20 .f32) : FVec Ideal S2048x1000x20 .f32 :=
  subf Y (broadcastInDim S2048x1000x20 ![0, 1, 2] bcast_S2048x1000x1_S2048x1000x20_0_1_2 (broadcastInDim S2048x1000x1 ![0, 1] bcast_S2048x1000_S2048x1000x1_0_1
    (bounded (largest Y))))

/-- The log-softmax along the last axis, from the shifted scores. -/
def soft (Z : FVec Ideal S2048x1000x20 .f32) : FVec Ideal S2048x1000x20 .f32 :=
  subf Z (broadcastInDim S2048x1000x20 ![0, 1, 2] bcast_S2048x1000x1_S2048x1000x20_0_1_2 (Host.log (broadcastInDim S2048x1000x1 ![0, 1] bcast_S2048x1000_S2048x1000x1_0_1
    (Host.reduceAdd (Host.exp Z) (constant S_ .f32 0x00000000#32) reducesTo_S2048x1000x20_S2048x1000_d2 h_S_))))

/-- The index is one of the wide table's columns. -/
def inRange (I : IVec S10958x1 32) : IVec S10958 1 :=
  Host.reduce IntOp.andi (andi (cmpi .sge I (broadcastInDim S10958x1 ![] bcast_S_S10958x1 (constantI S_ 32 0#32)))
    (cmpi .sle I (broadcastInDim S10958x1 ![0, 1] bcast_S1x1_S10958x1_0_1 (broadcastInDim S1x1 ![1] bcast_S1_S1x1_1 (constantI S1 32 19999#32)))))
    (constantI S_ 1 1#1) reducesTo_S10958x1_S10958_d1 h_S_

/-- The columns of the wide table that the index array names. -/
def taken (I : IVec S10958x1 32) (W : FVec Ideal S2048x1000x20 .f32) : FVec Ideal S2048x10958 .f32 :=
  select (broadcastInDim S2048x10958 ![1] bcast_S10958_S2048x10958_1 (inRange I))
    (Host.gather gather_S2048x20000_S10958x1_S2048x10958_0_1_n_n_1_1_20481 (shapeCast S2048x20000 W shapeCasts_S2048x1000x20_S2048x20000) I)
    (broadcastInDim S2048x10958 ![] bcast_S_S2048x10958 (constant S_ .f32 0x7FC00000#32))

/-- The reference's result of its three arguments. -/
def whole (x : FVec Ideal S2048x10958 .f32) (a b : IVec S10958 32) : FVec Ideal S2048x10959 .f32 :=
  Host.scatter scatter_S2048x10959_S10958x1_S2048x10958_0_1_1_1 (fun _ b => b)
    (broadcastInDim S2048x10959 ![] bcast_S_S2048x10959 (constant S_ .f32 0x00000000#32)) (wrapped 10959#32 b)
    (taken (wrapped 20000#32 a) (soft (shifted (padded (wrapped 20000#32 a) x))))

/-- The printed term is `whole`. -/
theorem printed (m : (ℓ : Loc nD τ sig) → Buf (Elt Ideal) ℓ) (c : Dev nD) : Value.res_out0 (F := Ideal) m c =
    whole (m ((c : Thread nD τ).loc main_arg0)) (m ((c : Thread nD τ).loc main_arg1)) (m ((c : Thread nD τ).loc main_arg2)) := rfl

/-- A word below `2 ^ 31` is read unchanged. -/
theorem wrapped_at (n : BitVec 32) (a : IVec S10958 32) (k : Fin 10958) (h : (a (ix1 k)).toNat < 2 ^ 31) :
    wrapped n a (ix2 k 0) = a (ix1 k) := by
  unfold wrapped
  pointwise
  exact Routing.wrap_of_lt _ _ h

/-- The printed lower bound is `−∞`. -/
theorem bits_bot : Ideal.ofBits .f32 0xFF800000#32 = ⊥ := by
  simp [Ideal.ofBits, Ideal.ieee]

/-- The largest score of a node. -/
theorem largest_at (Y : FVec Ideal S2048x1000x20 .f32) (r : Fin 2048) (s : Fin 1000) :
    largest Y (ix2 r s) = Finset.univ.fold max ⊥ (fun c : Fin 20 => Y (ix3 r s c)) := by
  unfold largest
  simp only [pointwise]
  exact congrArg (fun b => Finset.univ.fold max b fun c : Fin 20 => Y (ix3 r s c)) bits_bot

/-- Nothing lies below `−∞`. -/
theorem bounded_at (M : FVec Ideal S2048x1000 .f32) (j : S2048x1000.Idx) : bounded M j = M j := by
  show max (Ideal.ofBits .f32 0xFF800000#32) (M j) = M j
  rw [bits_bot]
  exact max_eq_right bot_le

/-- A shifted score. -/
theorem shifted_at (Y : FVec Ideal S2048x1000x20 .f32) (r : Fin 2048) (s : Fin 1000) (c : Fin 20) :
    shifted Y (ix3 r s c) = Y (ix3 r s c) - Finset.univ.fold max ⊥ (fun c : Fin 20 => Y (ix3 r s c)) := by
  rw [← largest_at, ← bounded_at (largest Y)]
  unfold shifted
  generalize bounded (largest Y) = M
  simp only [pointwise, Nat.reduceEqDiff, OfNat.ofNat_ne_one, ↓reduceDIte]

/-- A log-softmax entry. -/
theorem soft_at (Z : FVec Ideal S2048x1000x20 .f32) (r : Fin 2048) (s : Fin 1000) (c : Fin 20) :
    soft Z (ix3 r s c) = Z (ix3 r s c) - Ideal.log (∑ c' : Fin 20, Ideal.exp (Z (ix3 r s c'))) := by
  unfold soft
  pointwise

/-- A column number as a word, read signed. -/
theorem toInt_of {w : BitVec 32} {n : ℕ} (h : w.toNat = n) (hn : n < 2 ^ 31) : w.toInt = n := by
  rw [BitVec.toInt_eq_toNat_of_lt (by omega), h]

/-- The child at column `k` comes after the first child of its node, among as many as the node has. -/
theorem seg_bounds (k : ℕ) : start (seg k) ≤ k ∧ k < start (seg k) + cnt (seg k) := (inSeg_iff _ _).1 (inSeg_seg k)

/-- A node has at most 20 children. -/
theorem cnt_le (s : ℕ) : cnt s ≤ 20 := by unfold cnt; omega

/-- The row of the place of child `k` is its node. -/
theorem flat_div (k : ℕ) : flat k / 20 = seg k := by
  have := seg_bounds k
  have := cnt_le (seg k)
  unfold flat; omega

/-- The position in the row is the child's position in its node. -/
theorem flat_mod (k : ℕ) : flat k % 20 = k - start (seg k) := by
  have := seg_bounds k
  have := cnt_le (seg k)
  unfold flat; omega

/-- Distinct children have distinct places. -/
theorem flat_inj {k k' : ℕ} (h : flat k = flat k') : k = k' := by
  have e1 := flat_div k
  have e2 := flat_mod k
  rw [h, flat_div] at e1
  rw [h, flat_mod, e1] at e2
  have h1 := seg_bounds k
  have h2 := seg_bounds k'
  rw [e1] at h2
  omega

/-- The columns belong to the 1000 nodes. -/
theorem seg_lt {k : ℕ} (hk : k < 10958) : seg k < 1000 := by
  by_contra h
  have h1 := start_mono (Nat.le_of_not_lt h)
  have h2 : start 1000 = 10958 := by decide
  have := (seg_bounds k).1
  omega

/-- The places lie in the wide table. -/
theorem flat_lt {k : ℕ} (hk : k < 10958) : flat k < 20000 := by
  have := flat_div k
  have := seg_lt hk
  omega

/-- The `c`-th child of node `s`. -/
theorem child {s c : ℕ} (hs : s < 1000) (hc : c < cnt s) : start s + c < 10958 ∧ seg (start s + c) = s := by
  have h1 := start_mono (show s + 1 ≤ 1000 by omega)
  have h2 : start 1000 = 10958 := by decide
  rw [start_succ] at h1
  exact ⟨by omega, (inSeg_iff_seg _ _).1 ((inSeg_iff _ _).2 ⟨by omega, by omega⟩)⟩

/-- The padded scores: the `c`-th child of node `s`, or `−∞` when there is none. -/
theorem padded_at (I : IVec S10958x1 32) (hI : ∀ k : Fin 10958, (I (ix2 k 0)).toInt = (flat k.val : ℕ))
    (x : FVec Ideal S2048x10958 .f32) (r : Fin 2048) (s : Fin 1000) (c : Fin 20) :
    padded I x (ix3 r s c) = if c.val < cnt s.val then ext (fun k => x (ix2 r k)) (start s.val + c.val) else ⊥ := by
  unfold padded
  pointwise
  split
  · next hc =>
    obtain ⟨hk, hs⟩ := child s.isLt hc
    rw [Columns.hit _ rfl rfl rfl rfl I flat hI (fun k k' h => Fin.ext (flat_inj h)) _ _ r _ ⟨start s.val + c.val, hk⟩
      (by show flat (start s.val + c.val) = s.val * 20 + c.val; unfold flat; rw [hs]; omega)]
    unfold ext
    rw [dif_pos hk]
  · next hc =>
    rw [Columns.miss _ rfl rfl rfl rfl I flat hI _ _ r _ (fun k h => ?_)]
    · exact bits_bot
    · have h' : flat k.val = s.val * 20 + c.val := h
      have e1 := flat_div k.val
      have e2 := flat_mod k.val
      have := c.isLt
      have hs : seg k.val = s.val := by omega
      have := seg_bounds k.val
      rw [hs] at this e2
      omega

/-- Every index is in range. -/
theorem inRange_at (I : IVec S10958x1 32) (hI : ∀ k : Fin 10958, (I (ix2 k 0)).toInt = (flat k.val : ℕ)) (j : S10958.Idx) :
    inRange I j = 1#1 := by
  refine Host.reduce_andi_one _ _ _ _ _ rfl fun i => ?_
  obtain ⟨k, z, rfl⟩ : ∃ (k : Fin 10958) (z : Fin 1), i = ix2 k z := ⟨i 0, i 1, eq_ix2 i⟩
  obtain rfl : z = 0 := Subsingleton.elim z 0
  have h := hI k
  have hl := flat_lt k.isLt
  refine IntOp.andi_eq_one.2 ⟨?_, ?_⟩
  · show BitVec.ofBool (decide (_ ≤ (I (ix2 k 0)).toInt)) = 1#1
    rw [h, decide_eq_true (by show (0 : Int) ≤ _; omega)]
    rfl
  · show BitVec.ofBool (decide ((I (ix2 k 0)).toInt ≤ (19999#32).toInt)) = 1#1
    rw [h, decide_eq_true (by show _ ≤ (19999 : Int); omega)]
    rfl

/-- Each child's entry of the table of nodes. -/
theorem taken_at (I : IVec S10958x1 32) (hI : ∀ k : Fin 10958, (I (ix2 k 0)).toInt = (flat k.val : ℕ))
    (W : FVec Ideal S2048x1000x20 .f32) (r : Fin 2048) (k : Fin 10958) (s : Fin 1000) (c : Fin 20)
    (hs : seg k.val = s.val) (hc : k.val = start s.val + c.val) : taken I W (ix2 r k) = W (ix3 r s c) := by
  unfold taken
  pointwise
  rw [inRange_at I hI, Columns.take _ rfl rfl rfl rfl rfl rfl rfl I _ r k ⟨flat k.val, flat_lt k.isLt⟩ (hI k)]
  pointwise
  have e1 := flat_div k.val
  have e2 := flat_mod k.val
  refine congrArg W (congrArg₂ (ix3 r) (Fin.ext (e1.trans hs)) (Fin.ext (e2.trans ?_)))
  rw [hs]
  show k.val - start s.val = c.val
  omega

/-- A log-softmax entry of the padded scores is the kernel's closed form. -/
theorem soft_val (f : Fin 10958 → EReal) (y : Fin 20 → EReal) (s : ℕ)
    (hy : ∀ c : Fin 20, y c = if c.val < cnt s then ext f (start s + c.val) else ⊥) (c : Fin 20) (hc : c.val < cnt s) :
    y c - Finset.univ.fold max ⊥ y - Ideal.log (∑ c', Ideal.exp (y c' - Finset.univ.fold max ⊥ y))
      = ext f (start s + c.val) - lse (ext f) s := by
  rw [shift y _ (fold_max y).1 (fold_max y).2 c, hy c, if_pos hc]
  unfold lse
  refine congrArg (fun t => _ - Ideal.log t) (Finset.sum_congr rfl fun c' _ => ?_)
  rw [hy c']
  split
  · rfl
  · exact Ideal.exp_bot

/-- The reference's result under the precondition's facts. -/
theorem final (x : FVec Ideal S2048x10958 .f32) (a b : IVec S10958 32)
    (h : ∀ k : Fin 10958, (a (ix1 k)).toNat = flat k.val ∧ (b (ix1 k)).toNat = k.val + 1) :
    whole x a b = fun i => out (fun k => x (ix2 (i 0) k)) (i 1).val := by
  funext i
  obtain ⟨r, j, rfl⟩ : ∃ (r : Fin 2048) (j : Fin 10959), i = ix2 r j := ⟨i 0, i 1, eq_ix2 i⟩
  show whole x a b (ix2 r j) = out (fun k => x (ix2 r k)) j.val
  have ha : ∀ k : Fin 10958, (wrapped 20000#32 a (ix2 k 0)).toInt = (flat k.val : ℕ) := fun k => by
    have := flat_lt k.isLt
    rw [wrapped_at _ _ _ (by rw [(h k).1]; omega), toInt_of (h k).1 (by omega)]
  have hb : ∀ k : Fin 10958, (wrapped 10959#32 b (ix2 k 0)).toInt = ((fun t => t + 1) k.val : ℕ) := fun k => by
    have := k.isLt
    rw [wrapped_at _ _ _ (by rw [(h k).2]; omega), toInt_of (h k).2 (by omega)]
  unfold whole out
  split
  · next hj =>
    rw [Columns.miss _ rfl rfl rfl rfl _ (fun t => t + 1) hb _ _ r j (fun k => by show k.val + 1 ≠ j.val; omega)]
    show Ideal.ofBits .f32 0x00000000#32 = 0
    simp [Ideal.ofBits, Ideal.ieee]
  · next hj =>
    have hjl := j.isLt
    have hk : j.val - 1 < 10958 := by omega
    have hb' := seg_bounds (j.val - 1)
    have hc := cnt_le (seg (j.val - 1))
    rw [Columns.hit _ rfl rfl rfl rfl _ (fun t => t + 1) hb (fun k k' e => Fin.ext (Nat.succ_injective e)) _ _ r j ⟨j.val - 1, hk⟩
      (by show j.val - 1 + 1 = j.val; omega),
      taken_at _ ha _ r ⟨j.val - 1, hk⟩ ⟨seg (j.val - 1), seg_lt hk⟩ ⟨j.val - 1 - start (seg (j.val - 1)), by omega⟩ rfl
        (by show j.val - 1 = start (seg (j.val - 1)) + (j.val - 1 - start (seg (j.val - 1))); omega), soft_at]
    simp only [shifted_at]
    rw [soft_val (fun k => x (ix2 r k)) (fun c => padded (wrapped 20000#32 a) x (ix3 r ⟨seg (j.val - 1), seg_lt hk⟩ c)) (seg (j.val - 1))
      (fun c => padded_at _ ha x r _ c) _ (by show j.val - 1 - start (seg (j.val - 1)) < _; omega)]
    show ext _ (start (seg (j.val - 1)) + (j.val - 1 - start (seg (j.val - 1)))) - _ = _
    rw [Nat.add_sub_cancel' hb'.1]
    rfl

end Cert.RefVal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_tree
public import proofs.«01_k».proof.Proof.Table0
public import proofs.«01_k».proof.Proof.Table1
public import proofs.«01_k».proof.Proof.KernelVal
public import proofs.«01_k».proof.Proof.PreTree
public import proofs.«01_k».proof.Proof.RefVal
public import Idealize.ShloMosaic.Adequacy
public import Idealize.ShloMosaic.Init
public import Idealize.ShloMosaic.Lib.Claim
public import Idealize.ShloMosaic.Lib.StableHlo.RunHlo

@[expose] public section

noncomputable section

namespace Cert.Proof

open Idealize.ShloMosaic Idealize.SL.Sem Cert.Kernel

/-- The reference runs to an end from every memory, leaves its arguments as they were and every counter at zero. -/
theorem ref_quiet : Cert.quiescent_ReferenceIdeal := by
  intro m g _
  exact (θ_run Cert.ReferenceIdeal.defs _ _).mono
    (fun r h => ⟨fun c => (h c).2, sem_eq_zero_of_no_sems (by decide) r.2⟩) (Cert.ReferenceIdeal.Value.run (F := Ideal) m g)

/-- The kernel and the reference, run from the same arguments, hold the same result: under the precondition both are the
    log-softmax of each node's children. -/
theorem same : Cert.algebraic_KernelIdeal_ReferenceIdeal_pre_tree := by
  intro m g m' g' hpre hm
  refine ⟨fun c => Cert.KernelVal.res (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelVal.final m Cert.Tables.lit0_eq Cert.Tables.lit1_eq c),
        (h c).2⟩) (Cert.KernelIdeal.Value.run_blocks (F := Ideal) m g)
  · refine (θ_run Cert.ReferenceIdeal.defs _ _).mono (fun r h c => ⟨(h c).1.trans ?_, (h c).2⟩) (Cert.ReferenceIdeal.Value.run (F := Ideal) m' g')
    refine (Cert.RefVal.printed m' c).trans ((Cert.RefVal.final _ _ _ fun k => ?_).trans ?_)
    · rw [(hm c).2.1, (hm c).2.2]
      exact Cert.PreTree.read _ _ _ (hpre c) k
    · rw [(hm c).1]
      rfl

/-- All the claims. -/
theorem claim : Cert.Claim :=
  ⟨Cert.Kernel.Gen.facts, Cert.KernelIdeal.Gen.facts, Cert.ReferenceIdeal.Gen.facts, Cert.Pre_tree.Gen.facts,
    fun m ρ _ => Cert.Kernel.Gen.frame m ρ,
    fun m ρ _ => Cert.KernelIdeal.Gen.frame m ρ,
    fun m ρ _ => Cert.KernelIdeal.Gen.frame m ρ,
    ref_quiet, fun m ρ _ => ref_quiet m ρ trivial, trivial, same⟩

end Cert.Proof

end
